-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_maxima_nonnegative [hPre_maxima_nonnegative : Cert.Pre_maxima_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_maxima_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_maxima_nonnegative [hPre_maxima_nonnegative : Cert.Pre_maxima_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_maxima_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_ZeroKernel (m : (ℓ : Loc Cert.ZeroKernel.nD Cert.ZeroKernel.τ Cert.ZeroKernel.sig) → Buf (Elt Bits) ℓ) : Prop :=
  True

def Pre_ZeroKernelIdeal (m : (ℓ : Loc Cert.ZeroKernelIdeal.nD Cert.ZeroKernelIdeal.τ Cert.ZeroKernelIdeal.sig) → Buf (Elt Ideal) ℓ) : Prop :=
  True

def Pre_ZeroReferenceIdeal (m : (ℓ : Loc Cert.ZeroReferenceIdeal.nD Cert.ZeroReferenceIdeal.τ Cert.ZeroReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_maxima_nonnegative [hKernelIdeal : Cert.KernelIdeal.Facts] [hPre_maxima_nonnegative : Cert.Pre_maxima_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_maxima_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_maxima_nonnegative [hReferenceIdeal : Cert.ReferenceIdeal.Facts] [hPre_maxima_nonnegative : Cert.Pre_maxima_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_maxima_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_ZeroKernel [hZeroKernel : Cert.ZeroKernel.Facts] : Prop :=
  ∀ (m : (ℓ : Loc Cert.ZeroKernel.nD Cert.ZeroKernel.τ Cert.ZeroKernel.sig) → Buf (Elt Bits) ℓ) (g : Dev Cert.ZeroKernel.nD → PrngReg), Pre_ZeroKernel m →
    θ_run (Cert.ZeroKernel.defs (F := Bits)) (onTc (τ := Cert.ZeroKernel.τ) (Cert.ZeroKernel.main (F := Bits))) ⟨m, fun _ => 0, g⟩ (fun r => (∀ c : Dev Cert.ZeroKernel.nD,
      r.2.mem ((c.tc : Thread Cert.ZeroKernel.nD Cert.ZeroKernel.τ).loc Cert.ZeroKernel.main_arg0) = m ((c.tc : Thread Cert.ZeroKernel.nD Cert.ZeroKernel.τ).loc Cert.ZeroKernel.main_arg0)
      ∧ r.2.mem ((c.tc : Thread Cert.ZeroKernel.nD Cert.ZeroKernel.τ).loc Cert.ZeroKernel.main_arg1) = m ((c.tc : Thread Cert.ZeroKernel.nD Cert.ZeroKernel.τ).loc Cert.ZeroKernel.main_arg1)
      ∧ r.2.mem ((c.tc : Thread Cert.ZeroKernel.nD Cert.ZeroKernel.τ).loc Cert.ZeroKernel.main_arg2) = m ((c.tc : Thread Cert.ZeroKernel.nD Cert.ZeroKernel.τ).loc Cert.ZeroKernel.main_arg2)
      ∧ r.2.mem ((c.tc : Thread Cert.ZeroKernel.nD Cert.ZeroKernel.τ).loc Cert.ZeroKernel.main_arg3) = m ((c.tc : Thread Cert.ZeroKernel.nD Cert.ZeroKernel.τ).loc Cert.ZeroKernel.main_arg3)
      ∧ r.2.mem ((c.tc : Thread Cert.ZeroKernel.nD Cert.ZeroKernel.τ).loc Cert.ZeroKernel.main_arg4) = m ((c.tc : Thread Cert.ZeroKernel.nD Cert.ZeroKernel.τ).loc Cert.ZeroKernel.main_arg4)
      ∧ r.2.mem ((c.tc : Thread Cert.ZeroKernel.nD Cert.ZeroKernel.τ).loc Cert.ZeroKernel.main_arg5) = m ((c.tc : Thread Cert.ZeroKernel.nD Cert.ZeroKernel.τ).loc Cert.ZeroKernel.main_arg5)
      ∧ r.2.mem ((c.tc : Thread Cert.ZeroKernel.nD Cert.ZeroKernel.τ).loc Cert.ZeroKernel.main_arg6) = m ((c.tc : Thread Cert.ZeroKernel.nD Cert.ZeroKernel.τ).loc Cert.ZeroKernel.main_arg6)
      ∧ r.2.mem ((c.tc : Thread Cert.ZeroKernel.nD Cert.ZeroKernel.τ).loc Cert.ZeroKernel.main_arg7) = m ((c.tc : Thread Cert.ZeroKernel.nD Cert.ZeroKernel.τ).loc Cert.ZeroKernel.main_arg7))
      ∧ r.2.sem = fun _ => 0)

def quiescent_ZeroKernelIdeal [hZeroKernelIdeal : Cert.ZeroKernelIdeal.Facts] : Prop :=
  ∀ (m : (ℓ : Loc Cert.ZeroKernelIdeal.nD Cert.ZeroKernelIdeal.τ Cert.ZeroKernelIdeal.sig) → Buf (Elt Ideal) ℓ) (g : Dev Cert.ZeroKernelIdeal.nD → PrngReg), Pre_ZeroKernelIdeal m →
    θ_run (Cert.ZeroKernelIdeal.defs (F := Ideal)) (onTc (τ := Cert.ZeroKernelIdeal.τ) (Cert.ZeroKernelIdeal.main (F := Ideal))) ⟨m, fun _ => 0, g⟩ (fun r => (∀ c : Dev Cert.ZeroKernelIdeal.nD,
      r.2.mem ((c.tc : Thread Cert.ZeroKernelIdeal.nD Cert.ZeroKernelIdeal.τ).loc Cert.ZeroKernelIdeal.main_arg0) = m ((c.tc : Thread Cert.ZeroKernelIdeal.nD Cert.ZeroKernelIdeal.τ).loc Cert.ZeroKernelIdeal.main_arg0)
      ∧ r.2.mem ((c.tc : Thread Cert.ZeroKernelIdeal.nD Cert.ZeroKernelIdeal.τ).loc Cert.ZeroKernelIdeal.main_arg1) = m ((c.tc : Thread Cert.ZeroKernelIdeal.nD Cert.ZeroKernelIdeal.τ).loc Cert.ZeroKernelIdeal.main_arg1)
      ∧ r.2.mem ((c.tc : Thread Cert.ZeroKernelIdeal.nD Cert.ZeroKernelIdeal.τ).loc Cert.ZeroKernelIdeal.main_arg2) = m ((c.tc : Thread Cert.ZeroKernelIdeal.nD Cert.ZeroKernelIdeal.τ).loc Cert.ZeroKernelIdeal.main_arg2)
      ∧ r.2.mem ((c.tc : Thread Cert.ZeroKernelIdeal.nD Cert.ZeroKernelIdeal.τ).loc Cert.ZeroKernelIdeal.main_arg3) = m ((c.tc : Thread Cert.ZeroKernelIdeal.nD Cert.ZeroKernelIdeal.τ).loc Cert.ZeroKernelIdeal.main_arg3)
      ∧ r.2.mem ((c.tc : Thread Cert.ZeroKernelIdeal.nD Cert.ZeroKernelIdeal.τ).loc Cert.ZeroKernelIdeal.main_arg4) = m ((c.tc : Thread Cert.ZeroKernelIdeal.nD Cert.ZeroKernelIdeal.τ).loc Cert.ZeroKernelIdeal.main_arg4)
      ∧ r.2.mem ((c.tc : Thread Cert.ZeroKernelIdeal.nD Cert.ZeroKernelIdeal.τ).loc Cert.ZeroKernelIdeal.main_arg5) = m ((c.tc : Thread Cert.ZeroKernelIdeal.nD Cert.ZeroKernelIdeal.τ).loc Cert.ZeroKernelIdeal.main_arg5)
      ∧ r.2.mem ((c.tc : Thread Cert.ZeroKernelIdeal.nD Cert.ZeroKernelIdeal.τ).loc Cert.ZeroKernelIdeal.main_arg6) = m ((c.tc : Thread Cert.ZeroKernelIdeal.nD Cert.ZeroKernelIdeal.τ).loc Cert.ZeroKernelIdeal.main_arg6)
      ∧ r.2.mem ((c.tc : Thread Cert.ZeroKernelIdeal.nD Cert.ZeroKernelIdeal.τ).loc Cert.ZeroKernelIdeal.main_arg7) = m ((c.tc : Thread Cert.ZeroKernelIdeal.nD Cert.ZeroKernelIdeal.τ).loc Cert.ZeroKernelIdeal.main_arg7))
      ∧ r.2.sem = fun _ => 0)

def quiescent_ZeroReferenceIdeal [hZeroReferenceIdeal : Cert.ZeroReferenceIdeal.Facts] : Prop :=
  ∀ (m : (ℓ : Loc Cert.ZeroReferenceIdeal.nD Cert.ZeroReferenceIdeal.τ Cert.ZeroReferenceIdeal.sig) → Buf (Elt Ideal) ℓ) (g : Dev Cert.ZeroReferenceIdeal.nD → PrngReg), Pre_ZeroReferenceIdeal m →
    θ_run (Cert.ZeroReferenceIdeal.defs (F := Ideal)) (onTc (τ := Cert.ZeroReferenceIdeal.τ) (Cert.ZeroReferenceIdeal.main (F := Ideal))) ⟨m, fun _ => 0, g⟩ (fun r => (∀ c : Dev Cert.ZeroReferenceIdeal.nD,
      r.2.mem ((c.tc : Thread Cert.ZeroReferenceIdeal.nD Cert.ZeroReferenceIdeal.τ).loc Cert.ZeroReferenceIdeal.main_arg0) = m ((c.tc : Thread Cert.ZeroReferenceIdeal.nD Cert.ZeroReferenceIdeal.τ).loc Cert.ZeroReferenceIdeal.main_arg0)
      ∧ r.2.mem ((c.tc : Thread Cert.ZeroReferenceIdeal.nD Cert.ZeroReferenceIdeal.τ).loc Cert.ZeroReferenceIdeal.main_arg1) = m ((c.tc : Thread Cert.ZeroReferenceIdeal.nD Cert.ZeroReferenceIdeal.τ).loc Cert.ZeroReferenceIdeal.main_arg1)
      ∧ r.2.mem ((c.tc : Thread Cert.ZeroReferenceIdeal.nD Cert.ZeroReferenceIdeal.τ).loc Cert.ZeroReferenceIdeal.main_arg2) = m ((c.tc : Thread Cert.ZeroReferenceIdeal.nD Cert.ZeroReferenceIdeal.τ).loc Cert.ZeroReferenceIdeal.main_arg2)
      ∧ r.2.mem ((c.tc : Thread Cert.ZeroReferenceIdeal.nD Cert.ZeroReferenceIdeal.τ).loc Cert.ZeroReferenceIdeal.main_arg3) = m ((c.tc : Thread Cert.ZeroReferenceIdeal.nD Cert.ZeroReferenceIdeal.τ).loc Cert.ZeroReferenceIdeal.main_arg3)
      ∧ r.2.mem ((c.tc : Thread Cert.ZeroReferenceIdeal.nD Cert.ZeroReferenceIdeal.τ).loc Cert.ZeroReferenceIdeal.main_arg4) = m ((c.tc : Thread Cert.ZeroReferenceIdeal.nD Cert.ZeroReferenceIdeal.τ).loc Cert.ZeroReferenceIdeal.main_arg4)
      ∧ r.2.mem ((c.tc : Thread Cert.ZeroReferenceIdeal.nD Cert.ZeroReferenceIdeal.τ).loc Cert.ZeroReferenceIdeal.main_arg5) = m ((c.tc : Thread Cert.ZeroReferenceIdeal.nD Cert.ZeroReferenceIdeal.τ).loc Cert.ZeroReferenceIdeal.main_arg5)
      ∧ r.2.mem ((c.tc : Thread Cert.ZeroReferenceIdeal.nD Cert.ZeroReferenceIdeal.τ).loc Cert.ZeroReferenceIdeal.main_arg6) = m ((c.tc : Thread Cert.ZeroReferenceIdeal.nD Cert.ZeroReferenceIdeal.τ).loc Cert.ZeroReferenceIdeal.main_arg6)
      ∧ r.2.mem ((c.tc : Thread Cert.ZeroReferenceIdeal.nD Cert.ZeroReferenceIdeal.τ).loc Cert.ZeroReferenceIdeal.main_arg7) = m ((c.tc : Thread Cert.ZeroReferenceIdeal.nD Cert.ZeroReferenceIdeal.τ).loc Cert.ZeroReferenceIdeal.main_arg7))
      ∧ r.2.sem = fun _ => 0)

def preserves_Kernel_KernelIdeal : Prop :=
  IdealRules.named_const.Statement Cert.KernelIdeal.κ "floor" .f32 0xC2DC0000#32 ⊥

def algebraic_KernelIdeal_ReferenceIdeal_pre_maxima_nonnegative [hKernelIdeal : Cert.KernelIdeal.Facts] [hReferenceIdeal : Cert.ReferenceIdeal.Facts] [hPre_maxima_nonnegative : Cert.Pre_maxima_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_maxima_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v26) = v0 c
          ∧ r.2.mem ((c.tc : Thread Cert.OutReferenceIdeal.nD Cert.OutReferenceIdeal.τ).loc Cert.OutReferenceIdeal.main_v29) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v7_0)) (v1 : (c : Dev Cert.InKernelIdeal.nD) → Buf (Elt Ideal) ((c.tc : Thread Cert.InKernelIdeal.nD Cert.InKernelIdeal.τ).loc Cert.InKernelIdeal.main_v7_1)) (v2 : (c : Dev Cert.InKernelIdeal.nD) → Buf (Elt Ideal) ((c.tc : Thread Cert.InKernelIdeal.nD Cert.InKernelIdeal.τ).loc Cert.InKernelIdeal.main_v7_2)) (v3 : (c : Dev Cert.InKernelIdeal.nD) → Buf (Elt Ideal) ((c.tc : Thread Cert.InKernelIdeal.nD Cert.InKernelIdeal.τ).loc Cert.InKernelIdeal.main_v7_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v7_0) = v0 c
          ∧ r.2.mem ((c.tc : Thread Cert.InKernelIdeal.nD Cert.InKernelIdeal.τ).loc Cert.InKernelIdeal.main_v7_1) = v1 c
          ∧ r.2.mem ((c.tc : Thread Cert.InKernelIdeal.nD Cert.InKernelIdeal.τ).loc Cert.InKernelIdeal.main_v7_2) = v2 c
          ∧ r.2.mem ((c.tc : Thread Cert.InKernelIdeal.nD Cert.InKernelIdeal.τ).loc Cert.InKernelIdeal.main_v7_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v33) = v0 c
          ∧ r.2.mem ((c.tc : Thread Cert.InReferenceIdeal.nD Cert.InReferenceIdeal.τ).loc Cert.InReferenceIdeal.main_v35) = v1 c
          ∧ r.2.mem ((c.tc : Thread Cert.InReferenceIdeal.nD Cert.InReferenceIdeal.τ).loc Cert.InReferenceIdeal.main_v36) = v2 c
          ∧ r.2.mem ((c.tc : Thread Cert.InReferenceIdeal.nD Cert.InReferenceIdeal.τ).loc Cert.InReferenceIdeal.main_v32) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_ZeroKernel_ZeroKernelIdeal : Prop :=
  True

def algebraic_ZeroKernelIdeal_ZeroReferenceIdeal [hZeroKernelIdeal : Cert.ZeroKernelIdeal.Facts] [hZeroReferenceIdeal : Cert.ZeroReferenceIdeal.Facts] : Prop :=
  ∀ (m : (ℓ : Loc Cert.ZeroKernelIdeal.nD Cert.ZeroKernelIdeal.τ Cert.ZeroKernelIdeal.sig) → Buf (Elt Ideal) ℓ) (g : Dev Cert.ZeroKernelIdeal.nD → PrngReg)
    (m' : (ℓ : Loc Cert.ZeroReferenceIdeal.nD Cert.ZeroReferenceIdeal.τ Cert.ZeroReferenceIdeal.sig) → Buf (Elt Ideal) ℓ) (g' : Dev Cert.ZeroReferenceIdeal.nD → PrngReg), Pre_ZeroKernelIdeal m →
    (∀ c : Dev Cert.ZeroKernelIdeal.nD,
      m' ((c.tc : Thread Cert.ZeroReferenceIdeal.nD Cert.ZeroReferenceIdeal.τ).loc Cert.ZeroReferenceIdeal.main_arg0) = m ((c.tc : Thread Cert.ZeroKernelIdeal.nD Cert.ZeroKernelIdeal.τ).loc Cert.ZeroKernelIdeal.main_arg0)
      ∧ m' ((c.tc : Thread Cert.ZeroReferenceIdeal.nD Cert.ZeroReferenceIdeal.τ).loc Cert.ZeroReferenceIdeal.main_arg1) = m ((c.tc : Thread Cert.ZeroKernelIdeal.nD Cert.ZeroKernelIdeal.τ).loc Cert.ZeroKernelIdeal.main_arg1)
      ∧ m' ((c.tc : Thread Cert.ZeroReferenceIdeal.nD Cert.ZeroReferenceIdeal.τ).loc Cert.ZeroReferenceIdeal.main_arg2) = m ((c.tc : Thread Cert.ZeroKernelIdeal.nD Cert.ZeroKernelIdeal.τ).loc Cert.ZeroKernelIdeal.main_arg2)
      ∧ m' ((c.tc : Thread Cert.ZeroReferenceIdeal.nD Cert.ZeroReferenceIdeal.τ).loc Cert.ZeroReferenceIdeal.main_arg3) = m ((c.tc : Thread Cert.ZeroKernelIdeal.nD Cert.ZeroKernelIdeal.τ).loc Cert.ZeroKernelIdeal.main_arg3)
      ∧ m' ((c.tc : Thread Cert.ZeroReferenceIdeal.nD Cert.ZeroReferenceIdeal.τ).loc Cert.ZeroReferenceIdeal.main_arg4) = m ((c.tc : Thread Cert.ZeroKernelIdeal.nD Cert.ZeroKernelIdeal.τ).loc Cert.ZeroKernelIdeal.main_arg4)
      ∧ m' ((c.tc : Thread Cert.ZeroReferenceIdeal.nD Cert.ZeroReferenceIdeal.τ).loc Cert.ZeroReferenceIdeal.main_arg5) = m ((c.tc : Thread Cert.ZeroKernelIdeal.nD Cert.ZeroKernelIdeal.τ).loc Cert.ZeroKernelIdeal.main_arg5)
      ∧ m' ((c.tc : Thread Cert.ZeroReferenceIdeal.nD Cert.ZeroReferenceIdeal.τ).loc Cert.ZeroReferenceIdeal.main_arg6) = m ((c.tc : Thread Cert.ZeroKernelIdeal.nD Cert.ZeroKernelIdeal.τ).loc Cert.ZeroKernelIdeal.main_arg6)
      ∧ m' ((c.tc : Thread Cert.ZeroReferenceIdeal.nD Cert.ZeroReferenceIdeal.τ).loc Cert.ZeroReferenceIdeal.main_arg7) = m ((c.tc : Thread Cert.ZeroKernelIdeal.nD Cert.ZeroKernelIdeal.τ).loc Cert.ZeroKernelIdeal.main_arg7)) →
    ∃ (v0 : (c : Dev Cert.ZeroKernelIdeal.nD) → Buf (Elt Ideal) ((c.tc : Thread Cert.ZeroKernelIdeal.nD Cert.ZeroKernelIdeal.τ).loc Cert.ZeroKernelIdeal.main_v2_0)) (v1 : (c : Dev Cert.ZeroKernelIdeal.nD) → Buf (Elt Ideal) ((c.tc : Thread Cert.ZeroKernelIdeal.nD Cert.ZeroKernelIdeal.τ).loc Cert.ZeroKernelIdeal.main_v2_1)),
      θ_run (Cert.ZeroKernelIdeal.defs (F := Ideal)) (onTc (τ := Cert.ZeroKernelIdeal.τ) (Cert.ZeroKernelIdeal.main (F := Ideal))) ⟨m, fun _ => 0, g⟩ (fun r => ∀ c : Dev Cert.ZeroKernelIdeal.nD,
          r.2.mem ((c.tc : Thread Cert.ZeroKernelIdeal.nD Cert.ZeroKernelIdeal.τ).loc Cert.ZeroKernelIdeal.main_v2_0) = v0 c
          ∧ r.2.mem ((c.tc : Thread Cert.ZeroKernelIdeal.nD Cert.ZeroKernelIdeal.τ).loc Cert.ZeroKernelIdeal.main_v2_1) = v1 c
          ∧ r.2.mem ((c.tc : Thread Cert.ZeroKernelIdeal.nD Cert.ZeroKernelIdeal.τ).loc Cert.ZeroKernelIdeal.main_arg0) = m ((c.tc : Thread Cert.ZeroKernelIdeal.nD Cert.ZeroKernelIdeal.τ).loc Cert.ZeroKernelIdeal.main_arg0)
          ∧ r.2.mem ((c.tc : Thread Cert.ZeroKernelIdeal.nD Cert.ZeroKernelIdeal.τ).loc Cert.ZeroKernelIdeal.main_arg1) = m ((c.tc : Thread Cert.ZeroKernelIdeal.nD Cert.ZeroKernelIdeal.τ).loc Cert.ZeroKernelIdeal.main_arg1)
          ∧ r.2.mem ((c.tc : Thread Cert.ZeroKernelIdeal.nD Cert.ZeroKernelIdeal.τ).loc Cert.ZeroKernelIdeal.main_arg2) = m ((c.tc : Thread Cert.ZeroKernelIdeal.nD Cert.ZeroKernelIdeal.τ).loc Cert.ZeroKernelIdeal.main_arg2)
          ∧ r.2.mem ((c.tc : Thread Cert.ZeroKernelIdeal.nD Cert.ZeroKernelIdeal.τ).loc Cert.ZeroKernelIdeal.main_arg3) = m ((c.tc : Thread Cert.ZeroKernelIdeal.nD Cert.ZeroKernelIdeal.τ).loc Cert.ZeroKernelIdeal.main_arg3)
          ∧ r.2.mem ((c.tc : Thread Cert.ZeroKernelIdeal.nD Cert.ZeroKernelIdeal.τ).loc Cert.ZeroKernelIdeal.main_arg4) = m ((c.tc : Thread Cert.ZeroKernelIdeal.nD Cert.ZeroKernelIdeal.τ).loc Cert.ZeroKernelIdeal.main_arg4)
          ∧ r.2.mem ((c.tc : Thread Cert.ZeroKernelIdeal.nD Cert.ZeroKernelIdeal.τ).loc Cert.ZeroKernelIdeal.main_arg5) = m ((c.tc : Thread Cert.ZeroKernelIdeal.nD Cert.ZeroKernelIdeal.τ).loc Cert.ZeroKernelIdeal.main_arg5)
          ∧ r.2.mem ((c.tc : Thread Cert.ZeroKernelIdeal.nD Cert.ZeroKernelIdeal.τ).loc Cert.ZeroKernelIdeal.main_arg6) = m ((c.tc : Thread Cert.ZeroKernelIdeal.nD Cert.ZeroKernelIdeal.τ).loc Cert.ZeroKernelIdeal.main_arg6)
          ∧ r.2.mem ((c.tc : Thread Cert.ZeroKernelIdeal.nD Cert.ZeroKernelIdeal.τ).loc Cert.ZeroKernelIdeal.main_arg7) = m ((c.tc : Thread Cert.ZeroKernelIdeal.nD Cert.ZeroKernelIdeal.τ).loc Cert.ZeroKernelIdeal.main_arg7))
      ∧ θ_run (Cert.ZeroReferenceIdeal.defs (F := Ideal)) (onTc (τ := Cert.ZeroReferenceIdeal.τ) (Cert.ZeroReferenceIdeal.main (F := Ideal))) ⟨m', fun _ => 0, g'⟩ (fun r => ∀ c : Dev Cert.ZeroReferenceIdeal.nD,
          r.2.mem ((c.tc : Thread Cert.ZeroReferenceIdeal.nD Cert.ZeroReferenceIdeal.τ).loc Cert.ZeroReferenceIdeal.main_v29) = v0 c
          ∧ r.2.mem ((c.tc : Thread Cert.ZeroReferenceIdeal.nD Cert.ZeroReferenceIdeal.τ).loc Cert.ZeroReferenceIdeal.main_v32) = v1 c
          ∧ r.2.mem ((c.tc : Thread Cert.ZeroReferenceIdeal.nD Cert.ZeroReferenceIdeal.τ).loc Cert.ZeroReferenceIdeal.main_arg0) = m' ((c.tc : Thread Cert.ZeroReferenceIdeal.nD Cert.ZeroReferenceIdeal.τ).loc Cert.ZeroReferenceIdeal.main_arg0)
          ∧ r.2.mem ((c.tc : Thread Cert.ZeroReferenceIdeal.nD Cert.ZeroReferenceIdeal.τ).loc Cert.ZeroReferenceIdeal.main_arg1) = m' ((c.tc : Thread Cert.ZeroReferenceIdeal.nD Cert.ZeroReferenceIdeal.τ).loc Cert.ZeroReferenceIdeal.main_arg1)
          ∧ r.2.mem ((c.tc : Thread Cert.ZeroReferenceIdeal.nD Cert.ZeroReferenceIdeal.τ).loc Cert.ZeroReferenceIdeal.main_arg2) = m' ((c.tc : Thread Cert.ZeroReferenceIdeal.nD Cert.ZeroReferenceIdeal.τ).loc Cert.ZeroReferenceIdeal.main_arg2)
          ∧ r.2.mem ((c.tc : Thread Cert.ZeroReferenceIdeal.nD Cert.ZeroReferenceIdeal.τ).loc Cert.ZeroReferenceIdeal.main_arg3) = m' ((c.tc : Thread Cert.ZeroReferenceIdeal.nD Cert.ZeroReferenceIdeal.τ).loc Cert.ZeroReferenceIdeal.main_arg3)
          ∧ r.2.mem ((c.tc : Thread Cert.ZeroReferenceIdeal.nD Cert.ZeroReferenceIdeal.τ).loc Cert.ZeroReferenceIdeal.main_arg4) = m' ((c.tc : Thread Cert.ZeroReferenceIdeal.nD Cert.ZeroReferenceIdeal.τ).loc Cert.ZeroReferenceIdeal.main_arg4)
          ∧ r.2.mem ((c.tc : Thread Cert.ZeroReferenceIdeal.nD Cert.ZeroReferenceIdeal.τ).loc Cert.ZeroReferenceIdeal.main_arg5) = m' ((c.tc : Thread Cert.ZeroReferenceIdeal.nD Cert.ZeroReferenceIdeal.τ).loc Cert.ZeroReferenceIdeal.main_arg5)
          ∧ r.2.mem ((c.tc : Thread Cert.ZeroReferenceIdeal.nD Cert.ZeroReferenceIdeal.τ).loc Cert.ZeroReferenceIdeal.main_arg6) = m' ((c.tc : Thread Cert.ZeroReferenceIdeal.nD Cert.ZeroReferenceIdeal.τ).loc Cert.ZeroReferenceIdeal.main_arg6)
          ∧ r.2.mem ((c.tc : Thread Cert.ZeroReferenceIdeal.nD Cert.ZeroReferenceIdeal.τ).loc Cert.ZeroReferenceIdeal.main_arg7) = m' ((c.tc : Thread Cert.ZeroReferenceIdeal.nD Cert.ZeroReferenceIdeal.τ).loc Cert.ZeroReferenceIdeal.main_arg7))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hZeroKernel : Cert.ZeroKernel.Facts) (hZeroKernelIdeal : Cert.ZeroKernelIdeal.Facts) (hZeroReferenceIdeal : Cert.ZeroReferenceIdeal.Facts) (hPre_maxima_nonnegative : Cert.Pre_maxima_nonnegative.Facts),
    quiescent_Kernel (hKernel := hKernel)
    ∧ quiescent_KernelIdeal (hKernelIdeal := hKernelIdeal)
    ∧ quiescent_KernelIdeal_pre_maxima_nonnegative (hKernelIdeal := hKernelIdeal) (hPre_maxima_nonnegative := hPre_maxima_nonnegative)
    ∧ quiescent_ReferenceIdeal (hReferenceIdeal := hReferenceIdeal)
    ∧ quiescent_ReferenceIdeal_pre_maxima_nonnegative (hReferenceIdeal := hReferenceIdeal) (hPre_maxima_nonnegative := hPre_maxima_nonnegative)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_ZeroKernel (hZeroKernel := hZeroKernel)
    ∧ quiescent_ZeroKernelIdeal (hZeroKernelIdeal := hZeroKernelIdeal)
    ∧ quiescent_ZeroReferenceIdeal (hZeroReferenceIdeal := hZeroReferenceIdeal)
    ∧ preserves_Kernel_KernelIdeal
    ∧ algebraic_KernelIdeal_ReferenceIdeal_pre_maxima_nonnegative (hKernelIdeal := hKernelIdeal) (hReferenceIdeal := hReferenceIdeal) (hPre_maxima_nonnegative := hPre_maxima_nonnegative)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_ZeroKernel_ZeroKernelIdeal
    ∧ algebraic_ZeroKernelIdeal_ZeroReferenceIdeal (hZeroKernelIdeal := hZeroKernelIdeal) (hZeroReferenceIdeal := hZeroReferenceIdeal)
-- ==== Pre_maxima_nonnegative.lean ====
abbrev S1024x16384 : Shape := ⟨2, ![1024, 16384]⟩
abbrev S16384x1024 : Shape := ⟨2, ![16384, 1024]⟩
abbrev S64x1024x256 : Shape := ⟨3, ![64, 1024, 256]⟩
abbrev S2x1x1024 : Shape := ⟨3, ![2, 1, 1024]⟩
abbrev S_ : Shape := ⟨0, ![]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel

variable [Facts]

def fn {F : FTy → Type} [FloatOps F] (main_arg0 : FVec F S1024x16384 .bf16) (main_arg1 : FVec F S16384x1024 .bf16) (main_arg2 : FVec F S64x1024x256 .bf16) (main_arg3 : FVec F S2x1x1024 .f32) : IVec S_ 1 :=
  let main_cst : FVec F S_ .f32 := constant S_ .f32 0x00000000#32
  let main_v0 : FVec F S2x1x1024 .f32 := broadcastInDim S2x1x1024 ![] bcast_S_S2x1x1024 main_cst
  let main_v1 : IVec S2x1x1024 1 := cmpf .oge main_arg3 main_v0
  let main_c : IVec S_ 1 := constantI S_ 1 1#1
  let main_v2 : IVec S_ 1 := (fun x v => Host.reduce IntOp.andi x v reducesTo_S2x1x1024_S_d0_1_2 h_S_) main_v1 main_c
  main_v2
-- ==== Kernel.lean ====
abbrev S1024x16384 : Shape := ⟨2, ![1024, 16384]⟩
abbrev S16384x1024 : Shape := ⟨2, ![16384, 1024]⟩
abbrev S64x1024x256 : Shape := ⟨3, ![64, 1024, 256]⟩
abbrev S2x1x1024 : Shape := ⟨3, ![2, 1, 1024]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S2x8192x1024 : Shape := ⟨3, ![2, 8192, 1024]⟩
abbrev S512x256 : Shape := ⟨2, ![512, 256]⟩
abbrev S1x8192x512 : Shape := ⟨3, ![1, 8192, 512]⟩
abbrev S32x512x256 : Shape := ⟨3, ![32, 512, 256]⟩
abbrev S1x1x512 : Shape := ⟨3, ![1, 1, 512]⟩
abbrev S256x512 : Shape := ⟨2, ![256, 512]⟩
abbrev S128x256 : Shape := ⟨2, ![128, 256]⟩
abbrev S1x512 : Shape := ⟨2, ![1, 512]⟩
abbrev S1x64 : Shape := ⟨2, ![1, 64]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S1x128x256 : Shape := ⟨3, ![1, 128, 256]⟩
abbrev S1x1x256 : Shape := ⟨3, ![1, 1, 256]⟩
abbrev S1x1x1 : Shape := ⟨3, ![1, 1, 1]⟩

abbrev nBuf : Space → Nat
  | .hbm => 13
  | .vmem => 27
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S64x1024x256, .bf16⟩
  | .hbm, ⟨3, _⟩ => ⟨S2x1x1024, .f32⟩
  | .hbm, ⟨4, _⟩ => ⟨S256, .i32⟩
  | .hbm, ⟨5, _⟩ => ⟨S1x256, .i32⟩
  | .hbm, ⟨6, _⟩ => ⟨S256x1, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S2x8192x1024, .bf16⟩
  | .hbm, ⟨12, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S1x8192x512, .bf16⟩
  | .local _ .vmem, ⟨3, _⟩ => ⟨S1x8192x512, .bf16⟩
  | .local _ .vmem, ⟨4, _⟩ => ⟨S32x512x256, .bf16⟩
  | .local _ .vmem, ⟨5, _⟩ => ⟨S32x512x256, .bf16⟩
  | .local _ .vmem, ⟨6, _⟩ => ⟨S1x1x512, .f32⟩
  | .local _ .vmem, ⟨7, _⟩ => ⟨S1x1x512, .f32⟩
  | .local _ .vmem, ⟨8, _⟩ => ⟨S256x256, .bf16⟩
  | .local _ .vmem, ⟨9, _⟩ => ⟨S256x512, .bf16⟩
  | .local _ .vmem, ⟨10, _⟩ => ⟨S256x512, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc0_scratch13 : Ref sig .tc := ⟨.vmem, 24, rfl⟩
abbrev cc0_scratch14 : Ref sig .tc := ⟨.vmem, 25, rfl⟩
abbrev cc0_scratch15 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v199 : BitVec 1 := Scalar.cmpi .sgt arg2 c0_i32
  let v200 : BitVec 32 := Scalar.extui v199
  let c0_i32_95 : BitVec 32 := 0#32
  let v201 : BitVec 1 := Scalar.cmpi .ne v200 c0_i32_95
  v201

def k0_mult1 (i : grid0.Coords) : BitVec 32 :=
  let arg2 : BitVec 32 := BitVec.ofNat 32 (i 2).val
  let c256_i32 : BitVec 32 := 256#32
  let v232 : BitVec 32 := Scalar.muli arg2 c256_i32
  v232
def k0_mult2 (i : grid0.Coords) : BitVec 32 :=
  let arg2 : BitVec 32 := BitVec.ofNat 32 (i 2).val
  let c1_i32_121 : BitVec 32 := 1#32
  let v231 : BitVec 32 := Scalar.subi arg2 c1_i32_121
  let c256_i32_122 : BitVec 32 := 256#32
  let v234 : BitVec 32 := Scalar.muli v231 c256_i32_122
  v234
def k0_off1 (i : grid0.Coords) : Fin 3 → Nat :=
  let c0_123 : Index := 0#32
  let arg2 : BitVec 32 := BitVec.ofNat 32 (i 2).val
  let c256_i32 : BitVec 32 := 256#32
  let v232 : BitVec 32 := Scalar.muli arg2 c256_i32
  let v233 : BitVec 32 := v232
  let v236 : Index := Scalar.indexCast v233
  let c0_124 : Index := 0#32
  ![0, v236.toNat, 0]
def k0_off2 (i : grid0.Coords) : Fin 3 → Nat :=
  let c0_126 : Index := 0#32
  let arg2 : BitVec 32 := BitVec.ofNat 32 (i 2).val
  let c1_i32_121 : BitVec 32 := 1#32
  let v231 : BitVec 32 := Scalar.subi arg2 c1_i32_121
  let c256_i32_122 : BitVec 32 := 256#32
  let v234 : BitVec 32 := Scalar.muli v231 c256_i32_122
  let v235 : BitVec 32 := v234
  let v240 : Index := Scalar.indexCast v235
  let c0_127 : Index := 0#32
  ![0, v240.toNat, 0]
def k0_off3 (i : grid0.Coords) : Fin 3 → Nat :=
  let c0_135 : Index := 0#32
  let arg2 : BitVec 32 := BitVec.ofNat 32 (i 2).val
  let c256_i32 : BitVec 32 := 256#32
  let v232 : BitVec 32 := Scalar.muli arg2 c256_i32
  let v233 : BitVec 32 := v232
  let v252 : Index := Scalar.indexCast v233
  let c128_136 : Index := 128#32
  ![0, v252.toNat, 128]
def k0_off4 (i : grid0.Coords) : Fin 3 → Nat :=
  let c0_138 : Index := 0#32
  let arg2 : BitVec 32 := BitVec.ofNat 32 (i 2).val
  let c1_i32_121 : BitVec 32 := 1#32
  let v231 : BitVec 32 := Scalar.subi arg2 c1_i32_121
  let c256_i32_122 : BitVec 32 := 256#32
  let v234 : BitVec 32 := Scalar.muli v231 c256_i32_122
  let v235 : BitVec 32 := v234
  let v256 : Index := Scalar.indexCast v235
  let c128_139 : Index := 128#32
  ![0, v256.toNat, 128]
def k0_off5 (i : grid0.Coords) : Fin 3 → Nat :=
  let c0_147 : Index := 0#32
  let arg2 : BitVec 32 := BitVec.ofNat 32 (i 2).val
  let c256_i32 : BitVec 32 := 256#32
  let v232 : BitVec 32 := Scalar.muli arg2 c256_i32
  let v233 : BitVec 32 := v232
  let v268 : Index := Scalar.indexCast v233
  let c256_148 : Index := 256#32
  ![0, v268.toNat, 256]
def k0_off6 (i : grid0.Coords) : Fin 3 → Nat :=
  let c0_150 : Index := 0#32
  let arg2 : BitVec 32 := BitVec.ofNat 32 (i 2).val
  let c1_i32_121 : BitVec 32 := 1#32
  let v231 : BitVec 32 := Scalar.subi arg2 c1_i32_121
  let c256_i32_122 : BitVec 32 := 256#32
  let v234 : BitVec 32 := Scalar.muli v231 c256_i32_122
  let v235 : BitVec 32 := v234
  let v272 : Index := Scalar.indexCast v235
  let c256_151 : Index := 256#32
  ![0, v272.toNat, 256]
def k0_off7 (i : grid0.Coords) : Fin 3 → Nat :=
  let c0_159 : Index := 0#32
  let arg2 : BitVec 32 := BitVec.ofNat 32 (i 2).val
  let c256_i32 : BitVec 32 := 256#32
  let v232 : BitVec 32 := Scalar.muli arg2 c256_i32
  let v233 : BitVec 32 := v232
  let v284 : Index := Scalar.indexCast v233
  let c384_160 : Index := 384#32
  ![0, v284.toNat, 384]
def k0_off8 (i : grid0.Coords) : Fin 3 → Nat :=
  let c0_162 : Index := 0#32
  let arg2 : BitVec 32 := BitVec.ofNat 32 (i 2).val
  let c1_i32_121 : BitVec 32 := 1#32
  let v231 : BitVec 32 := Scalar.subi arg2 c1_i32_121
  let c256_i32_122 : BitVec 32 := 256#32
  let v234 : BitVec 32 := Scalar.muli v231 c256_i32_122
  let v235 : BitVec 32 := v234
  let v288 : Index := Scalar.indexCast v235
  let c384_163 : Index := 384#32
  ![0, v288.toNat, 384]
def k0_off9 (i : grid0.Coords) : Fin 3 → Nat :=
  let arg2 : BitVec 32 := BitVec.ofNat 32 (i 2).val
  let v716 : Index := Scalar.indexCast arg2
  let c0_301 : Index := 0#32
  let c0_302 : Index := 0#32
  ![v716.toNat, 0, 0]
def k0_off10 (i : grid0.Coords) : Fin 3 → Nat :=
  let arg2 : BitVec 32 := BitVec.ofNat 32 (i 2).val
  let c1_i32_121 : BitVec 32 := 1#32
  let v231 : BitVec 32 := Scalar.subi arg2 c1_i32_121
  let v721 : Index := Scalar.indexCast v231
  let c0_304 : Index := 0#32
  let c0_305 : Index := 0#32
  ![v721.toNat, 0, 0]
def k0_off11 (i : grid0.Coords) : Fin 3 → Nat :=
  let arg2 : BitVec 32 := BitVec.ofNat 32 (i 2).val
  let v744 : Index := Scalar.indexCast arg2
  let c128_321 : Index := 128#32
  let c0_322 : Index := 0#32
  ![v744.toNat, 128, 0]
def k0_off12 (i : grid0.Coords) : Fin 3 → Nat :=
  let arg2 : BitVec 32 := BitVec.ofNat 32 (i 2).val
  let c1_i32_121 : BitVec 32 := 1#32
  let v231 : BitVec 32 := Scalar.subi arg2 c1_i32_121
  let v749 : Index := Scalar.indexCast v231
  let c128_324 : Index := 128#32
  let c0_325 : Index := 0#32
  ![v749.toNat, 128, 0]
def k0_off13 (i : grid0.Coords) : Fin 3 → Nat :=
  let arg2 : BitVec 32 := BitVec.ofNat 32 (i 2).val
  let v772 : Index := Scalar.indexCast arg2
  let c256_341 : Index := 256#32
  let c0_342 : Index := 0#32
  ![v772.toNat, 256, 0]
def k0_off14 (i : grid0.Coords) : Fin 3 → Nat :=
  let arg2 : BitVec 32 := BitVec.ofNat 32 (i 2).val
  let c1_i32_121 : BitVec 32 := 1#32
  let v231 : BitVec 32 := Scalar.subi arg2 c1_i32_121
  let v777 : Index := Scalar.indexCast v231
  let c256_344 : Index := 256#32
  let c0_345 : Index := 0#32
  ![v777.toNat, 256, 0]
def k0_off15 (i : grid0.Coords) : Fin 3 → Nat :=
  let arg2 : BitVec 32 := BitVec.ofNat 32 (i 2).val
  let v800 : Index := Scalar.indexCast arg2
  let c384_361 : Index := 384#32
  let c0_362 : Index := 0#32
  ![v800.toNat, 384, 0]
def k0_off16 (i : grid0.Coords) : Fin 3 → Nat :=
  let arg2 : BitVec 32 := BitVec.ofNat 32 (i 2).val
  let c1_i32_121 : BitVec 32 := 1#32
  let v231 : BitVec 32 := Scalar.subi arg2 c1_i32_121
  let v805 : Index := Scalar.indexCast v231
  let c384_364 : Index := 384#32
  let c0_365 : Index := 0#32
  ![v805.toNat, 384, 0]
def k0_mult3 (i : grid0.Coords) : BitVec 32 :=
  let arg2 : BitVec 32 := BitVec.ofNat 32 (i 2).val
  let c256_i32 : BitVec 32 := 256#32
  let v231 : BitVec 32 := Scalar.muli arg2 c256_i32
  v231
def k0_off17 (i : grid0.Coords) : Fin 3 → Nat :=
  let c0_121 : Index := 0#32
  let arg2 : BitVec 32 := BitVec.ofNat 32 (i 2).val
  let c256_i32 : BitVec 32 := 256#32
  let v231 : BitVec 32 := Scalar.muli arg2 c256_i32
  let v232 : BitVec 32 := v231
  let v233 : Index := Scalar.indexCast v232
  let c0_122 : Index := 0#32
  ![0, v233.toNat, 0]
def k0_off18 (i : grid0.Coords) : Fin 3 → Nat :=
  let c0_127 : Index := 0#32
  let arg2 : BitVec 32 := BitVec.ofNat 32 (i 2).val
  let c256_i32 : BitVec 32 := 256#32
  let v231 : BitVec 32 := Scalar.muli arg2 c256_i32
  let v232 : BitVec 32 := v231
  let v241 : Index := Scalar.indexCast v232
  let c128_128 : Index := 128#32
  ![0, v241.toNat, 128]
def k0_off19 (i : grid0.Coords) : Fin 3 → Nat :=
  let c0_133 : Index := 0#32
  let arg2 : BitVec 32 := BitVec.ofNat 32 (i 2).val
  let c256_i32 : BitVec 32 := 256#32
  let v231 : BitVec 32 := Scalar.muli arg2 c256_i32
  let v232 : BitVec 32 := v231
  let v249 : Index := Scalar.indexCast v232
  let c256_134 : Index := 256#32
  ![0, v249.toNat, 256]
def k0_off20 (i : grid0.Coords) : Fin 3 → Nat :=
  let c0_139 : Index := 0#32
  let arg2 : BitVec 32 := BitVec.ofNat 32 (i 2).val
  let c256_i32 : BitVec 32 := 256#32
  let v231 : BitVec 32 := Scalar.muli arg2 c256_i32
  let v232 : BitVec 32 := v231
  let v257 : Index := Scalar.indexCast v232
  let c384_140 : Index := 384#32
  ![0, v257.toNat, 384]
def k0_off21 (i : grid0.Coords) : Fin 3 → Nat :=
  let arg2 : BitVec 32 := BitVec.ofNat 32 (i 2).val
  let v513 : Index := Scalar.indexCast arg2
  let c0_235 : Index := 0#32
  let c0_236 : Index := 0#32
  ![v513.toNat, 0, 0]
def k0_off22 (i : grid0.Coords) : Fin 3 → Nat :=
  let arg2 : BitVec 32 := BitVec.ofNat 32 (i 2).val
  let v531 : Index := Scalar.indexCast arg2
  let c128_249 : Index := 128#32
  let c0_250 : Index := 0#32
  ![v531.toNat, 128, 0]
def k0_off23 (i : grid0.Coords) : Fin 3 → Nat :=
  let arg2 : BitVec 32 := BitVec.ofNat 32 (i 2).val
  let v549 : Index := Scalar.indexCast arg2
  let c256_263 : Index := 256#32
  let c0_264 : Index := 0#32
  ![v549.toNat, 256, 0]
def k0_off24 (i : grid0.Coords) : Fin 3 → Nat :=
  let arg2 : BitVec 32 := BitVec.ofNat 32 (i 2).val
  let v567 : Index := Scalar.indexCast arg2
  let c384_277 : Index := 384#32
  let c0_278 : Index := 0#32
  ![v567.toNat, 384, 0]
def k0_mult4 (i : grid0.Coords) (arg25 : BitVec 32) : BitVec 32 :=
  let arg2 : BitVec 32 := BitVec.ofNat 32 (i 2).val
  let c1_i32_122 : BitVec 32 := 1#32
  let v232 : BitVec 32 := Scalar.subi arg2 c1_i32_122
  let v233 : BitVec 32 := Scalar.subi v232 arg25
  let c256_i32 : BitVec 32 := 256#32
  let v234 : BitVec 32 := Scalar.muli v233 c256_i32
  v234

def k0_off25 (i : grid0.Coords) (arg25 : BitVec 32) : Fin 3 → Nat :=
  let c0_123 : Index := 0#32
  let arg2 : BitVec 32 := BitVec.ofNat 32 (i 2).val
  let c1_i32_122 : BitVec 32 := 1#32
  let v232 : BitVec 32 := Scalar.subi arg2 c1_i32_122
  let v233 : BitVec 32 := Scalar.subi v232 arg25
  let c256_i32 : BitVec 32 := 256#32
  let v234 : BitVec 32 := Scalar.muli v233 c256_i32
  let v235 : BitVec 32 := v234
  let v236 : Index := Scalar.indexCast v235
  let c0_124 : Index := 0#32
  ![0, v236.toNat, 0]
def k0_off26 (i : grid0.Coords) (arg25 : BitVec 32) : Fin 3 → Nat :=
  let c0_129 : Index := 0#32
  let arg2 : BitVec 32 := BitVec.ofNat 32 (i 2).val
  let c1_i32_122 : BitVec 32 := 1#32
  let v232 : BitVec 32 := Scalar.subi arg2 c1_i32_122
  let v233 : BitVec 32 := Scalar.subi v232 arg25
  let c256_i32 : BitVec 32 := 256#32
  let v234 : BitVec 32 := Scalar.muli v233 c256_i32
  let v235 : BitVec 32 := v234
  let v244 : Index := Scalar.indexCast v235
  let c128_130 : Index := 128#32
  ![0, v244.toNat, 128]
def k0_off27 (i : grid0.Coords) (arg25 : BitVec 32) : Fin 3 → Nat :=
  let c0_135 : Index := 0#32
  let arg2 : BitVec 32 := BitVec.ofNat 32 (i 2).val
  let c1_i32_122 : BitVec 32 := 1#32
  let v232 : BitVec 32 := Scalar.subi arg2 c1_i32_122
  let v233 : BitVec 32 := Scalar.subi v232 arg25
  let c256_i32 : BitVec 32 := 256#32
  let v234 : BitVec 32 := Scalar.muli v233 c256_i32
  let v235 : BitVec 32 := v234
  let v252 : Index := Scalar.indexCast v235
  let c256_136 : Index := 256#32
  ![0, v252.toNat, 256]
def k0_off28 (i : grid0.Coords) (arg25 : BitVec 32) : Fin 3 → Nat :=
  let c0_141 : Index := 0#32
  let arg2 : BitVec 32 := BitVec.ofNat 32 (i 2).val
  let c1_i32_122 : BitVec 32 := 1#32
  let v232 : BitVec 32 := Scalar.subi arg2 c1_i32_122
  let v233 : BitVec 32 := Scalar.subi v232 arg25
  let c256_i32 : BitVec 32 := 256#32
  let v234 : BitVec 32 := Scalar.muli v233 c256_i32
  let v235 : BitVec 32 := v234
  let v260 : Index := Scalar.indexCast v235
  let c384_142 : Index := 384#32
  ![0, v260.toNat, 384]
def k0_off29 (i : grid0.Coords) (arg25 : BitVec 32) : Fin 3 → Nat :=
  let arg2 : BitVec 32 := BitVec.ofNat 32 (i 2).val
  let c1_i32_122 : BitVec 32 := 1#32
  let v232 : BitVec 32 := Scalar.subi arg2 c1_i32_122
  let v233 : BitVec 32 := Scalar.subi v232 arg25
  let v484 : Index := Scalar.indexCast v233
  let c0_221 : Index := 0#32
  let c0_222 : Index := 0#32
  ![v484.toNat, 0, 0]
def k0_off30 (i : grid0.Coords) (arg25 : BitVec 32) : Fin 3 → Nat :=
  let arg2 : BitVec 32 := BitVec.ofNat 32 (i 2).val
  let c1_i32_122 : BitVec 32 := 1#32
  let v232 : BitVec 32 := Scalar.subi arg2 c1_i32_122
  let v233 : BitVec 32 := Scalar.subi v232 arg25
  let v502 : Index := Scalar.indexCast v233
  let c128_235 : Index := 128#32
  let c0_236 : Index := 0#32
  ![v502.toNat, 128, 0]
def k0_off31 (i : grid0.Coords) (arg25 : BitVec 32) : Fin 3 → Nat :=
  let arg2 : BitVec 32 := BitVec.ofNat 32 (i 2).val
  let c1_i32_122 : BitVec 32 := 1#32
  let v232 : BitVec 32 := Scalar.subi arg2 c1_i32_122
  let v233 : BitVec 32 := Scalar.subi v232 arg25
  let v520 : Index := Scalar.indexCast v233
  let c256_249 : Index := 256#32
  let c0_250 : Index := 0#32
  ![v520.toNat, 256, 0]
def k0_off32 (i : grid0.Coords) (arg25 : BitVec 32) : Fin 3 → Nat :=
  let arg2 : BitVec 32 := BitVec.ofNat 32 (i 2).val
  let c1_i32_122 : BitVec 32 := 1#32
  let v232 : BitVec 32 := Scalar.subi arg2 c1_i32_122
  let v233 : BitVec 32 := Scalar.subi v232 arg25
  let v538 : Index := Scalar.indexCast v233
  let c384_263 : Index := 384#32
  let c0_264 : Index := 0#32
  ![v538.toNat, 384, 0]

def k0_chk1 (i : grid0.Coords) (arg25 : BitVec 32) : Prop :=
  (256 ∣ (k0_mult4 i arg25).toNat) ∧
  (∀ a, (k0_off25 i arg25) a + S1x256x128.size a ≤ S1x8192x512.size a) ∧
  (∀ a, (k0_off26 i arg25) a + S1x256x128.size a ≤ S1x8192x512.size a) ∧
  (∀ a, (k0_off27 i arg25) a + S1x256x128.size a ≤ S1x8192x512.size a) ∧
  (∀ a, (k0_off28 i arg25) a + S1x256x128.size a ≤ S1x8192x512.size a) ∧
  (∀ a, (k0_off29 i arg25) a + S1x128x256.size a ≤ S32x512x256.size a) ∧
  (∀ a, (k0_off30 i arg25) a + S1x128x256.size a ≤ S32x512x256.size a) ∧
  (∀ a, (k0_off31 i arg25) a + S1x128x256.size a ≤ S32x512x256.size a) ∧
  (∀ a, (k0_off32 i arg25) a + S1x128x256.size a ≤ S32x512x256.size a)
theorem k0_mult4_dvd : ∀ (i : grid0.Coords) (arg25 : BitVec 32) (k0_hw1 : k0_chk1 i arg25), 256 ∣ (k0_mult4 i arg25).toNat := fun i arg25 k0_hw1 => k0_hw1.1
theorem k0_off25_inb : ∀ (i : grid0.Coords) (arg25 : BitVec 32) (k0_hw1 : k0_chk1 i arg25), ∀ a, (k0_off25 i arg25) a + S1x256x128.size a ≤ S1x8192x512.size a := fun i arg25 k0_hw1 => k0_hw1.2.1
theorem k0_off26_inb : ∀ (i : grid0.Coords) (arg25 : BitVec 32) (k0_hw1 : k0_chk1 i arg25), ∀ a, (k0_off26 i arg25) a + S1x256x128.size a ≤ S1x8192x512.size a := fun i arg25 k0_hw1 => k0_hw1.2.2.1
theorem k0_off27_inb : ∀ (i : grid0.Coords) (arg25 : BitVec 32) (k0_hw1 : k0_chk1 i arg25), ∀ a, (k0_off27 i arg25) a + S1x256x128.size a ≤ S1x8192x512.size a := fun i arg25 k0_hw1 => k0_hw1.2.2.2.1
theorem k0_off28_inb : ∀ (i : grid0.Coords) (arg25 : BitVec 32) (k0_hw1 : k0_chk1 i arg25), ∀ a, (k0_off28 i arg25) a + S1x256x128.size a ≤ S1x8192x512.size a := fun i arg25 k0_hw1 => k0_hw1.2.2.2.2.1
theorem k0_off29_inb : ∀ (i : grid0.Coords) (arg25 : BitVec 32) (k0_hw1 : k0_chk1 i arg25), ∀ a, (k0_off29 i arg25) a + S1x128x256.size a ≤ S32x512x256.size a := fun i arg25 k0_hw1 => k0_hw1.2.2.2.2.2.1
theorem k0_off30_inb : ∀ (i : grid0.Coords) (arg25 : BitVec 32) (k0_hw1 : k0_chk1 i arg25), ∀ a, (k0_off30 i arg25) a + S1x128x256.size a ≤ S32x512x256.size a := fun i arg25 k0_hw1 => k0_hw1.2.2.2.2.2.2.1
theorem k0_off31_inb : ∀ (i : grid0.Coords) (arg25 : BitVec 32) (k0_hw1 : k0_chk1 i arg25), ∀ a, (k0_off31 i arg25) a + S1x128x256.size a ≤ S32x512x256.size a := fun i arg25 k0_hw1 => k0_hw1.2.2.2.2.2.2.2.1
theorem k0_off32_inb : ∀ (i : grid0.Coords) (arg25 : BitVec 32) (k0_hw1 : k0_chk1 i arg25), ∀ a, (k0_off32 i arg25) a + S1x128x256.size a ≤ S32x512x256.size a := fun i arg25 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S32x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "floor" => some ⊥
  | _ => none
-- ==== ReferenceIdeal.lean ====
abbrev S1024x16384 : Shape := ⟨2, ![1024, 16384]⟩
abbrev S16384x1024 : Shape := ⟨2, ![16384, 1024]⟩
abbrev S64x1024x256 : Shape := ⟨3, ![64, 1024, 256]⟩
abbrev S2x1x1024 : Shape := ⟨3, ![2, 1, 1024]⟩
abbrev S16x64x2x8192 : Shape := ⟨4, ![16, 64, 2, 8192]⟩
abbrev S2x16x8192x64 : Shape := ⟨4, ![2, 16, 8192, 64]⟩
abbrev S2x8192x16x64 : Shape := ⟨4, ![2, 8192, 16, 64]⟩
abbrev S2x32x16x64x256 : Shape := ⟨5, ![2, 32, 16, 64, 256]⟩
abbrev S2x16x32x256x64 : Shape := ⟨5, ![2, 16, 32, 256, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x8192x8192 : Shape := ⟨4, ![2, 16, 8192, 8192]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S64x1024x256, .bf16⟩
  | .hbm, ⟨3, _⟩ => ⟨S2x1x1024, .f32⟩
  | .hbm, ⟨4, _⟩ => ⟨S1024x16384, .f32⟩
  | .hbm, ⟨5, _⟩ => ⟨S16x64x2x8192, .f32⟩
  | .hbm, ⟨6, _⟩ => ⟨S2x16x8192x64, .f32⟩
  | .hbm, ⟨7, _⟩ => ⟨S16384x1024, .f32⟩
  | .hbm, ⟨8, _⟩ => ⟨S2x8192x16x64, .f32⟩
  | .hbm, ⟨9, _⟩ => ⟨S2x16x8192x64, .f32⟩
  | .hbm, ⟨10, _⟩ => ⟨S64x1024x256, .f32⟩
  | .hbm, ⟨11, _⟩ => ⟨S2x32x16x64x256, .f32⟩
  | .hbm, ⟨12, _⟩ => ⟨S2x16x32x256x64, .f32⟩
  | .hbm, ⟨13, _⟩ => ⟨S2x16x8192x64, .f32⟩
  | .hbm, ⟨14, _⟩ => ⟨S8192, .i32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S2x16x8192x8192, .f32⟩
  | .hbm, ⟨22, _⟩ => ⟨S2x16x8192x8192, .f32⟩
  | .hbm, ⟨23, _⟩ => ⟨S_, .f32⟩
  | .hbm, ⟨24, _⟩ => ⟨S2x16x8192x8192, .f32⟩
  | .hbm, ⟨25, _⟩ => ⟨S2x16x8192x8192, .f32⟩
  | .hbm, ⟨26, _⟩ => ⟨S2x16x8192x8192, .f32⟩
  | .hbm, ⟨27, _⟩ => ⟨S2x16x8192x8192, .f32⟩
  | .hbm, ⟨28, _⟩ => ⟨S2x16x8192x8192, .i1⟩
  | .hbm, ⟨29, _⟩ => ⟨S2x16x8192x8192, .f32⟩
  | .hbm, ⟨30, _⟩ => ⟨S2x16x8192x8192, .f32⟩
  | .hbm, ⟨31, _⟩ => ⟨S2x16x8192x8192, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S2x16x8192x8192, .f32⟩
  | .hbm, ⟨37, _⟩ => ⟨S2x16x8192x8192, .f32⟩
  | .hbm, ⟨38, _⟩ => ⟨S2x16x8192x8192, .f32⟩
  | .hbm, ⟨39, _⟩ => ⟨S2x16x8192x8192, .f32⟩
  | .hbm, ⟨40, _⟩ => ⟨S_, .f32⟩
  | .hbm, ⟨41, _⟩ => ⟨S2x16x8192x8192, .f32⟩
  | .hbm, ⟨42, _⟩ => ⟨S2x16x8192x8192, .f32⟩
  | .hbm, ⟨43, _⟩ => ⟨S2x16x8192x8192, .f32⟩
  | .hbm, ⟨44, _⟩ => ⟨S2x16x8192x8192, .f32⟩
  | .hbm, ⟨45, _⟩ => ⟨S2x16x8192x8192, .i1⟩
  | .hbm, ⟨46, _⟩ => ⟨S2x16x8192x8192, .f32⟩
  | .hbm, ⟨47, _⟩ => ⟨S2x16x8192x8192, .f32⟩
  | .hbm, ⟨48, _⟩ => ⟨S2x16x8192x8192, .f32⟩
  | .hbm, ⟨49, _⟩ => ⟨S2x16x8192x8192, .f32⟩
  | .hbm, ⟨50, _⟩ => ⟨S2x16x8192x8192, .f32⟩
  | .hbm, ⟨51, _⟩ => ⟨S2x16x8192x8192, .f32⟩
  | .hbm, ⟨52, _⟩ => ⟨S2x16x8192x8192, .f32⟩
  | .hbm, ⟨53, _⟩ => ⟨S2x16x8192x8192, .f32⟩
  | .hbm, ⟨54, _⟩ => ⟨S2x16x8192x8192, .f32⟩
  | .hbm, ⟨55, _⟩ => ⟨S_, .f32⟩
  | .hbm, ⟨56, _⟩ => ⟨S_, .f32⟩
  | .hbm, ⟨57, _⟩ => ⟨S2x16x8192x8192, .i1⟩
  | .hbm, ⟨58, _⟩ => ⟨S2x16x8192x8192, .f32⟩
  | .hbm, ⟨59, _⟩ => ⟨S2x16x8192x8192, .f32⟩
  | .hbm, ⟨60, _⟩ => ⟨S_, .f32⟩
  | .hbm, ⟨61, _⟩ => ⟨S_, .f32⟩
  | .hbm, ⟨62, _⟩ => ⟨S2x16x8192x8192, .f32⟩
  | .hbm, ⟨63, _⟩ => ⟨S2x16x8192x8192, .f32⟩
  | .hbm, ⟨64, _⟩ => ⟨S2x16x8192x8192, .f32⟩
  | .hbm, ⟨65, _⟩ => ⟨S2x16x8192x8192, .f32⟩
  | .hbm, ⟨66, _⟩ => ⟨S_, .f32⟩
  | .hbm, ⟨67, _⟩ => ⟨S_, .f32⟩
  | .hbm, ⟨68, _⟩ => ⟨S2x16x8192x8192, .i1⟩
  | .hbm, ⟨69, _⟩ => ⟨S2x16x8192x8192, .f32⟩
  | .hbm, ⟨70, _⟩ => ⟨S2x16x8192x8192, .f32⟩
  | .hbm, ⟨71, _⟩ => ⟨S2x16x8192x64, .f32⟩
  | .hbm, ⟨72, _⟩ => ⟨S2x8192x16x64, .f32⟩
  | .hbm, ⟨73, _⟩ => ⟨S16384x1024, .f32⟩
  | .hbm, ⟨74, _⟩ => ⟨S16384x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v20 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v21 : Ref sig .tc := ⟨.hbm, 59, rfl⟩
abbrev main_call3_cst : Ref sig .tc := ⟨.hbm, 60, rfl⟩
abbrev main_call3_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_0 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== OutKernel.lean ====
abbrev S16384x1024 : Shape := ⟨2, ![16384, 1024]⟩
abbrev S1024x1024 : Shape := ⟨2, ![1024, 1024]⟩
abbrev S2x1x1024 : Shape := ⟨3, ![2, 1, 1024]⟩
abbrev S1024 : Shape := ⟨1, ![1024]⟩
abbrev S1x1024 : Shape := ⟨2, ![1, 1024]⟩
abbrev S1024x16384 : Shape := ⟨2, ![1024, 16384]⟩
abbrev S512x1024 : Shape := ⟨2, ![512, 1024]⟩
abbrev S1x1x1024 : Shape := ⟨3, ![1, 1, 1024]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S1024x16384, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S1024x512, .bf16⟩
  | .local _ .vmem, ⟨15, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S16384x1024 : Shape := ⟨2, ![16384, 1024]⟩
abbrev S1024x1024 : Shape := ⟨2, ![1024, 1024]⟩
abbrev S2x1x1024 : Shape := ⟨3, ![2, 1, 1024]⟩
abbrev S1024 : Shape := ⟨1, ![1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x16384 : Shape := ⟨2, ![1024, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S16384x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S16384x1024, .f32⟩
  | .hbm, ⟨38, _⟩ => ⟨S16384x1024, .f32⟩
  | .hbm, ⟨39, _⟩ => ⟨S1024x16384, .f32⟩
  | .hbm, ⟨40, _⟩ => ⟨S1024x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== InKernel.lean ====
abbrev S16384x1024 : Shape := ⟨2, ![16384, 1024]⟩
abbrev S2x1x1024 : Shape := ⟨3, ![2, 1, 1024]⟩
abbrev S1024 : Shape := ⟨1, ![1024]⟩
abbrev S1024x3072 : Shape := ⟨2, ![1024, 3072]⟩
abbrev S1x1024 : Shape := ⟨2, ![1, 1024]⟩
abbrev S1024x1024 : Shape := ⟨2, ![1024, 1024]⟩
abbrev S1024x16384 : Shape := ⟨2, ![1024, 16384]⟩
abbrev S64x1024x256 : Shape := ⟨3, ![64, 1024, 256]⟩
abbrev S512x1024 : Shape := ⟨2, ![512, 1024]⟩
abbrev S1x1x1024 : Shape := ⟨3, ![1, 1, 1024]⟩
abbrev S1024x512 : Shape := ⟨2, ![1024, 512]⟩
abbrev S2x1024x256 : Shape := ⟨3, ![2, 1024, 256]⟩
abbrev S512 : Shape := ⟨1, ![512]⟩
abbrev S512x1 : Shape := ⟨2, ![512, 1]⟩
abbrev S1024x256 : Shape := ⟨2, ![1024, 256]⟩
abbrev S1x1024x256 : Shape := ⟨3, ![1, 1024, 256]⟩

abbrev nBuf : Space → Nat
  | .hbm => 16
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3072, .f32⟩
  | .hbm, ⟨5, _⟩ => ⟨S1024x3072, .bf16⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x16384, .bf16⟩
  | .hbm, ⟨13, _⟩ => ⟨S16384x1024, .bf16⟩
  | .hbm, ⟨14, _⟩ => ⟨S64x1024x256, .bf16⟩
  | .hbm, ⟨15, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | .local _ .vmem, ⟨14, _⟩ => ⟨S2x1024x256, .bf16⟩
  | .local _ .vmem, ⟨15, _⟩ => ⟨S2x1024x256, .bf16⟩
  | .local _ .vmem, ⟨16, _⟩ => ⟨S1x1x1024, .f32⟩
  | .local _ .vmem, ⟨17, _⟩ => ⟨S1x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let c0_i32 : BitVec 32 := 0#32
  let v54 : BitVec 1 := Scalar.cmpi .eq c16_i32 c0_i32
  let c1_i32 : BitVec 32 := 1#32
  let v55 : BitVec 32 := Scalar.select v54 c1_i32 c16_i32
  let v56 : BitVec 32 := Scalar.remsi arg0 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  let c0_i32_35 : BitVec 32 := 0#32
  let v64 : BitVec 1 := Scalar.cmpi .eq v63 c0_i32_35
  let v65 : BitVec 32 := Scalar.extui v64
  let c0_i32_36 : BitVec 32 := 0#32
  let v66 : BitVec 1 := Scalar.cmpi .ne v65 c0_i32_36
  v66

def k0_cond2 (i : grid0.Coords) : BitVec 1 :=
  let arg0 : BitVec 32 := BitVec.ofNat 32 (i 0).val
  let c16_i32_37 : BitVec 32 := 16#32
  let c0_i32_38 : BitVec 32 := 0#32
  let v67 : BitVec 1 := Scalar.cmpi .eq c16_i32_37 c0_i32_38
  let c1_i32_39 : BitVec 32 := 1#32
  let v68 : BitVec 32 := Scalar.select v67 c1_i32_39 c16_i32_37
  let v69 : BitVec 32 := Scalar.remsi arg0 v68
  let c0_i32_41 : BitVec 32 := 0#32
  let v71 : BitVec 1 := Scalar.cmpi .slt v69 c0_i32_41
  let c0_i32_42 : BitVec 32 := 0#32
  let v72 : BitVec 1 := Scalar.cmpi .slt v68 c0_i32_42
  let v73 : BitVec 1 := Scalar.xori v71 v72
  let c0_i32_40 : BitVec 32 := 0#32
  let v70 : BitVec 1 := Scalar.cmpi .ne v69 c0_i32_40
  let v74 : BitVec 1 := Scalar.andi v73 v70
  let v75 : BitVec 32 := Scalar.addi v69 v68
  let v76 : BitVec 32 := Scalar.select v74 v75 v69
  let c0_i32_43 : BitVec 32 := 0#32
  let v77 : BitVec 1 := Scalar.cmpi .ne v76 c0_i32_43
  let v78 : BitVec 32 := Scalar.extui v77
  let c0_i32_44 : BitVec 32 := 0#32
  let v79 : BitVec 1 := Scalar.cmpi .ne v78 c0_i32_44
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InReferenceIdeal.lean ====
abbrev S16384x1024 : Shape := ⟨2, ![16384, 1024]⟩
abbrev S2x1x1024 : Shape := ⟨3, ![2, 1, 1024]⟩
abbrev S1024 : Shape := ⟨1, ![1024]⟩
abbrev S1024x3072 : Shape := ⟨2, ![1024, 3072]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S1024x16384 : Shape := ⟨2, ![1024, 16384]⟩
abbrev S64x256x1024 : Shape := ⟨3, ![64, 256, 1024]⟩
abbrev S64x1024x256 : Shape := ⟨3, ![64, 1024, 256]⟩
abbrev S2x1024 : Shape := ⟨2, ![2, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3072, .f32⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x3072, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192x1024, .f32⟩
  | .hbm, ⟨35, _⟩ => ⟨S2x8192x1024, .f32⟩
  | .hbm, ⟨36, _⟩ => ⟨S16384x1024, .f32⟩
  | .hbm, ⟨37, _⟩ => ⟨S1024x16384, .f32⟩
  | .hbm, ⟨38, _⟩ => ⟨S64x256x1024, .f32⟩
  | .hbm, ⟨39, _⟩ => ⟨S64x1024x256, .f32⟩
  | .hbm, ⟨40, _⟩ => ⟨S2x8192x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S1024x16384, .bf16⟩
  | .hbm, ⟨45, _⟩ => ⟨S16384x1024, .f32⟩
  | .hbm, ⟨46, _⟩ => ⟨S16384x1024, .bf16⟩
  | .hbm, ⟨47, _⟩ => ⟨S64x1024x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== ZeroKernel.lean ====
abbrev S16384x512 : Shape := ⟨2, ![16384, 512]⟩
abbrev S1024x1024 : Shape := ⟨2, ![1024, 1024]⟩
abbrev S16384x1024 : Shape := ⟨2, ![16384, 1024]⟩
abbrev S2x1x1024 : Shape := ⟨3, ![2, 1, 1024]⟩
abbrev S1024 : Shape := ⟨1, ![1024]⟩
abbrev S1x1024 : Shape := ⟨2, ![1, 1024]⟩
abbrev S1024x16384 : Shape := ⟨2, ![1024, 16384]⟩
abbrev S512x512 : Shape := ⟨2, ![512, 512]⟩
abbrev S512x1024 : Shape := ⟨2, ![512, 1024]⟩
abbrev S1x1x1024 : Shape := ⟨3, ![1, 1, 1024]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S2x1x1024, .f32⟩
  | .hbm, ⟨5, _⟩ => ⟨S1024, .f32⟩
  | .hbm, ⟨6, _⟩ => ⟨S2x1x1024, .f32⟩
  | .hbm, ⟨7, _⟩ => ⟨S2x1x1024, .f32⟩
  | .hbm, ⟨8, _⟩ => ⟨S1024x1024, .bf16⟩
  | .hbm, ⟨9, _⟩ => ⟨S1x1024, .f32⟩
  | .hbm, ⟨10, _⟩ => ⟨S16384x1024, .f32⟩
  | .hbm, ⟨11, _⟩ => ⟨S1024x16384, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x512, .bf16⟩
  | .local _ .vmem, ⟨17, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ZeroReferenceIdeal.lean ====
abbrev S16384x512 : Shape := ⟨2, ![16384, 512]⟩
abbrev S1024x1024 : Shape := ⟨2, ![1024, 1024]⟩
abbrev S16384x1024 : Shape := ⟨2, ![16384, 1024]⟩
abbrev S2x1x1024 : Shape := ⟨3, ![2, 1, 1024]⟩
abbrev S1024 : Shape := ⟨1, ![1024]⟩
abbrev S2x8192x512 : Shape := ⟨3, ![2, 8192, 512]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x16384 : Shape := ⟨2, ![1024, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S2x1x1024, .f32⟩
  | .hbm, ⟨5, _⟩ => ⟨S1024, .f32⟩
  | .hbm, ⟨6, _⟩ => ⟨S2x1x1024, .f32⟩
  | .hbm, ⟨7, _⟩ => ⟨S2x1x1024, .f32⟩
  | .hbm, ⟨8, _⟩ => ⟨S16384x512, .f32⟩
  | .hbm, ⟨9, _⟩ => ⟨S2x8192x512, .f32⟩
  | .hbm, ⟨10, _⟩ => ⟨S16384x512, .f32⟩
  | .hbm, ⟨11, _⟩ => ⟨S2x8192x512, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | .hbm, ⟨42, _⟩ => ⟨S16384x1024, .f32⟩
  | .hbm, ⟨43, _⟩ => ⟨S1024x16384, .f32⟩
  | .hbm, ⟨44, _⟩ => ⟨S1024x16384, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Out.Block.lean ====
/-
  The output projection with its residual and the normalization after it, at the extended reals: what the kernel's body
  computes of one block of 512 tokens, entry by entry.
-/
module

public import proofs.«01_k».proof.Proof.Gen.OutKernelIdeal.Value
public import Idealize.ShloMosaic.Lib.Pointwise

@[expose] public section

noncomputable section

namespace Cert.Proof.Out

open Cert.OutKernelIdeal Cert.OutKernelIdeal.Gen
open Idealize.ShloMosaic

/-- A row of the normalized, scaled and shifted stream: from the row, the gain, the scale and the shift. -/
def normed (x : Fin 1024 → EReal) (g sc sh : EReal) (c : Fin 1024) : EReal :=
  x c * Ideal.rsqrt (Ideal.div (∑ k : Fin 1024, x k * x k) (Ideal.ofBits .f32 0x44800000#32) + Ideal.ofBits .f32 0x358637BD#32) * g
    * (1 + sc) + sh

theorem pay2_apply (y : Vec Ideal S512x1024 .bf16) (w : Vec Ideal S1024x1024 .bf16) (x : Vec Ideal S512x1024 .f32) (g : Vec Ideal S1x1x1024 .f32)
    (r : Fin 512) (c : Fin 1024) :
    k0_pay2 (F := Ideal) y w x g (ix2 r c) = x (ix2 r c) + g (ix3 0 0 c) * ∑ k : Fin 1024, y (ix2 r k) * w (ix2 k c) := by
  pointwise [k0_pay2]

theorem pay1_apply (y : Vec Ideal S512x1024 .bf16) (w : Vec Ideal S1024x1024 .bf16) (x : Vec Ideal S512x1024 .f32) (g : Vec Ideal S1x1x1024 .f32)
    (n : Vec Ideal S1x1024 .f32) (sc sh : Vec Ideal S1x1x1024 .f32) (r : Fin 512) (c : Fin 1024) :
    k0_pay1 (F := Ideal) (k0_pay3 y w x g n sc) (k0_pay4 sh) (ix2 c r)
      = normed (fun k => k0_pay2 (F := Ideal) y w x g (ix2 r k)) (n (ix2 0 c)) (sc (ix3 0 0 c)) (sh (ix3 0 0 c)) c := by
  pointwise [k0_pay1, k0_pay3, k0_pay4]
  rfl

end Cert.Proof.Out

end
-- ==== Proof.Out.Value.lean ====
/-
  The result arrays of the output projection, at the extended reals, entry by entry in the argument arrays: the stream with
  the gated projection added, and its normalized rows transposed.
-/
module

public import proofs.«01_k».proof.Proof.Out.Block
public import Idealize.ShloMosaic.Lib.Pipeline.ValueKit

@[expose] public section

noncomputable section

namespace Cert.Proof.Out

open Cert.OutKernelIdeal Cert.OutKernelIdeal.Gen
open Idealize.ShloMosaic
open Idealize.ShloMosaic.TcCoe
open Idealize.SL.Sem

/-- The sequence of a token. -/
def bat (r : Fin 16384) : Fin 2 := ⟨r.val / 8192, by omega⟩

/-- The stream at a token and a feature, after the attention's output is projected, gated and added, -/
def stream (y : S16384x1024.Idx → EReal) (w : S1024x1024.Idx → EReal) (x : S16384x1024.Idx → EReal) (g : S2x1x1024.Idx → EReal)
    (r : Fin 16384) (c : Fin 1024) : EReal :=
  x (ix2 r c) + g (ix3 (bat r) 0 c) * ∑ k : Fin 1024, y (ix2 r k) * w (ix2 k c)

/-- and what the next layer reads there. -/
def next (y : S16384x1024.Idx → EReal) (w : S1024x1024.Idx → EReal) (x : S16384x1024.Idx → EReal) (g : S2x1x1024.Idx → EReal)
    (n : S1024.Idx → EReal) (sc sh : S2x1x1024.Idx → EReal) (r : Fin 16384) (c : Fin 1024) : EReal :=
  normed (stream y w x g r) (n (ix1 c)) (sc (ix3 (bat r) 0 c)) (sh (ix3 (bat r) 0 c)) c

variable (m : (ℓ : Loc nD τ sig) → Buf (Elt Ideal) ℓ)

theorem t_lt (t : Fin grid0.N) : t.val < 32 := t.isLt

theorem idx0 : ∀ t : Fin grid0.N, win0_0.index t = ![t.val, 0] := (by decide +kernel : ∀ t : Fin grid0.N, _)
theorem idx1 : ∀ t : Fin grid0.N, win0_1.index t = ![0, 0] := (by decide +kernel : ∀ t : Fin grid0.N, _)
theorem idx2 : ∀ t : Fin grid0.N, win0_2.index t = ![t.val, 0] := (by decide +kernel : ∀ t : Fin grid0.N, _)
theorem idx3 : ∀ t : Fin grid0.N, win0_3.index t = ![t.val / 16, 0, 0] := (by decide +kernel : ∀ t : Fin grid0.N, _)
theorem idx4 : ∀ t : Fin grid0.N, win0_4.index t = ![0, 0] := (by decide +kernel : ∀ t : Fin grid0.N, _)
theorem idx5 : ∀ t : Fin grid0.N, win0_5.index t = ![t.val / 16, 0, 0] := (by decide +kernel : ∀ t : Fin grid0.N, _)
theorem idx6 : ∀ t : Fin grid0.N, win0_6.index t = ![t.val / 16, 0, 0] := (by decide +kernel : ∀ t : Fin grid0.N, _)
theorem idx7 : ∀ t : Fin grid0.N, win0_7.index t = ![t.val, 0] := (by decide +kernel : ∀ t : Fin grid0.N, _)
theorem idx8 : ∀ t : Fin grid0.N, win0_8.index t = ![0, t.val] := (by decide +kernel : ∀ t : Fin grid0.N, _)

/-- The arguments of a core. -/
abbrev a0 (c : Dev nD) : FVec Ideal S16384x1024 .bf16 := m ((c.tc : Thread nD τ).loc main_arg0)
abbrev a1 (c : Dev nD) : FVec Ideal S1024x1024 .f32 := m ((c.tc : Thread nD τ).loc main_arg1)
abbrev a2 (c : Dev nD) : FVec Ideal S16384x1024 .f32 := m ((c.tc : Thread nD τ).loc main_arg2)
abbrev a3 (c : Dev nD) : FVec Ideal S2x1x1024 .f32 := m ((c.tc : Thread nD τ).loc main_arg3)
abbrev a4 (c : Dev nD) : FVec Ideal S1024 .f32 := m ((c.tc : Thread nD τ).loc main_arg4)
abbrev a5 (c : Dev nD) : FVec Ideal S2x1x1024 .f32 := m ((c.tc : Thread nD τ).loc main_arg5)
abbrev a6 (c : Dev nD) : FVec Ideal S2x1x1024 .f32 := m ((c.tc : Thread nD τ).loc main_arg6)

theorem V_v0 (c : Dev nD) : V m c main_v0 = truncf .bf16 (a1 m c) bitsLt_bf16_f32 := by
  unfold V; after_results_simp <;> rfl
theorem V_v1 (c : Dev nD) : V m c main_v1 = shapeCast S1x1024 (a4 m c) shapeCasts_S1024_S1x1024 := by
  unfold V; after_results_simp <;> rfl

/-- A grid point's token. -/
def tok (t : Fin grid0.N) (r : Fin 512) : Fin 16384 := ⟨t.val * 512 + r.val, by have := t_lt t; omega⟩

theorem bat_tok (t : Fin grid0.N) (r : Fin 512) : (bat (tok t r)).val = t.val / 16 := by
  show (t.val * 512 + r.val) / 8192 = t.val / 16
  omega

/-! ### The staged blocks of a grid point, at their coordinates in the argument arrays -/

theorem b0 (c : Dev nD) (t : Fin grid0.N) (r : Fin 512) (k : Fin 1024) :
    (iblk m c 0 t : Vec Ideal S512x1024 .bf16) (ix2 r k) = a0 m c (ix2 (tok t r) k) := by
  unfold iblk
  rw [show V m c (Pipeline.arrRef spec0 0) = a0 m c from V_main_arg0 m c]
  blk_simp
  refine congrArg (a0 m c) ?_
  blk_ext [idx0]
  rfl

theorem b1 (c : Dev nD) (t : Fin grid0.N) (r k : Fin 1024) :
    (iblk m c 1 t : Vec Ideal S1024x1024 .bf16) (ix2 r k) = a1 m c (ix2 r k) := by
  unfold iblk
  rw [show V m c (Pipeline.arrRef spec0 1) = truncf .bf16 (a1 m c) bitsLt_bf16_f32 from V_v0 m c]
  blk_simp
  refine congrArg (a1 m c) ?_
  blk_ext [idx1]

theorem b2 (c : Dev nD) (t : Fin grid0.N) (r : Fin 512) (k : Fin 1024) :
    (iblk m c 2 t : Vec Ideal S512x1024 .f32) (ix2 r k) = a2 m c (ix2 (tok t r) k) := by
  unfold iblk
  rw [show V m c (Pipeline.arrRef spec0 2) = a2 m c from V_main_arg2 m c]
  blk_simp
  refine congrArg (a2 m c) ?_
  blk_ext [idx2]
  rfl

theorem b3 (c : Dev nD) (t : Fin grid0.N) (r : Fin 512) (k : Fin 1024) :
    (iblk m c 3 t : Vec Ideal S1x1x1024 .f32) (ix3 0 0 k) = a3 m c (ix3 (bat (tok t r)) 0 k) := by
  unfold iblk
  rw [show V m c (Pipeline.arrRef spec0 3) = a3 m c from V_main_arg3 m c]
  blk_simp
  refine congrArg (a3 m c) ?_
  have := bat_tok t r
  blk_ext [idx3]

theorem b4 (c : Dev nD) (t : Fin grid0.N) (k : Fin 1024) :
    (iblk m c 4 t : Vec Ideal S1x1024 .f32) (ix2 0 k) = a4 m c (ix1 k) := by
  unfold iblk
  rw [show V m c (Pipeline.arrRef spec0 4) = shapeCast S1x1024 (a4 m c) shapeCasts_S1024_S1x1024 from V_v1 m c]
  blk_simp
  rw [show (win0_4.blk t).view.emb (ix2 0 k) = (ix2 0 k : S1x1024.Idx) by blk_ext [idx4]]
  pointwise

theorem b5 (c : Dev nD) (t : Fin grid0.N) (r : Fin 512) (k : Fin 1024) :
    (iblk m c 5 t : Vec Ideal S1x1x1024 .f32) (ix3 0 0 k) = a5 m c (ix3 (bat (tok t r)) 0 k) := by
  unfold iblk
  rw [show V m c (Pipeline.arrRef spec0 5) = a5 m c from V_main_arg5 m c]
  blk_simp
  refine congrArg (a5 m c) ?_
  have := bat_tok t r
  blk_ext [idx5]

theorem b6 (c : Dev nD) (t : Fin grid0.N) (r : Fin 512) (k : Fin 1024) :
    (iblk m c 6 t : Vec Ideal S1x1x1024 .f32) (ix3 0 0 k) = a6 m c (ix3 (bat (tok t r)) 0 k) := by
  unfold iblk
  rw [show V m c (Pipeline.arrRef spec0 6) = a6 m c from V_main_arg6 m c]
  blk_simp
  refine congrArg (a6 m c) ?_
  have := bat_tok t r
  blk_ext [idx6]

/-! ### What a grid point leaves -/

theorem pay2_pt (c : Dev nD) (t : Fin grid0.N) (r : Fin 512) (k : Fin 1024) :
    k0_pay2 (F := Ideal) (iblk m c 0 t) (iblk m c 1 t) (iblk m c 2 t) (iblk m c 3 t) (ix2 r k)
      = stream (a0 m c) (a1 m c) (a2 m c) (a3 m c) (tok t r) k := by
  refine (pay2_apply _ _ _ _ _ _).trans ?_
  rw [b2, b3 m c t r]
  unfold stream
  refine congrArg (fun s => a2 m c (ix2 (tok t r) k) + a3 m c (ix3 (bat (tok t r)) 0 k) * s) (Finset.sum_congr rfl fun j _ => ?_)
  rw [b0, b1]

/-- Loads and stores of whole buffers. -/
theorem out7_eq (x0 : Vec Ideal S512x1024 .bf16) (x1 : Vec Ideal S1024x1024 .bf16) (x2 : Vec Ideal S512x1024 .f32) (x3 : Vec Ideal S1x1x1024 .f32)
    (x4 : Vec Ideal S1x1024 .f32) (x5 x6 : Vec Ideal S1x1x1024 .f32) :
    out0_7 (F := Ideal) x0 x1 x2 x3 x4 x5 x6 = k0_pay2 x0 x1 x2 x3 := by
  unfold out0_7
  rw [View.ld_unit_lit inb_S512x1024_S512x1024_0_0 x0 (by decide), View.ld_unit_lit inb_S1024x1024_S1024x1024_0_0 x1 (by decide),
    View.ld_unit_lit inb_S512x1024_S512x1024_0_0 x2 (by decide), View.ld_unit_lit inb_S1x1x1024_S1x1x1024_0_0_0 x3 (by decide)]
  exact View.canon_cons_unit_lit inb_S512x1024_S512x1024_0_0 _ _ (by decide)

theorem out8_eq (x0 : Vec Ideal S512x1024 .bf16) (x1 : Vec Ideal S1024x1024 .bf16) (x2 : Vec Ideal S512x1024 .f32) (x3 : Vec Ideal S1x1x1024 .f32)
    (x4 : Vec Ideal S1x1024 .f32) (x5 x6 : Vec Ideal S1x1x1024 .f32) :
    out0_8 (F := Ideal) x0 x1 x2 x3 x4 x5 x6 = k0_pay1 (k0_pay3 x0 x1 x2 x3 x4 x5) (k0_pay4 x6) := by
  unfold out0_8
  rw [View.ld_unit_lit inb_S512x1024_S512x1024_0_0 x0 (by decide), View.ld_unit_lit inb_S1024x1024_S1024x1024_0_0 x1 (by decide),
    View.ld_unit_lit inb_S512x1024_S512x1024_0_0 x2 (by decide), View.ld_unit_lit inb_S1x1x1024_S1x1x1024_0_0_0 x3 (by decide),
    View.ld_unit_lit inb_S1x1024_S1x1024_0_0 x4 (by decide), View.ld_unit_lit inb_S1x1x1024_S1x1x1024_0_0_0 x5 (by decide),
    View.ld_unit_lit inb_S1x1x1024_S1x1x1024_0_0_0 x6 (by decide)]
  exact View.canon_cons_unit_lit inb_S1024x512_S1024x512_0_0 _ _ (by decide)

theorem out8_pt (c : Dev nD) (t : Fin grid0.N) (r : Fin 512) (k : Fin 1024) :
    k0_pay1 (F := Ideal) (k0_pay3 (iblk m c 0 t) (iblk m c 1 t) (iblk m c 2 t) (iblk m c 3 t) (iblk m c 4 t) (iblk m c 5 t)) (k0_pay4 (iblk m c 6 t)) (ix2 k r)
      = next (a0 m c) (a1 m c) (a2 m c) (a3 m c) (a4 m c) (a5 m c) (a6 m c) (tok t r) k := by
  refine (pay1_apply _ _ _ _ _ _ _ _ _).trans ?_
  rw [b4, b5 m c t r, b6 m c t r]
  unfold next
  exact congrArg (fun s => normed s _ _ _ k) (funext fun j => pay2_pt m c t r j)

/-! ### The arrays at the end -/

/-- The first result, -/
def res0 (c : Dev nD) : S16384x1024.Idx → EReal := fun x => stream (a0 m c) (a1 m c) (a2 m c) (a3 m c) (x 0) (x 1)
/-- and the second. -/
def res1 (c : Dev nD) : S1024x16384.Idx → EReal := fun x => next (a0 m c) (a1 m c) (a2 m c) (a3 m c) (a4 m c) (a5 m c) (a6 m c) (x 1) (x 0)

theorem arr7 (c : Dev nD) : (dats m 0 c).arrAt 7 cfg0.N = res0 m c := by
  refine (dats m 0 c).arrAt_eq_of_covers 7 (res0 m c) (by decide +kernel) fun t hf y => ?_
  rw [after0_7, out7_eq]
  blk_simp
  idx_vars y
  refine (pay2_pt m c t _ _).trans ?_
  unfold res0
  rw [show ((View.whole main_v2_0).slice (win0_7.rect t)).emb (ix2 y0 y1) = (ix2 (tok t y0) y1 : S16384x1024.Idx) by
      blk_ext [idx7]
      rfl]
  rfl

theorem arr8 (c : Dev nD) : (dats m 0 c).arrAt 8 cfg0.N = res1 m c := by
  refine (dats m 0 c).arrAt_eq_of_covers 8 (res1 m c) (by decide +kernel) fun t hf y => ?_
  rw [after0_8, out8_eq]
  blk_simp
  idx_vars y
  refine (out8_pt m c t _ _).trans ?_
  unfold res1
  rw [show ((View.whole main_v2_1).slice (win0_8.rect t)).emb (ix2 y0 y1) = (ix2 y0 (tok t y1) : S1024x16384.Idx) by
      blk_ext [idx8]
      rfl]
  rfl

end Cert.Proof.Out

end
-- ==== Proof.Zero.Block.lean ====
/-
  The output projection of two attention outputs side by side, at the extended reals: what the kernel's body computes of
  one block of 512 tokens, entry by entry.
-/
module

public import proofs.«01_k».proof.Proof.Gen.ZeroKernelIdeal.Value
public import proofs.«01_k».proof.Proof.Out.Value

@[expose] public section

noncomputable section

namespace Cert.Proof.Zero

open Cert.ZeroKernelIdeal Cert.ZeroKernelIdeal.Gen
open Idealize.ShloMosaic

theorem pay2_apply (y : Vec Ideal S512x512 .bf16) (w : Vec Ideal S512x1024 .bf16) (y' : Vec Ideal S512x512 .bf16) (w' : Vec Ideal S512x1024 .bf16)
    (x : Vec Ideal S512x1024 .f32) (g : Vec Ideal S1x1x1024 .f32) (r : Fin 512) (c : Fin 1024) :
    k0_pay2 (F := Ideal) y w y' w' x g (ix2 r c)
      = x (ix2 r c) + g (ix3 0 0 c) * ((∑ k : Fin 512, y (ix2 r k) * w (ix2 k c)) + ∑ k : Fin 512, y' (ix2 r k) * w' (ix2 k c)) := by
  pointwise [k0_pay2]

theorem pay1_apply (y : Vec Ideal S512x512 .bf16) (w : Vec Ideal S512x1024 .bf16) (y' : Vec Ideal S512x512 .bf16) (w' : Vec Ideal S512x1024 .bf16)
    (x : Vec Ideal S512x1024 .f32) (g : Vec Ideal S1x1x1024 .f32) (n : Vec Ideal S1x1024 .f32) (sc sh : Vec Ideal S1x1x1024 .f32) (r : Fin 512) (c : Fin 1024) :
    k0_pay1 (F := Ideal) (k0_pay2 y w y' w' x g) (k0_pay3 n) (k0_pay4 sc) (k0_pay5 sh) (k0_pay6 y w y' w' x g) (ix2 c r)
      = Out.normed (fun k => k0_pay2 (F := Ideal) y w y' w' x g (ix2 r k)) (n (ix2 0 c)) (sc (ix3 0 0 c)) (sh (ix3 0 0 c)) c := by
  pointwise [k0_pay1, k0_pay3, k0_pay4, k0_pay5, k0_pay6]
  rfl

/-- The lower and the upper half of the weights' rows. -/
def lo (k : Fin 512) : Fin 1024 := ⟨k.val, by omega⟩
def hi (k : Fin 512) : Fin 1024 := ⟨512 + k.val, by omega⟩

theorem ld_lo (w : Vec Ideal S1024x1024 .bf16) (k : Fin 512) (c : Fin 1024) : View.ld w r0_1 (ix2 k c) = w (ix2 (lo k) c) := by
  refine View.ld_unit_apply_of w _ _ _ _ _ fun a => ?_
  fin_cases a
  · show (lo k).val = 0 + k.val
    simp [lo]
  · show c.val = 0 + c.val
    omega

theorem ld_hi (w : Vec Ideal S1024x1024 .bf16) (k : Fin 512) (c : Fin 1024) : View.ld w r0_2 (ix2 k c) = w (ix2 (hi k) c) := by
  refine View.ld_unit_apply_of w _ _ _ _ _ fun a => ?_
  fin_cases a
  · show (hi k).val = 512 + k.val
    simp [hi]
  · show c.val = 0 + c.val
    omega

end Cert.Proof.Zero

end
-- ==== Proof.Zero.Value.lean ====
/-
  The result arrays of the output projection of two attention outputs side by side, at the extended reals, entry by entry in
  the argument arrays: the stream with the gated projection added, and its normalized rows transposed.
-/
module

public import proofs.«01_k».proof.Proof.Zero.Block
public import Idealize.ShloMosaic.Lib.Pipeline.ValueKit

@[expose] public section

noncomputable section

namespace Cert.Proof.Zero

open Cert.ZeroKernelIdeal Cert.ZeroKernelIdeal.Gen
open Idealize.ShloMosaic
open Idealize.ShloMosaic.TcCoe
open Idealize.SL.Sem

open Cert.Proof.Out (bat normed)

/-- The stream at a token and a feature, after the two outputs are projected, gated and added, -/
def stream (y y' : S16384x512.Idx → EReal) (w : S1024x1024.Idx → EReal) (x : S16384x1024.Idx → EReal) (g : S2x1x1024.Idx → EReal)
    (r : Fin 16384) (c : Fin 1024) : EReal :=
  x (ix2 r c) + g (ix3 (bat r) 0 c) * ((∑ k : Fin 512, y (ix2 r k) * w (ix2 (lo k) c)) + ∑ k : Fin 512, y' (ix2 r k) * w (ix2 (hi k) c))

/-- and what the next layer reads there. -/
def next (y y' : S16384x512.Idx → EReal) (w : S1024x1024.Idx → EReal) (x : S16384x1024.Idx → EReal) (g : S2x1x1024.Idx → EReal)
    (n : S1024.Idx → EReal) (sc sh : S2x1x1024.Idx → EReal) (r : Fin 16384) (c : Fin 1024) : EReal :=
  normed (stream y y' w x g r) (n (ix1 c)) (sc (ix3 (bat r) 0 c)) (sh (ix3 (bat r) 0 c)) c

variable (m : (ℓ : Loc nD τ sig) → Buf (Elt Ideal) ℓ)

theorem t_lt (t : Fin grid0.N) : t.val < 32 := t.isLt

theorem idx0 : ∀ t : Fin grid0.N, win0_0.index t = ![t.val, 0] := (by decide +kernel : ∀ t : Fin grid0.N, _)
theorem idx1 : ∀ t : Fin grid0.N, win0_1.index t = ![t.val, 0] := (by decide +kernel : ∀ t : Fin grid0.N, _)
theorem idx2 : ∀ t : Fin grid0.N, win0_2.index t = ![0, 0] := (by decide +kernel : ∀ t : Fin grid0.N, _)
theorem idx3 : ∀ t : Fin grid0.N, win0_3.index t = ![t.val, 0] := (by decide +kernel : ∀ t : Fin grid0.N, _)
theorem idx4 : ∀ t : Fin grid0.N, win0_4.index t = ![t.val / 16, 0, 0] := (by decide +kernel : ∀ t : Fin grid0.N, _)
theorem idx5 : ∀ t : Fin grid0.N, win0_5.index t = ![0, 0] := (by decide +kernel : ∀ t : Fin grid0.N, _)
theorem idx6 : ∀ t : Fin grid0.N, win0_6.index t = ![t.val / 16, 0, 0] := (by decide +kernel : ∀ t : Fin grid0.N, _)
theorem idx7 : ∀ t : Fin grid0.N, win0_7.index t = ![t.val / 16, 0, 0] := (by decide +kernel : ∀ t : Fin grid0.N, _)
theorem idx8 : ∀ t : Fin grid0.N, win0_8.index t = ![t.val, 0] := (by decide +kernel : ∀ t : Fin grid0.N, _)
theorem idx9 : ∀ t : Fin grid0.N, win0_9.index t = ![0, t.val] := (by decide +kernel : ∀ t : Fin grid0.N, _)

/-- The arguments of a core. -/
abbrev a0 (c : Dev nD) : FVec Ideal S16384x512 .bf16 := m ((c.tc : Thread nD τ).loc main_arg0)
abbrev a1 (c : Dev nD) : FVec Ideal S16384x512 .bf16 := m ((c.tc : Thread nD τ).loc main_arg1)
abbrev a2 (c : Dev nD) : FVec Ideal S1024x1024 .f32 := m ((c.tc : Thread nD τ).loc main_arg2)
abbrev a3 (c : Dev nD) : FVec Ideal S16384x1024 .f32 := m ((c.tc : Thread nD τ).loc main_arg3)
abbrev a4 (c : Dev nD) : FVec Ideal S2x1x1024 .f32 := m ((c.tc : Thread nD τ).loc main_arg4)
abbrev a5 (c : Dev nD) : FVec Ideal S1024 .f32 := m ((c.tc : Thread nD τ).loc main_arg5)
abbrev a6 (c : Dev nD) : FVec Ideal S2x1x1024 .f32 := m ((c.tc : Thread nD τ).loc main_arg6)
abbrev a7 (c : Dev nD) : FVec Ideal S2x1x1024 .f32 := m ((c.tc : Thread nD τ).loc main_arg7)

theorem V_v0 (c : Dev nD) : V m c main_v0 = truncf .bf16 (a2 m c) bitsLt_bf16_f32 := by
  unfold V; after_results_simp <;> rfl
theorem V_v1 (c : Dev nD) : V m c main_v1 = shapeCast S1x1024 (a5 m c) shapeCasts_S1024_S1x1024 := by
  unfold V; after_results_simp <;> rfl

/-- A grid point's token. -/
def tok (t : Fin grid0.N) (r : Fin 512) : Fin 16384 := ⟨t.val * 512 + r.val, by have := t_lt t; omega⟩

theorem bat_tok (t : Fin grid0.N) (r : Fin 512) : (bat (tok t r)).val = t.val / 16 := by
  show (t.val * 512 + r.val) / 8192 = t.val / 16
  omega

/-! ### The staged blocks of a grid point, at their coordinates in the argument arrays -/

theorem b0 (c : Dev nD) (t : Fin grid0.N) (r : Fin 512) (k : Fin 512) :
    (iblk m c 0 t : Vec Ideal S512x512 .bf16) (ix2 r k) = a0 m c (ix2 (tok t r) k) := by
  unfold iblk
  rw [show V m c (Pipeline.arrRef spec0 0) = a0 m c from V_main_arg0 m c]
  blk_simp
  refine congrArg (a0 m c) ?_
  blk_ext [idx0]
  rfl

theorem b1 (c : Dev nD) (t : Fin grid0.N) (r : Fin 512) (k : Fin 512) :
    (iblk m c 1 t : Vec Ideal S512x512 .bf16) (ix2 r k) = a1 m c (ix2 (tok t r) k) := by
  unfold iblk
  rw [show V m c (Pipeline.arrRef spec0 1) = a1 m c from V_main_arg1 m c]
  blk_simp
  refine congrArg (a1 m c) ?_
  blk_ext [idx1]
  rfl

theorem b2 (c : Dev nD) (t : Fin grid0.N) (r k : Fin 1024) :
    (iblk m c 2 t : Vec Ideal S1024x1024 .bf16) (ix2 r k) = a2 m c (ix2 r k) := by
  unfold iblk
  rw [show V m c (Pipeline.arrRef spec0 2) = truncf .bf16 (a2 m c) bitsLt_bf16_f32 from V_v0 m c]
  blk_simp
  refine congrArg (a2 m c) ?_
  blk_ext [idx2]

theorem b3 (c : Dev nD) (t : Fin grid0.N) (r : Fin 512) (k : Fin 1024) :
    (iblk m c 3 t : Vec Ideal S512x1024 .f32) (ix2 r k) = a3 m c (ix2 (tok t r) k) := by
  unfold iblk
  rw [show V m c (Pipeline.arrRef spec0 3) = a3 m c from V_main_arg3 m c]
  blk_simp
  refine congrArg (a3 m c) ?_
  blk_ext [idx3]
  rfl

theorem b4 (c : Dev nD) (t : Fin grid0.N) (r : Fin 512) (k : Fin 1024) :
    (iblk m c 4 t : Vec Ideal S1x1x1024 .f32) (ix3 0 0 k) = a4 m c (ix3 (bat (tok t r)) 0 k) := by
  unfold iblk
  rw [show V m c (Pipeline.arrRef spec0 4) = a4 m c from V_main_arg4 m c]
  blk_simp
  refine congrArg (a4 m c) ?_
  have := bat_tok t r
  blk_ext [idx4]

theorem b5 (c : Dev nD) (t : Fin grid0.N) (k : Fin 1024) :
    (iblk m c 5 t : Vec Ideal S1x1024 .f32) (ix2 0 k) = a5 m c (ix1 k) := by
  unfold iblk
  rw [show V m c (Pipeline.arrRef spec0 5) = shapeCast S1x1024 (a5 m c) shapeCasts_S1024_S1x1024 from V_v1 m c]
  blk_simp
  rw [show (win0_5.blk t).view.emb (ix2 0 k) = (ix2 0 k : S1x1024.Idx) by blk_ext [idx5]]
  pointwise

theorem b6 (c : Dev nD) (t : Fin grid0.N) (r : Fin 512) (k : Fin 1024) :
    (iblk m c 6 t : Vec Ideal S1x1x1024 .f32) (ix3 0 0 k) = a6 m c (ix3 (bat (tok t r)) 0 k) := by
  unfold iblk
  rw [show V m c (Pipeline.arrRef spec0 6) = a6 m c from V_main_arg6 m c]
  blk_simp
  refine congrArg (a6 m c) ?_
  have := bat_tok t r
  blk_ext [idx6]

theorem b7 (c : Dev nD) (t : Fin grid0.N) (r : Fin 512) (k : Fin 1024) :
    (iblk m c 7 t : Vec Ideal S1x1x1024 .f32) (ix3 0 0 k) = a7 m c (ix3 (bat (tok t r)) 0 k) := by
  unfold iblk
  rw [show V m c (Pipeline.arrRef spec0 7) = a7 m c from V_main_arg7 m c]
  blk_simp
  refine congrArg (a7 m c) ?_
  have := bat_tok t r
  blk_ext [idx7]

/-! ### What a grid point leaves -/

/-- The block of the stream, from the staged blocks, -/
def strB (x0 x1 : Vec Ideal S512x512 .bf16) (x2 : Vec Ideal S1024x1024 .bf16) (x3 : Vec Ideal S512x1024 .f32) (x4 : Vec Ideal S1x1x1024 .f32) :
    Vec Ideal S512x1024 .f32 :=
  k0_pay2 (F := Ideal) x0 (View.ld x2 r0_1) x1 (View.ld x2 r0_2) x3 x4

/-- and the block of what the next layer reads. -/
def nextB (x0 x1 : Vec Ideal S512x512 .bf16) (x2 : Vec Ideal S1024x1024 .bf16) (x3 : Vec Ideal S512x1024 .f32) (x4 : Vec Ideal S1x1x1024 .f32)
    (x5 : Vec Ideal S1x1024 .f32) (x6 x7 : Vec Ideal S1x1x1024 .f32) : Vec Ideal S1024x512 .bf16 :=
  k0_pay1 (F := Ideal) (k0_pay2 x0 (View.ld x2 r0_1) x1 (View.ld x2 r0_2) x3 x4) (k0_pay3 x5) (k0_pay4 x6) (k0_pay5 x7)
    (k0_pay6 x0 (View.ld x2 r0_1) x1 (View.ld x2 r0_2) x3 x4)

theorem strB_pt (c : Dev nD) (t : Fin grid0.N) (r : Fin 512) (k : Fin 1024) :
    strB (iblk m c 0 t) (iblk m c 1 t) (iblk m c 2 t) (iblk m c 3 t) (iblk m c 4 t) (ix2 r k)
      = stream (a0 m c) (a1 m c) (a2 m c) (a3 m c) (a4 m c) (tok t r) k := by
  refine (pay2_apply _ _ _ _ _ _ _ _).trans ?_
  rw [b3, b4 m c t r]
  unfold stream
  refine congrArg (fun s => a3 m c (ix2 (tok t r) k) + a4 m c (ix3 (bat (tok t r)) 0 k) * s)
    (congrArg₂ (· + ·) (Finset.sum_congr rfl fun j _ => ?_) (Finset.sum_congr rfl fun j _ => ?_))
  · rw [b0, ld_lo, b2]
  · rw [b1, ld_hi, b2]

/-- Loads and stores of whole buffers. -/
theorem out8_eq (x0 x1 : Vec Ideal S512x512 .bf16) (x2 : Vec Ideal S1024x1024 .bf16) (x3 : Vec Ideal S512x1024 .f32) (x4 : Vec Ideal S1x1x1024 .f32)
    (x5 : Vec Ideal S1x1024 .f32) (x6 x7 : Vec Ideal S1x1x1024 .f32) :
    out0_8 (F := Ideal) x0 x1 x2 x3 x4 x5 x6 x7 = strB x0 x1 x2 x3 x4 := by
  unfold out0_8
  rw [View.ld_unit_lit inb_S512x512_S512x512_0_0 x0 (by decide), View.ld_unit_lit inb_S512x512_S512x512_0_0 x1 (by decide),
    View.ld_unit_lit inb_S512x1024_S512x1024_0_0 x3 (by decide), View.ld_unit_lit inb_S1x1x1024_S1x1x1024_0_0_0 x4 (by decide)]
  exact View.canon_cons_unit_lit inb_S512x1024_S512x1024_0_0 _ _ (by decide)

theorem out9_eq (x0 x1 : Vec Ideal S512x512 .bf16) (x2 : Vec Ideal S1024x1024 .bf16) (x3 : Vec Ideal S512x1024 .f32) (x4 : Vec Ideal S1x1x1024 .f32)
    (x5 : Vec Ideal S1x1024 .f32) (x6 x7 : Vec Ideal S1x1x1024 .f32) :
    out0_9 (F := Ideal) x0 x1 x2 x3 x4 x5 x6 x7 = nextB x0 x1 x2 x3 x4 x5 x6 x7 := by
  unfold out0_9
  rw [View.ld_unit_lit inb_S512x512_S512x512_0_0 x0 (by decide), View.ld_unit_lit inb_S512x512_S512x512_0_0 x1 (by decide),
    View.ld_unit_lit inb_S512x1024_S512x1024_0_0 x3 (by decide), View.ld_unit_lit inb_S1x1x1024_S1x1x1024_0_0_0 x4 (by decide),
    View.ld_unit_lit inb_S1x1024_S1x1024_0_0 x5 (by decide), View.ld_unit_lit inb_S1x1x1024_S1x1x1024_0_0_0 x6 (by decide),
    View.ld_unit_lit inb_S1x1x1024_S1x1x1024_0_0_0 x7 (by decide)]
  exact View.canon_cons_unit_lit inb_S1024x512_S1024x512_0_0 _ _ (by decide)

theorem nextB_pt (c : Dev nD) (t : Fin grid0.N) (r : Fin 512) (k : Fin 1024) :
    nextB (iblk m c 0 t) (iblk m c 1 t) (iblk m c 2 t) (iblk m c 3 t) (iblk m c 4 t) (iblk m c 5 t) (iblk m c 6 t) (iblk m c 7 t) (ix2 k r)
      = next (a0 m c) (a1 m c) (a2 m c) (a3 m c) (a4 m c) (a5 m c) (a6 m c) (a7 m c) (tok t r) k := by
  refine (pay1_apply _ _ _ _ _ _ _ _ _ _ _).trans ?_
  rw [b5, b6 m c t r, b7 m c t r]
  unfold next
  exact congrArg (fun s => normed s _ _ _ k) (funext fun j => strB_pt m c t r j)

/-! ### The arrays at the end -/

/-- The first result, -/
def res0 (c : Dev nD) : S16384x1024.Idx → EReal := fun x => stream (a0 m c) (a1 m c) (a2 m c) (a3 m c) (a4 m c) (x 0) (x 1)
/-- and the second. -/
def res1 (c : Dev nD) : S1024x16384.Idx → EReal := fun x => next (a0 m c) (a1 m c) (a2 m c) (a3 m c) (a4 m c) (a5 m c) (a6 m c) (a7 m c) (x 1) (x 0)

theorem arr8 (c : Dev nD) : (dats m 0 c).arrAt 8 cfg0.N = res0 m c := by
  refine (dats m 0 c).arrAt_eq_of_covers 8 (res0 m c) (by decide +kernel) fun t hf y => ?_
  rw [after0_8, out8_eq]
  blk_simp
  idx_vars y
  refine (strB_pt m c t _ _).trans ?_
  unfold res0
  rw [show ((View.whole main_v2_0).slice (win0_8.rect t)).emb (ix2 y0 y1) = (ix2 (tok t y0) y1 : S16384x1024.Idx) by
      blk_ext [idx8]
      rfl]
  rfl

theorem arr9 (c : Dev nD) : (dats m 0 c).arrAt 9 cfg0.N = res1 m c := by
  refine (dats m 0 c).arrAt_eq_of_covers 9 (res1 m c) (by decide +kernel) fun t hf y => ?_
  rw [after0_9, out9_eq]
  blk_simp
  idx_vars y
  refine (nextB_pt m c t _ _).trans ?_
  unfold res1
  rw [show ((View.whole main_v2_1).slice (win0_9.rect t)).emb (ix2 y0 y1) = (ix2 y0 (tok t y1) : S1024x16384.Idx) by
      blk_ext [idx9]
      rfl]
  rfl

end Cert.Proof.Zero

end
-- ==== Proof.Zero.Ref.lean ====
/-
  The reference's results for the output projection of two attention outputs side by side, at the extended reals, entry by entry.
-/
module

public import proofs.«01_k».proof.Proof.Zero.Value
public import proofs.«01_k».proof.Proof.Gen.ZeroReferenceIdeal.Run

@[expose] public section

noncomputable section

namespace Cert.Proof.ZeroRef

open Cert.ZeroReferenceIdeal Cert.ZeroReferenceIdeal.Gen
open Idealize.ShloMosaic

abbrev A := FVec Ideal S2x8192x1024 .f32
abbrev M := FVec Ideal S2x1x1024 .f32

/-- The stream after the gated projection, by sequence, position and feature. -/
def xR (y y' : FVec Ideal S16384x512 .bf16) (w : FVec Ideal S1024x1024 .f32) (x : FVec Ideal S16384x1024 .f32) (g : M) : A :=
  addf (shapeCast _ x shapeCasts_S16384x1024_S2x8192x1024) (mulf (broadcastInDim S2x8192x1024 ![0, 1, 2] bcast_S2x1x1024_S2x8192x1024_0_1_2 g)
    (Host.dotGeneral dot_S2x8192x1024_S1024x1024_S2x8192x1024_2_0_01_1_n_n none (concatenate S2x8192x1024 2
      [⟨S2x8192x512, (shapeCast _ (extf .f32 y bitsLt_bf16_f32) shapeCasts_S16384x512_S2x8192x512)⟩,
        ⟨S2x8192x512, (shapeCast _ (extf .f32 y' bitsLt_bf16_f32) shapeCasts_S16384x512_S2x8192x512)⟩] concatenates_S2x8192x512_S2x8192x512_S2x8192x1024_d2) w))

/-- The sums of squares. -/
def qR (x : A) : FVec Ideal S2x8192 .f32 :=
  Host.reduceAdd (mulf x x) (constant S_ .f32 0x00000000#32) reducesTo_S2x8192x1024_S2x8192_d2 h_S_

/-- The reciprocal roots of the mean squares. -/
def sR (q : FVec Ideal S2x8192 .f32) : FVec Ideal S2x8192x1 .f32 :=
  Host.rsqrt (addf (Host.divf (broadcastInDim S2x8192x1 ![0, 1] bcast_S2x8192_S2x8192x1_0_1 q)
    (broadcastInDim S2x8192x1 ![] bcast_S_S2x8192x1 (constant S_ .f32 0x44800000#32))) (broadcastInDim S2x8192x1 ![] bcast_S_S2x8192x1 (constant S_ .f32 0x358637BD#32)))

/-- The normalized, scaled and shifted stream. -/
def hR (x : A) (n : FVec Ideal S1024 .f32) (sc sh : M) : A :=
  addf (mulf (mulf (mulf x (broadcastInDim S2x8192x1024 ![0, 1, 2] bcast_S2x8192x1_S2x8192x1024_0_1_2 (sR (qR x))))
      (broadcastInDim S2x8192x1024 ![0, 1, 2] bcast_S1x1x1024_S2x8192x1024_0_1_2 (broadcastInDim S1x1x1024 ![2] bcast_S1024_S1x1x1024_2 n)))
      (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

def r0 (x : A) : FVec Ideal S16384x1024 .f32 := shapeCast _ x shapeCasts_S2x8192x1024_S16384x1024
def r1 (x : A) : FVec Ideal S1024x16384 .bf16 :=
  truncf .bf16 (transpose S1024x16384 [1, 0] (shapeCast _ x shapeCasts_S2x8192x1024_S16384x1024) transposes_S16384x1024_S1024x16384_1_0) bitsLt_bf16_f32

/-- A token's position in its sequence. -/
def pos (r : Fin 16384) : Fin 8192 := ⟨r.val % 8192, Nat.mod_lt _ (by decide)⟩

theorem r0_apply (x : A) (r : Fin 16384) (c : Fin 1024) : r0 x (ix2 r c) = x (ix3 (Out.bat r) (pos r) c) := by
  pointwise [r0]
  rfl

theorem r1_apply (x : A) (r : Fin 16384) (c : Fin 1024) : r1 x (ix2 c r) = x (ix3 (Out.bat r) (pos r) c) := by
  pointwise [r1]
  rfl

theorem row (r : Fin 16384) (h : (Out.bat r).val * 8192 + (pos r).val < 16384) : (⟨(Out.bat r).val * 8192 + (pos r).val, h⟩ : Fin 16384) = r :=
  Fin.ext (Nat.div_add_mod' r.val 8192)

theorem xR_apply (y y' : FVec Ideal S16384x512 .bf16) (w : FVec Ideal S1024x1024 .f32) (x : FVec Ideal S16384x1024 .f32) (g : M) (r : Fin 16384) (c : Fin 1024) :
    xR y y' w x g (ix3 (Out.bat r) (pos r) c) = Zero.stream y y' w x g r c := by
  pointwise [xR, Zero.stream]
  simp only [row]
  rfl

theorem qR_apply (x : A) (b : Fin 2) (s : Fin 8192) : qR x (ix2 b s) = ∑ k : Fin 1024, x (ix3 b s k) * x (ix3 b s k) := by
  pointwise [qR]

theorem hR_apply (x : A) (n : FVec Ideal S1024 .f32) (sc sh : M) (b : Fin 2) (s : Fin 8192) (c : Fin 1024) :
    hR x n sc sh (ix3 b s c) = Out.normed (fun k => x (ix3 b s k)) (n (ix1 c)) (sc (ix3 b 0 c)) (sh (ix3 b 0 c)) c := by
  pointwise [hR, sR]
  rw [qR_apply]
  rfl

theorem res0_eq (y y' : FVec Ideal S16384x512 .bf16) (w : FVec Ideal S1024x1024 .f32) (x : FVec Ideal S16384x1024 .f32) (g : M) :
    r0 (xR y y' w x g) = fun i : S16384x1024.Idx => Zero.stream y y' w x g (i 0) (i 1) := by
  funext i
  refine (congrArg _ (show i = ix2 (i 0) (i 1) by funext a; fin_cases a <;> rfl)).trans ?_
  exact (r0_apply _ _ _).trans (xR_apply _ _ _ _ _ _ _)

theorem res1_eq (y y' : FVec Ideal S16384x512 .bf16) (w : FVec Ideal S1024x1024 .f32) (x : FVec Ideal S16384x1024 .f32) (g : M)
    (n : FVec Ideal S1024 .f32) (sc sh : M) :
    r1 (hR (xR y y' w x g) n sc sh) = fun i : S1024x16384.Idx => Zero.next y y' w x g n sc sh (i 1) (i 0) := by
  funext i
  refine (congrArg _ (show i = ix2 (i 0) (i 1) by funext a; fin_cases a <;> rfl)).trans ?_
  refine (r1_apply _ _ _).trans ((hR_apply _ _ _ _ _ _ _).trans ?_)
  exact congrArg (fun s => Out.normed s _ _ _ _) (funext fun k => xR_apply _ _ _ _ _ _ _)

end Cert.Proof.ZeroRef

end
-- ==== Proof.Zero.Result.lean ====
/-
  The result arrays of the output projection of two attention outputs side by side are the reference's.
-/
module

public import proofs.«01_k».proof.Proof.Zero.Ref
public import proofs.«01_k».proof.Defs

@[expose] public section

noncomputable section

namespace Cert.Proof

open Idealize.ShloMosaic Idealize.SL.Sem

theorem zeroAlgebraic :
    algebraic_ZeroKernelIdeal_ZeroReferenceIdeal (hZeroKernelIdeal := Cert.ZeroKernelIdeal.Gen.facts) (hZeroReferenceIdeal := Cert.ZeroReferenceIdeal.Gen.facts) := by
  intro m g m' g' _ hargs
  refine ⟨fun c => Zero.res0 m c, fun c => Zero.res1 m c,
    (θ_run Cert.ZeroKernelIdeal.defs _ _).mono (fun r h c => ⟨(h c).1.trans (Zero.arr8 m c), (h c).2.1.trans (Zero.arr9 m c), (h c).2.2⟩)
      (Cert.ZeroKernelIdeal.Value.run_blocks m g), ?_⟩
  refine (θ_run Cert.ZeroReferenceIdeal.defs _ _).mono (fun r h c => ⟨(h c).1.trans ?_, (h c).2.1.trans ?_, (h c).2.2⟩) (Cert.ZeroReferenceIdeal.Value.run m' g')
  · obtain ⟨h0, h1, h2, h3, h4, h5, h6, h7⟩ := hargs c
    rw [h0, h1, h2, h3, h4]
    exact ZeroRef.res0_eq _ _ _ _ _
  · obtain ⟨h0, h1, h2, h3, h4, h5, h6, h7⟩ := hargs c
    rw [h0, h1, h2, h3, h4, h5, h6, h7]
    exact ZeroRef.res1_eq _ _ _ _ _ _ _ _

theorem zeroRefFrame :
    quiescent_ZeroReferenceIdeal (hZeroReferenceIdeal := Cert.ZeroReferenceIdeal.Gen.facts) :=
  fun m g _ => (θ_run Cert.ZeroReferenceIdeal.defs _ _).mono (fun r h => ⟨fun c => (h c).2.2, Idealize.ShloMosaic.sem_eq_zero_of_no_sems (by decide) r.2⟩) (Cert.ZeroReferenceIdeal.Value.run m g)

end Cert.Proof

end
-- ==== Proof.In.Block.lean ====
/-
  The projection of the normalized stream into queries, keys and values, at the extended reals: what the kernel's body
  computes of one block of 512 tokens, entry by entry.
-/
module

public import proofs.«01_k».proof.Proof.Gen.InKernelIdeal.Value
public import proofs.«01_k».proof.Proof.Out.Block

@[expose] public section

noncomputable section

namespace Cert.Proof.In

open Cert.InKernelIdeal Cert.InKernelIdeal.Gen
open Idealize.ShloMosaic

theorem pay2_apply (x : Vec Ideal S512x1024 .f32) (n : Vec Ideal S1x1024 .f32) (sc sh : Vec Ideal S1x1x1024 .f32) (r : Fin 512) (c : Fin 1024) :
    k0_pay2 (F := Ideal) x n sc sh (ix2 r c)
      = Out.normed (fun k => x (ix2 r k)) (n (ix2 0 c)) (sc (ix3 0 0 c)) (sh (ix3 0 0 c)) c := by
  pointwise [k0_pay2]
  rfl

theorem pay3_apply (x : Vec Ideal S512x1024 .f32) (n : Vec Ideal S1x1024 .f32) (sc sh : Vec Ideal S1x1x1024 .f32) (w : Vec Ideal S1024x1024 .bf16)
    (r : Fin 512) (c : Fin 1024) :
    k0_pay3 (F := Ideal) x n sc sh w (ix2 r c) = ∑ k : Fin 1024, k0_pay2 (F := Ideal) x n sc sh (ix2 r k) * w (ix2 k c) := by
  pointwise [k0_pay3]

theorem pay6_apply (x : Vec Ideal S512x1024 .f32) (n : Vec Ideal S1x1024 .f32) (sc sh : Vec Ideal S1x1x1024 .f32) (w : Vec Ideal S1024x1024 .bf16)
    (c : Fin 1024) (r : Fin 512) :
    k0_pay6 (F := Ideal) (k0_pay4 x n sc sh w) k0_pay5 (ix2 c r)
      = (∑ k : Fin 1024, w (ix2 c k) * k0_pay2 (F := Ideal) x n sc sh (ix2 r k)) * Ideal.ofBits .f32 0x3E000000#32 := by
  pointwise [k0_pay6, k0_pay4, k0_pay5]

theorem pay7_apply (h : FVec Ideal S512x1024 .bf16) (w : Vec Ideal S1024x1024 .bf16) (c : Fin 1024) (r : Fin 512) :
    k0_pay7 (F := Ideal) h w (ix2 c r) = ∑ k : Fin 1024, w (ix2 c k) * h (ix2 r k) := by
  pointwise [k0_pay7]

/-- A block's largest absolute key, by channel. -/
theorem pay10_le (k : FVec Ideal S512x1024 .bf16) (c : Fin 1024) (b : EReal) :
    k0_pay10 (F := Ideal) k (ix2 0 c) ≤ b ↔ ∀ r : Fin 512, max (k (ix2 r c)) (-k (ix2 r c)) ≤ b := by
  pointwise [k0_pay10]
  rw [Finset.fold_max_le, show Ideal.ofBits .f32 4286578688#32 = (⊥ : EReal) by simp [Ideal.ofBits, Ideal.ieee]]
  exact ⟨fun h r => h.2 r (Finset.mem_univ _), fun h => ⟨bot_le, fun r _ => h r⟩⟩

theorem pay11_apply (k : FVec Ideal S512x1024 .bf16) (c : Fin 1024) :
    k0_pay11 (F := Ideal) k (ix3 0 0 c) = k0_pay10 (F := Ideal) k (ix2 0 c) := by
  pointwise [k0_pay11]

theorem pay1_apply (a : FVec Ideal S1x1024 .f32) (p : Vec Ideal S1x1x1024 .f32) (c : Fin 1024) :
    k0_pay1 (F := Ideal) a p (ix3 0 0 c) = max (p (ix3 0 0 c)) (a (ix2 0 c)) := by
  pointwise [k0_pay1]

end Cert.Proof.In

end
-- ==== Proof.In.Blocks.lean ====
/-
  The blocks that a grid point of the projection reads, at their coordinates in the argument arrays.
-/
module

public import proofs.«01_k».proof.Proof.In.Block
public import proofs.«01_k».proof.Proof.Out.Value

@[expose] public section

noncomputable section

namespace Cert.Proof.In

open Cert.InKernelIdeal Cert.InKernelIdeal.Gen
open Idealize.ShloMosaic
open Idealize.ShloMosaic.TcCoe
open Idealize.SL.Sem

variable (m : (ℓ : Loc nD τ sig) → Buf (Elt Ideal) ℓ)

theorem t_lt (t : Fin grid0.N) : t.val < 32 := t.isLt

theorem idx0 : ∀ t : Fin grid0.N, win0_0.index t = ![t.val, 0] := (by decide +kernel : ∀ t : Fin grid0.N, _)
theorem idx1 : ∀ t : Fin grid0.N, win0_1.index t = ![t.val / 16, 0, 0] := (by decide +kernel : ∀ t : Fin grid0.N, _)
theorem idx2 : ∀ t : Fin grid0.N, win0_2.index t = ![t.val / 16, 0, 0] := (by decide +kernel : ∀ t : Fin grid0.N, _)
theorem idx3 : ∀ t : Fin grid0.N, win0_3.index t = ![0, 0] := (by decide +kernel : ∀ t : Fin grid0.N, _)
theorem idx4 : ∀ t : Fin grid0.N, win0_4.index t = ![0, 0] := (by decide +kernel : ∀ t : Fin grid0.N, _)
theorem idx5 : ∀ t : Fin grid0.N, win0_5.index t = ![0, 0] := (by decide +kernel : ∀ t : Fin grid0.N, _)
theorem idx6 : ∀ t : Fin grid0.N, win0_6.index t = ![0, 0] := (by decide +kernel : ∀ t : Fin grid0.N, _)
theorem idx7 : ∀ t : Fin grid0.N, win0_7.index t = ![0, t.val] := (by decide +kernel : ∀ t : Fin grid0.N, _)
theorem idx8 : ∀ t : Fin grid0.N, win0_8.index t = ![t.val, 0] := (by decide +kernel : ∀ t : Fin grid0.N, _)
theorem idx9 : ∀ t : Fin grid0.N, win0_9.index t = ![t.val, 0, 0] := (by decide +kernel : ∀ t : Fin grid0.N, _)
theorem idx10 : ∀ t : Fin grid0.N, win0_10.index t = ![t.val / 16, 0, 0] := (by decide +kernel : ∀ t : Fin grid0.N, _)

/-- The arguments of a core. -/
abbrev a0 (c : Dev nD) : FVec Ideal S16384x1024 .f32 := m ((c.tc : Thread nD τ).loc main_arg0)
abbrev a1 (c : Dev nD) : FVec Ideal S2x1x1024 .f32 := m ((c.tc : Thread nD τ).loc main_arg1)
abbrev a2 (c : Dev nD) : FVec Ideal S2x1x1024 .f32 := m ((c.tc : Thread nD τ).loc main_arg2)
abbrev a3 (c : Dev nD) : FVec Ideal S1024 .f32 := m ((c.tc : Thread nD τ).loc main_arg3)
abbrev a4 (c : Dev nD) : FVec Ideal S1024x3072 .f32 := m ((c.tc : Thread nD τ).loc main_arg4)

/-- The weights, cut in three, as the kernel stages them. -/
def wK (w : FVec Ideal S1024x3072 .f32) : FVec Ideal S1024x1024 .bf16 :=
  extractStridedSlice S1024x1024 ![0, 1024] (truncf .bf16 w bitsLt_bf16_f32) slices_S1024x3072_S1024x1024_0_1024
def wQ (w : FVec Ideal S1024x3072 .f32) : FVec Ideal S1024x1024 .bf16 :=
  transpose S1024x1024 [1, 0] (extractStridedSlice S1024x1024 ![0, 0] (truncf .bf16 w bitsLt_bf16_f32) slices_S1024x3072_S1024x1024_0_0) transposes_S1024x1024_S1024x1024_1_0
def wV (w : FVec Ideal S1024x3072 .f32) : FVec Ideal S1024x1024 .bf16 :=
  transpose S1024x1024 [1, 0] (extractStridedSlice S1024x1024 ![0, 2048] (truncf .bf16 w bitsLt_bf16_f32) slices_S1024x3072_S1024x1024_0_2048) transposes_S1024x1024_S1024x1024_1_0

/-- Columns of the weights: of a query channel, a key channel and a value channel. -/
def colQ (c : Fin 1024) : Fin 3072 := ⟨c.val, by omega⟩
def colK (c : Fin 1024) : Fin 3072 := ⟨1024 + c.val, by omega⟩
def colV (c : Fin 1024) : Fin 3072 := ⟨2048 + c.val, by omega⟩

theorem wK_apply (w : FVec Ideal S1024x3072 .f32) (k c : Fin 1024) : wK w (ix2 k c) = w (ix2 k (colK c)) := by
  pointwise [wK]
  blk_ext
  rfl
theorem wQ_apply (w : FVec Ideal S1024x3072 .f32) (k c : Fin 1024) : wQ w (ix2 c k) = w (ix2 k (colQ c)) := by
  pointwise [wQ]
  blk_ext
  rfl
theorem wV_apply (w : FVec Ideal S1024x3072 .f32) (k c : Fin 1024) : wV w (ix2 c k) = w (ix2 k (colV c)) := by
  pointwise [wV]
  blk_ext
  rfl

theorem V_v1 (c : Dev nD) : V m c main_v1 = shapeCast S1x1024 (a3 m c) shapeCasts_S1024_S1x1024 := by
  unfold V; after_results_simp <;> rfl
theorem V_v2 (c : Dev nD) : V m c main_v2 = wK (a4 m c) := by
  unfold V; after_results_simp <;> rfl
theorem V_v4 (c : Dev nD) : V m c main_v4 = wQ (a4 m c) := by
  unfold V; after_results_simp <;> rfl
theorem V_v6 (c : Dev nD) : V m c main_v6 = wV (a4 m c) := by
  unfold V; after_results_simp <;> rfl

/-- A grid point's token. -/
def tok (t : Fin grid0.N) (r : Fin 512) : Fin 16384 := ⟨t.val * 512 + r.val, by have := t_lt t; omega⟩

theorem bat_tok (t : Fin grid0.N) (r : Fin 512) : (Out.bat (tok t r)).val = t.val / 16 := by
  show (t.val * 512 + r.val) / 8192 = t.val / 16
  omega

theorem b0 (c : Dev nD) (t : Fin grid0.N) (r : Fin 512) (k : Fin 1024) :
    (iblk m c 0 t : Vec Ideal S512x1024 .f32) (ix2 r k) = a0 m c (ix2 (tok t r) k) := by
  unfold iblk
  rw [show V m c (Pipeline.arrRef spec0 0) = a0 m c from V_main_arg0 m c]
  blk_simp
  refine congrArg (a0 m c) ?_
  blk_ext [idx0]
  rfl

theorem b1 (c : Dev nD) (t : Fin grid0.N) (r : Fin 512) (k : Fin 1024) :
    (iblk m c 1 t : Vec Ideal S1x1x1024 .f32) (ix3 0 0 k) = a1 m c (ix3 (Out.bat (tok t r)) 0 k) := by
  unfold iblk
  rw [show V m c (Pipeline.arrRef spec0 1) = a1 m c from V_main_arg1 m c]
  blk_simp
  refine congrArg (a1 m c) ?_
  have := bat_tok t r
  blk_ext [idx1]

theorem b2 (c : Dev nD) (t : Fin grid0.N) (r : Fin 512) (k : Fin 1024) :
    (iblk m c 2 t : Vec Ideal S1x1x1024 .f32) (ix3 0 0 k) = a2 m c (ix3 (Out.bat (tok t r)) 0 k) := by
  unfold iblk
  rw [show V m c (Pipeline.arrRef spec0 2) = a2 m c from V_main_arg2 m c]
  blk_simp
  refine congrArg (a2 m c) ?_
  have := bat_tok t r
  blk_ext [idx2]

theorem b3 (c : Dev nD) (t : Fin grid0.N) (k : Fin 1024) :
    (iblk m c 3 t : Vec Ideal S1x1024 .f32) (ix2 0 k) = a3 m c (ix1 k) := by
  unfold iblk
  rw [show V m c (Pipeline.arrRef spec0 3) = shapeCast S1x1024 (a3 m c) shapeCasts_S1024_S1x1024 from V_v1 m c]
  blk_simp
  rw [show (win0_3.blk t).view.emb (ix2 0 k) = (ix2 0 k : S1x1024.Idx) by blk_ext [idx3]]
  pointwise

theorem b4 (c : Dev nD) (t : Fin grid0.N) (k j : Fin 1024) :
    (iblk m c 4 t : Vec Ideal S1024x1024 .bf16) (ix2 k j) = a4 m c (ix2 k (colK j)) := by
  unfold iblk
  rw [show V m c (Pipeline.arrRef spec0 4) = wK (a4 m c) from V_v2 m c]
  blk_simp
  rw [show (win0_4.blk t).view.emb (ix2 k j) = (ix2 k j : S1024x1024.Idx) by blk_ext [idx4]]
  exact wK_apply _ _ _

theorem b5 (c : Dev nD) (t : Fin grid0.N) (k j : Fin 1024) :
    (iblk m c 5 t : Vec Ideal S1024x1024 .bf16) (ix2 j k) = a4 m c (ix2 k (colQ j)) := by
  unfold iblk
  rw [show V m c (Pipeline.arrRef spec0 5) = wQ (a4 m c) from V_v4 m c]
  blk_simp
  rw [show (win0_5.blk t).view.emb (ix2 j k) = (ix2 j k : S1024x1024.Idx) by blk_ext [idx5]]
  exact wQ_apply _ _ _

theorem b6 (c : Dev nD) (t : Fin grid0.N) (k j : Fin 1024) :
    (iblk m c 6 t : Vec Ideal S1024x1024 .bf16) (ix2 j k) = a4 m c (ix2 k (colV j)) := by
  unfold iblk
  rw [show V m c (Pipeline.arrRef spec0 6) = wV (a4 m c) from V_v6 m c]
  blk_simp
  rw [show (win0_6.blk t).view.emb (ix2 j k) = (ix2 j k : S1024x1024.Idx) by blk_ext [idx6]]
  exact wV_apply _ _ _

/-- The projection of a token, by column of the weights. -/
def proj (x : S16384x1024.Idx → EReal) (sc sh : S2x1x1024.Idx → EReal) (n : S1024.Idx → EReal) (w : S1024x3072.Idx → EReal)
    (r : Fin 16384) (j : Fin 3072) : EReal :=
  ∑ k : Fin 1024, Out.normed (fun i => x (ix2 r i)) (n (ix1 k)) (sc (ix3 (Out.bat r) 0 k)) (sh (ix3 (Out.bat r) 0 k)) k * w (ix2 k j)

abbrev pr (c : Dev nD) : Fin 16384 → Fin 3072 → EReal := proj (a0 m c) (a1 m c) (a2 m c) (a3 m c) (a4 m c)

theorem pay2_pt (c : Dev nD) (t : Fin grid0.N) (r : Fin 512) (k : Fin 1024) :
    k0_pay2 (F := Ideal) (iblk m c 0 t) (iblk m c 3 t) (iblk m c 1 t) (iblk m c 2 t) (ix2 r k)
      = Out.normed (fun i => a0 m c (ix2 (tok t r) i)) (a3 m c (ix1 k)) (a1 m c (ix3 (Out.bat (tok t r)) 0 k)) (a2 m c (ix3 (Out.bat (tok t r)) 0 k)) k := by
  refine (pay2_apply _ _ _ _ _ _).trans ?_
  rw [b3, b1 m c t r, b2 m c t r]
  exact congrArg (fun s => Out.normed s _ _ _ k) (funext fun i => b0 m c t r i)

theorem pay3_pt (c : Dev nD) (t : Fin grid0.N) (r : Fin 512) (j : Fin 1024) :
    k0_pay3 (F := Ideal) (iblk m c 0 t) (iblk m c 3 t) (iblk m c 1 t) (iblk m c 2 t) (iblk m c 4 t) (ix2 r j) = pr m c (tok t r) (colK j) := by
  refine (pay3_apply _ _ _ _ _ _ _).trans (Finset.sum_congr rfl fun k _ => ?_)
  rw [pay2_pt, b4]

theorem pay6_pt (c : Dev nD) (t : Fin grid0.N) (r : Fin 512) (j : Fin 1024) :
    k0_pay6 (F := Ideal) (k0_pay4 (iblk m c 0 t) (iblk m c 3 t) (iblk m c 1 t) (iblk m c 2 t) (iblk m c 5 t)) k0_pay5 (ix2 j r)
      = pr m c (tok t r) (colQ j) * Ideal.ofBits .f32 0x3E000000#32 := by
  refine (pay6_apply _ _ _ _ _ _ _).trans (congrArg (· * _) (Finset.sum_congr rfl fun k _ => ?_))
  rw [pay2_pt, b5, mul_comm]

theorem pay7_pt (c : Dev nD) (t : Fin grid0.N) (r : Fin 512) (j : Fin 1024) :
    k0_pay7 (F := Ideal) (k0_pay2 (iblk m c 0 t) (iblk m c 3 t) (iblk m c 1 t) (iblk m c 2 t)) (iblk m c 6 t) (ix2 j r) = pr m c (tok t r) (colV j) := by
  refine (pay7_apply _ _ _ _).trans (Finset.sum_congr rfl fun k _ => ?_)
  rw [pay2_pt, b6, mul_comm]

end Cert.Proof.In

end
-- ==== Proof.In.Value.lean ====
/-
  What a grid point of the projection leaves in its four result blocks.
-/
module

public import proofs.«01_k».proof.Proof.In.Blocks
public import Idealize.ShloMosaic.Lib.Pipeline.ValueKit

@[expose] public section

noncomputable section

namespace Cert.Proof.In

open Cert.InKernelIdeal Cert.InKernelIdeal.Gen
open Idealize.ShloMosaic
open Idealize.ShloMosaic.TcCoe
open Idealize.SL.Sem

variable (m : (ℓ : Loc nD τ sig) → Buf (Elt Ideal) ℓ)

theorem o7 (c : Dev nD) (t : Fin cfg0.N) (j : Fin 1024) (r : Fin 512) :
    (outsAt0 m c t.val t.isLt).1 (ix2 j r) = pr m c (tok t r) (colQ j) * Ideal.ofBits .f32 0x3E000000#32 := by
  by_cases h : t.val % 16 = 0
  · rw [outsAt0_A m c t h (not_not.2 h)]
    frame_out
    exact pay6_pt m c t r j
  · rw [outsAt0_B m c t h h]
    frame_out
    exact pay6_pt m c t r j

theorem o8 (c : Dev nD) (t : Fin cfg0.N) (r : Fin 512) (j : Fin 1024) :
    (outsAt0 m c t.val t.isLt).2.1 (ix2 r j) = pr m c (tok t r) (colK j) := by
  by_cases h : t.val % 16 = 0
  · rw [outsAt0_A m c t h (not_not.2 h)]
    frame_out
    exact pay3_pt m c t r j
  · rw [outsAt0_B m c t h h]
    frame_out
    exact pay3_pt m c t r j

/-- The token of a value block's row. -/
def tokV (t : Fin grid0.N) (b : Fin 2) (s : Fin 256) : Fin 512 := ⟨b.val * 256 + s.val, by omega⟩

theorem o9 (c : Dev nD) (t : Fin cfg0.N) (b : Fin 2) (j : Fin 1024) (s : Fin 256) :
    (outsAt0 m c t.val t.isLt).2.2.1 (ix3 b j s) = pr m c (tok t (tokV t b s)) (colV j) := by
  have e := pay7_pt m c t (tokV t b s) j
  by_cases h : t.val % 16 = 0
  · rw [outsAt0_A m c t h (not_not.2 h)]
    frame_out
    rw [← e]
    canon_tiles x hx
    all_goals (open_payloads; pointwise; blk_ext)
    all_goals (change b.val = _ at hx0; change j.val = _ at hx1; change s.val = _ at hx2)
    all_goals first | exact hx1.symm | (show _ = b.val * 256 + s.val; omega)
  · rw [outsAt0_B m c t h h]
    frame_out
    rw [← e]
    canon_tiles x hx
    all_goals (open_payloads; pointwise; blk_ext)
    all_goals (change b.val = _ at hx0; change j.val = _ at hx1; change s.val = _ at hx2)
    all_goals first | exact hx1.symm | (show _ = b.val * 256 + s.val; omega)

/-- The largest absolute key so far: a bound of it is a bound of every token of the sequence up to this point. -/
theorem o10 (c : Dev nD) (j : Fin 1024) (b : EReal) : ∀ (t : Fin cfg0.N),
    (outsAt0 m c t.val t.isLt).2.2.2 (ix3 0 0 j) ≤ b
      ↔ ∀ s : Fin grid0.N, s.val / 16 = t.val / 16 → s.val ≤ t.val → ∀ r : Fin 512, max (pr m c (tok s r) (colK j)) (-pr m c (tok s r) (colK j)) ≤ b := by
  have q (t : Fin cfg0.N) : k0_pay10 (F := Ideal) (k0_pay3 (iblk m c 0 t) (iblk m c 3 t) (iblk m c 1 t) (iblk m c 2 t) (iblk m c 4 t)) (ix2 0 j) ≤ b
      ↔ ∀ r : Fin 512, max (pr m c (tok t r) (colK j)) (-pr m c (tok t r) (colK j)) ≤ b :=
    (pay10_le _ _ _).trans (forall_congr' fun r => by rw [pay3_pt])
  rintro ⟨n, hn⟩
  induction n with
  | zero =>
    rw [outsAt0_A m c ⟨0, hn⟩ (by rfl) (not_not.2 (by rfl))]
    frame_out
    rw [pay11_apply, q]
    exact ⟨fun h s _ hs r => (show s = ⟨0, hn⟩ from Fin.ext (Nat.le_zero.1 hs)) ▸ h r, fun h r => h _ rfl le_rfl r⟩
  | succ n ih =>
    by_cases h : (n + 1) % 16 = 0
    · rw [outsAt0_A m c ⟨n + 1, hn⟩ h (not_not.2 h)]
      frame_out
      rw [pay11_apply, q]
      refine ⟨fun h s hs hs' r => ?_, fun h r => h _ rfl le_rfl r⟩
      have : s = ⟨n + 1, hn⟩ := Fin.ext (by have : s.val / 16 = (n + 1) / 16 := hs; have : s.val ≤ n + 1 := hs'; show s.val = n + 1; omega)
      exact this ▸ h r
    · rw [outsAt0_B m c ⟨n + 1, hn⟩ h h]
      frame_out
      rw [pay1_apply, max_le_iff, q]
      refine (and_congr_left' (ih (Nat.lt_of_succ_lt hn))).trans ?_
      constructor
      · rintro ⟨h1, h2⟩ s hs hs' r
        rcases Nat.lt_or_ge s.val (n + 1) with l | l
        · exact h1 s (by have : s.val / 16 = (n + 1) / 16 := hs; show s.val / 16 = n / 16; omega) (Nat.le_of_lt_succ l) r
        · have : s = ⟨n + 1, hn⟩ := Fin.ext (Nat.le_antisymm hs' l)
          exact this ▸ h2 r
      · intro h'
        exact ⟨fun s hs hs' r => h' s (by have : s.val / 16 = n / 16 := hs; show s.val / 16 = (n + 1) / 16; omega) (Nat.le_succ_of_le hs') r, fun r => h' _ rfl le_rfl r⟩

/-! ### The arrays at the end -/

/-- The queries, scaled and transposed; the keys; the values in blocks of 256 tokens. -/
def resQ (c : Dev nD) : S1024x16384.Idx → EReal := fun x => pr m c (x 1) (colQ (x 0)) * Ideal.ofBits .f32 0x3E000000#32
def resK (c : Dev nD) : S16384x1024.Idx → EReal := fun x => pr m c (x 0) (colK (x 1))
/-- The token of a row of a block of 256. -/
def tokB (b : Fin 64) (s : Fin 256) : Fin 16384 := ⟨b.val * 256 + s.val, by omega⟩
def resV (c : Dev nD) : S64x1024x256.Idx → EReal := fun x => pr m c (tokB (x 0) (x 2)) (colV (x 1))
/-- The token at a position of a sequence. -/
def tokS (b : Fin 2) (s : Fin 8192) : Fin 16384 := ⟨b.val * 8192 + s.val, by omega⟩
/-- The largest absolute keys of a sequence. -/
def resA (c : Dev nD) : S2x1x1024.Idx → EReal := fun x =>
  Finset.univ.fold max ⊥ fun s : Fin 8192 => max (pr m c (tokS (x 0) s) (colK (x 2))) (-pr m c (tokS (x 0) s) (colK (x 2)))

theorem arr7 (c : Dev nD) : (dats m 0 c).arrAt 7 cfg0.N = resQ m c := by
  refine (dats m 0 c).arrAt_eq_of_covers 7 (resQ m c) (by decide +kernel) fun t hf y => ?_
  rw [after0_7]
  blk_simp
  idx_vars y
  refine (o7 m c t _ _).trans ?_
  unfold resQ
  rw [show ((View.whole main_v7_0).slice (win0_7.rect t)).emb (ix2 y0 y1) = (ix2 y0 (tok t y1) : S1024x16384.Idx) by
      blk_ext [idx7]
      rfl]
  rfl

theorem arr8 (c : Dev nD) : (dats m 0 c).arrAt 8 cfg0.N = resK m c := by
  refine (dats m 0 c).arrAt_eq_of_covers 8 (resK m c) (by decide +kernel) fun t hf y => ?_
  rw [after0_8]
  blk_simp
  idx_vars y
  refine (o8 m c t _ _).trans ?_
  unfold resK
  rw [show ((View.whole main_v7_1).slice (win0_8.rect t)).emb (ix2 y0 y1) = (ix2 (tok t y0) y1 : S16384x1024.Idx) by
      blk_ext [idx8]
      rfl]
  rfl

theorem arr9 (c : Dev nD) : (dats m 0 c).arrAt 9 cfg0.N = resV m c := by
  refine (dats m 0 c).arrAt_eq_of_covers 9 (resV m c) (by decide +kernel) fun t hf y => ?_
  rw [after0_9]
  blk_simp
  idx_vars y
  refine (o9 m c t _ _ _).trans ?_
  have ht := t_lt t
  unfold resV
  rw [show ((View.whole main_v7_2).slice (win0_9.rect t)).emb (ix3 y0 y1 y2) = (ix3 (⟨t.val * 2 + y0.val, by omega⟩ : Fin 64) y1 y2 : S64x1024x256.Idx) by
      blk_ext [idx9]]
  refine congrArg (fun r => pr m c r (colV y1)) (Fin.ext ?_)
  show t.val * 512 + (y0.val * 256 + y2.val) = (t.val * 2 + y0.val) * 256 + y2.val
  omega

theorem arr10 (c : Dev nD) : (dats m 0 c).arrAt 10 cfg0.N = resA m c := by
  refine (dats m 0 c).arrAt_eq_of_covers 10 (resA m c) (by decide +kernel) fun t hf y => ?_
  have hl : t.val % 16 = 15 := (flush0_10 t).1 hf
  have ht := t_lt t
  rw [after0_10]
  blk_simp
  idx_vars y
  unfold resA
  rw [show ((View.whole main_v7_3).slice (win0_10.rect t)).emb (ix3 y0 y1 y2) = (ix3 (⟨t.val / 16, by omega⟩ : Fin 2) 0 y2 : S2x1x1024.Idx) by
      blk_ext [idx10]]
  obtain rfl : y0 = 0 := Subsingleton.elim _ _
  obtain rfl : y1 = 0 := Subsingleton.elim _ _
  refine eq_of_forall_ge_iff (α := EReal) fun b => (o10 m c y2 b t).trans ?_
  rw [Finset.fold_max_le]
  constructor
  · intro h
    refine ⟨bot_le, fun s _ => ?_⟩
    have e := h ⟨t.val / 16 * 16 + s.val / 512, by show _ < 32; omega⟩ (by show (t.val / 16 * 16 + s.val / 512) / 16 = _; omega)
      (by show t.val / 16 * 16 + s.val / 512 ≤ _; omega) ⟨s.val % 512, Nat.mod_lt _ (by decide)⟩
    have g : tok ⟨t.val / 16 * 16 + s.val / 512, by show _ < 32; omega⟩ ⟨s.val % 512, Nat.mod_lt _ (by decide)⟩ = tokS ⟨t.val / 16, by omega⟩ s :=
      Fin.ext (by show (t.val / 16 * 16 + s.val / 512) * 512 + s.val % 512 = t.val / 16 * 8192 + s.val; omega)
    rw [g] at e
    exact e
  · rintro ⟨-, h⟩ s hs _ r
    have hs' := t_lt s
    have e := h ⟨s.val % 16 * 512 + r.val, by omega⟩ (Finset.mem_univ _)
    have g : tokS ⟨t.val / 16, by omega⟩ ⟨s.val % 16 * 512 + r.val, by omega⟩ = tok s r :=
      Fin.ext (by show t.val / 16 * 8192 + (s.val % 16 * 512 + r.val) = s.val * 512 + r.val; omega)
    rw [← g]
    exact e

end Cert.Proof.In

end
-- ==== Proof.In.Ref.lean ====
/-
  The reference's results for the projection, at the extended reals, entry by entry.
-/
module

public import proofs.«01_k».proof.Proof.In.Value
public import proofs.«01_k».proof.Proof.Gen.InReferenceIdeal.Run

@[expose] public section

noncomputable section

namespace Cert.Proof.InRef

open Cert.InReferenceIdeal Cert.InReferenceIdeal.Gen
open Idealize.ShloMosaic

abbrev A := FVec Ideal S2x8192x1024 .f32
abbrev M := FVec Ideal S2x1x1024 .f32

/-- The stream by sequence and position. -/
def xR (x : FVec Ideal S16384x1024 .f32) : A := shapeCast _ x shapeCasts_S16384x1024_S2x8192x1024

/-- The sums of squares. -/
def qR (x : A) : FVec Ideal S2x8192 .f32 :=
  Host.reduceAdd (mulf x x) (constant S_ .f32 0x00000000#32) reducesTo_S2x8192x1024_S2x8192_d2 h_S_

/-- The reciprocal roots of the mean squares. -/
def sR (q : FVec Ideal S2x8192 .f32) : FVec Ideal S2x8192x1 .f32 :=
  Host.rsqrt (addf (Host.divf (broadcastInDim S2x8192x1 ![0, 1] bcast_S2x8192_S2x8192x1_0_1 q)
    (broadcastInDim S2x8192x1 ![] bcast_S_S2x8192x1 (constant S_ .f32 0x44800000#32))) (broadcastInDim S2x8192x1 ![] bcast_S_S2x8192x1 (constant S_ .f32 0x358637BD#32)))

/-- The normalized, scaled and shifted stream. -/
def hR (x : A) (n : FVec Ideal S1024 .f32) (sc sh : M) : A :=
  addf (mulf (mulf (mulf x (broadcastInDim S2x8192x1024 ![0, 1, 2] bcast_S2x8192x1_S2x8192x1024_0_1_2 (sR (qR x))))
      (broadcastInDim S2x8192x1024 ![0, 1, 2] bcast_S1x1x1024_S2x8192x1024_0_1_2 (broadcastInDim S1x1x1024 ![2] bcast_S1024_S1x1x1024_2 n)))
      (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

/-- Its product with the weights, and the three parts of it. -/
def pR (h : A) (w : FVec Ideal S1024x3072 .f32) : FVec Ideal S2x8192x3072 .f32 :=
  Host.dotGeneral dot_S2x8192x1024_S1024x3072_S2x8192x3072_2_0_01_1_n_n none h w
def qP (p : FVec Ideal S2x8192x3072 .f32) : A := extractStridedSlice S2x8192x1024 ![0, 0, 0] p slices_S2x8192x3072_S2x8192x1024_0_0_0
def kP (p : FVec Ideal S2x8192x3072 .f32) : A := extractStridedSlice S2x8192x1024 ![0, 0, 1024] p slices_S2x8192x3072_S2x8192x1024_0_0_1024
def vP (p : FVec Ideal S2x8192x3072 .f32) : A := extractStridedSlice S2x8192x1024 ![0, 0, 2048] p slices_S2x8192x3072_S2x8192x1024_0_0_2048

def r0 (q : A) : FVec Ideal S1024x16384 .bf16 :=
  truncf .bf16 (transpose S1024x16384 [1, 0] (shapeCast _ (mulf q (broadcastInDim S2x8192x1024 ![] bcast_S_S2x8192x1024 (constant S_ .f32 0x3E000000#32)))
    shapeCasts_S2x8192x1024_S16384x1024) transposes_S16384x1024_S1024x16384_1_0) bitsLt_bf16_f32
def r1 (k : A) : FVec Ideal S16384x1024 .bf16 := truncf .bf16 (shapeCast _ k shapeCasts_S2x8192x1024_S16384x1024) bitsLt_bf16_f32
def r2 (v : A) : FVec Ideal S64x1024x256 .bf16 :=
  truncf .bf16 (transpose S64x1024x256 [0, 2, 1] (shapeCast _ v shapeCasts_S2x8192x1024_S64x256x1024) transposes_S64x256x1024_S64x1024x256_0_2_1) bitsLt_bf16_f32
def r3 (k : A) : FVec Ideal S2x1x1024 .f32 :=
  broadcastInDim S2x1x1024 ![0, 2] bcast_S2x1024_S2x1x1024_0_2
    (Host.reduce FloatOps.maximumf (Host.absf k) (constant S_ .f32 0xFF800000#32) reducesTo_S2x8192x1024_S2x1024_d1 h_S_)

/-- A token's position in its sequence. -/
def pos (r : Fin 16384) : Fin 8192 := ⟨r.val % 8192, Nat.mod_lt _ (by decide)⟩

theorem bat_tokS (b : Fin 2) (s : Fin 8192) : Out.bat (In.tokS b s) = b := Fin.ext (by show (b.val * 8192 + s.val) / 8192 = b.val; omega)
theorem pos_tokS (b : Fin 2) (s : Fin 8192) : pos (In.tokS b s) = s := Fin.ext (by show (b.val * 8192 + s.val) % 8192 = s.val; omega)

theorem r0_apply (q : A) (r : Fin 16384) (c : Fin 1024) : r0 q (ix2 c r) = q (ix3 (Out.bat r) (pos r) c) * Ideal.ofBits .f32 0x3E000000#32 := by
  pointwise [r0]
  rfl

theorem r1_apply (k : A) (r : Fin 16384) (c : Fin 1024) : r1 k (ix2 r c) = k (ix3 (Out.bat r) (pos r) c) := by
  pointwise [r1]
  rfl

theorem r2_apply (v : A) (b : Fin 64) (c : Fin 1024) (s : Fin 256) : r2 v (ix3 b c s) = v (ix3 (Out.bat (In.tokB b s)) (pos (In.tokB b s)) c) := by
  pointwise [r2]
  refine congrArg v ?_
  blk_ext
  all_goals (try simp only [Out.bat, pos, In.tokB])
  all_goals omega

theorem r3_apply (k : A) (b : Fin 2) (c : Fin 1024) : r3 k (ix3 b 0 c) = Finset.univ.fold max ⊥ fun s : Fin 8192 => max (k (ix3 b s c)) (-k (ix3 b s c)) := by
  pointwise [r3]
  rw [show Ideal.ofBits .f32 4286578688#32 = (⊥ : EReal) by simp [Ideal.ofBits, Ideal.ieee]]
  rfl

theorem xR_apply (x : FVec Ideal S16384x1024 .f32) (b : Fin 2) (s : Fin 8192) (c : Fin 1024) : xR x (ix3 b s c) = x (ix2 (In.tokS b s) c) := by
  pointwise [xR]
  rfl

theorem qR_apply (x : A) (b : Fin 2) (s : Fin 8192) : qR x (ix2 b s) = ∑ k : Fin 1024, x (ix3 b s k) * x (ix3 b s k) := by
  pointwise [qR]

theorem hR_apply (x : A) (n : FVec Ideal S1024 .f32) (sc sh : M) (b : Fin 2) (s : Fin 8192) (c : Fin 1024) :
    hR x n sc sh (ix3 b s c) = Out.normed (fun k => x (ix3 b s k)) (n (ix1 c)) (sc (ix3 b 0 c)) (sh (ix3 b 0 c)) c := by
  pointwise [hR, sR]
  rw [qR_apply]
  rfl

theorem pR_apply (h : A) (w : FVec Ideal S1024x3072 .f32) (b : Fin 2) (s : Fin 8192) (j : Fin 3072) :
    pR h w (ix3 b s j) = ∑ k : Fin 1024, h (ix3 b s k) * w (ix2 k j) := by
  pointwise [pR]

/-- The product, at a token. -/
theorem p_eq (x : FVec Ideal S16384x1024 .f32) (n : FVec Ideal S1024 .f32) (sc sh : M) (w : FVec Ideal S1024x3072 .f32) (b : Fin 2) (s : Fin 8192) (j : Fin 3072) :
    pR (hR (xR x) n sc sh) w (ix3 b s j) = In.proj x sc sh n w (In.tokS b s) j := by
  refine (pR_apply _ _ _ _ _).trans (Finset.sum_congr rfl fun k _ => ?_)
  rw [hR_apply, bat_tokS]
  exact congrArg (fun f => Out.normed f _ _ _ k * _) (funext fun i => xR_apply x b s i)

theorem p_eq' (x : FVec Ideal S16384x1024 .f32) (n : FVec Ideal S1024 .f32) (sc sh : M) (w : FVec Ideal S1024x3072 .f32) (r : Fin 16384) (j : Fin 3072) :
    pR (hR (xR x) n sc sh) w (ix3 (Out.bat r) (pos r) j) = In.proj x sc sh n w r j :=
  (p_eq x n sc sh w _ _ j).trans (congrArg (fun r => In.proj x sc sh n w r j) (Fin.ext (Nat.div_add_mod' r.val 8192)))

theorem qP_apply (p : FVec Ideal S2x8192x3072 .f32) (b : Fin 2) (s : Fin 8192) (c : Fin 1024) : qP p (ix3 b s c) = p (ix3 b s (In.colQ c)) := by
  pointwise [qP]
  rfl
theorem kP_apply (p : FVec Ideal S2x8192x3072 .f32) (b : Fin 2) (s : Fin 8192) (c : Fin 1024) : kP p (ix3 b s c) = p (ix3 b s (In.colK c)) := by
  pointwise [kP]
  rfl
theorem vP_apply (p : FVec Ideal S2x8192x3072 .f32) (b : Fin 2) (s : Fin 8192) (c : Fin 1024) : vP p (ix3 b s c) = p (ix3 b s (In.colV c)) := by
  pointwise [vP]
  rfl

section
variable (x : FVec Ideal S16384x1024 .f32) (n : FVec Ideal S1024 .f32) (sc sh : M) (w : FVec Ideal S1024x3072 .f32)

theorem res0_eq : r0 (qP (pR (hR (xR x) n sc sh) w))
    = fun i : S1024x16384.Idx => In.proj x sc sh n w (i 1) (In.colQ (i 0)) * Ideal.ofBits .f32 0x3E000000#32 := by
  funext i
  refine (congrArg _ (show i = ix2 (i 0) (i 1) by funext a; fin_cases a <;> rfl)).trans ?_
  exact (r0_apply _ _ _).trans (congrArg (· * _) ((qP_apply _ _ _ _).trans (p_eq' x n sc sh w _ _)))

theorem res1_eq : r1 (kP (pR (hR (xR x) n sc sh) w)) = fun i : S16384x1024.Idx => In.proj x sc sh n w (i 0) (In.colK (i 1)) := by
  funext i
  refine (congrArg _ (show i = ix2 (i 0) (i 1) by funext a; fin_cases a <;> rfl)).trans ?_
  exact (r1_apply _ _ _).trans ((kP_apply _ _ _ _).trans (p_eq' x n sc sh w _ _))

theorem res2_eq : r2 (vP (pR (hR (xR x) n sc sh) w)) = fun i : S64x1024x256.Idx => In.proj x sc sh n w (In.tokB (i 0) (i 2)) (In.colV (i 1)) := by
  funext i
  refine (congrArg _ (show i = ix3 (i 0) (i 1) (i 2) by funext a; fin_cases a <;> rfl)).trans ?_
  exact (r2_apply _ _ _ _).trans ((vP_apply _ _ _ _).trans (p_eq' x n sc sh w _ _))

theorem res3_eq : r3 (kP (pR (hR (xR x) n sc sh) w)) = fun i : S2x1x1024.Idx =>
    Finset.univ.fold max ⊥ fun s : Fin 8192 =>
      max (In.proj x sc sh n w (In.tokS (i 0) s) (In.colK (i 2))) (-In.proj x sc sh n w (In.tokS (i 0) s) (In.colK (i 2))) := by
  funext i
  refine (congrArg _ (show i = ix3 (i 0) 0 (i 2) by funext a; fin_cases a <;> first | rfl | exact Subsingleton.elim (α := Fin 1) _ _)).trans ?_
  refine (r3_apply _ _ _).trans (congrArg (fun f => Finset.univ.fold max ⊥ f) (funext fun s => ?_))
  exact congrArg (fun z : EReal => max z (-z)) ((kP_apply _ _ _ _).trans (p_eq x n sc sh w _ _ _))

end

end Cert.Proof.InRef

end
-- ==== Proof.In.Result.lean ====
/-
  The projection's result arrays are the reference's.
-/
module

public import proofs.«01_k».proof.Proof.In.Ref
public import proofs.«01_k».proof.Defs

@[expose] public section

noncomputable section

namespace Cert.Proof

open Idealize.ShloMosaic Idealize.SL.Sem

theorem inAlgebraic :
    algebraic_InKernelIdeal_InReferenceIdeal (hInKernelIdeal := Cert.InKernelIdeal.Gen.facts) (hInReferenceIdeal := Cert.InReferenceIdeal.Gen.facts) := by
  intro m g m' g' _ hargs
  refine ⟨fun c => In.resQ m c, fun c => In.resK m c, fun c => In.resV m c, fun c => In.resA m c,
    (θ_run Cert.InKernelIdeal.defs _ _).mono (fun r h c => ⟨(h c).1.trans (In.arr7 m c), (h c).2.1.trans (In.arr8 m c),
      (h c).2.2.1.trans (In.arr9 m c), (h c).2.2.2.1.trans (In.arr10 m c), (h c).2.2.2.2⟩)
      (Cert.InKernelIdeal.Value.run_blocks m g), ?_⟩
  refine (θ_run Cert.InReferenceIdeal.defs _ _).mono (fun r h c => ⟨(h c).1.trans ?_, (h c).2.1.trans ?_, (h c).2.2.1.trans ?_,
    (h c).2.2.2.1.trans ?_, (h c).2.2.2.2⟩) (Cert.InReferenceIdeal.Value.run m' g')
  all_goals
    obtain ⟨h0, h1, h2, h3, h4⟩ := hargs c
    rw [h0, h1, h2, h3, h4]
  · exact InRef.res0_eq _ _ _ _ _
  · exact InRef.res1_eq _ _ _ _ _
  · exact InRef.res2_eq _ _ _ _ _
  · exact InRef.res3_eq _ _ _ _ _

theorem inRefFrame :
    quiescent_InReferenceIdeal (hInReferenceIdeal := Cert.InReferenceIdeal.Gen.facts) :=
  fun m g _ => (θ_run Cert.InReferenceIdeal.defs _ _).mono (fun r h => ⟨fun c => (h c).2.2.2.2, Idealize.ShloMosaic.sem_eq_zero_of_no_sems (by decide) r.2⟩) (Cert.InReferenceIdeal.Value.run m g)

end Cert.Proof

end
-- ==== Proof.Out.Ref.lean ====
/-
  The reference's results for the output projection, at the extended reals, entry by entry.
-/
module

public import proofs.«01_k».proof.Proof.Out.Value
public import proofs.«01_k».proof.Proof.Gen.OutReferenceIdeal.Run

@[expose] public section

noncomputable section

namespace Cert.Proof.OutRef

open Cert.OutReferenceIdeal Cert.OutReferenceIdeal.Gen
open Idealize.ShloMosaic

abbrev A := FVec Ideal S2x8192x1024 .f32
abbrev M := FVec Ideal S2x1x1024 .f32

/-- The stream after the gated projection, by sequence, position and feature. -/
def xR (y : FVec Ideal S16384x1024 .bf16) (w : FVec Ideal S1024x1024 .f32) (x : FVec Ideal S16384x1024 .f32) (g : M) : A :=
  addf (shapeCast _ x shapeCasts_S16384x1024_S2x8192x1024) (mulf (broadcastInDim S2x8192x1024 ![0, 1, 2] bcast_S2x1x1024_S2x8192x1024_0_1_2 g)
    (Host.dotGeneral dot_S2x8192x1024_S1024x1024_S2x8192x1024_2_0_01_1_n_n none (shapeCast _ (extf .f32 y bitsLt_bf16_f32) shapeCasts_S16384x1024_S2x8192x1024) w))

/-- The sums of squares. -/
def qR (x : A) : FVec Ideal S2x8192 .f32 :=
  Host.reduceAdd (mulf x x) (constant S_ .f32 0x00000000#32) reducesTo_S2x8192x1024_S2x8192_d2 h_S_

/-- The reciprocal roots of the mean squares. -/
def sR (q : FVec Ideal S2x8192 .f32) : FVec Ideal S2x8192x1 .f32 :=
  Host.rsqrt (addf (Host.divf (broadcastInDim S2x8192x1 ![0, 1] bcast_S2x8192_S2x8192x1_0_1 q)
    (broadcastInDim S2x8192x1 ![] bcast_S_S2x8192x1 (constant S_ .f32 0x44800000#32))) (broadcastInDim S2x8192x1 ![] bcast_S_S2x8192x1 (constant S_ .f32 0x358637BD#32)))

/-- The normalized, scaled and shifted stream. -/
def hR (x : A) (n : FVec Ideal S1024 .f32) (sc sh : M) : A :=
  addf (mulf (mulf (mulf x (broadcastInDim S2x8192x1024 ![0, 1, 2] bcast_S2x8192x1_S2x8192x1024_0_1_2 (sR (qR x))))
      (broadcastInDim S2x8192x1024 ![0, 1, 2] bcast_S1x1x1024_S2x8192x1024_0_1_2 (broadcastInDim S1x1x1024 ![2] bcast_S1024_S1x1x1024_2 n)))
      (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

def r0 (x : A) : FVec Ideal S16384x1024 .f32 := shapeCast _ x shapeCasts_S2x8192x1024_S16384x1024
def r1 (x : A) : FVec Ideal S1024x16384 .bf16 :=
  truncf .bf16 (transpose S1024x16384 [1, 0] (shapeCast _ x shapeCasts_S2x8192x1024_S16384x1024) transposes_S16384x1024_S1024x16384_1_0) bitsLt_bf16_f32

/-- A token's position in its sequence. -/
def pos (r : Fin 16384) : Fin 8192 := ⟨r.val % 8192, Nat.mod_lt _ (by decide)⟩

theorem r0_apply (x : A) (r : Fin 16384) (c : Fin 1024) : r0 x (ix2 r c) = x (ix3 (Out.bat r) (pos r) c) := by
  pointwise [r0]
  rfl

theorem r1_apply (x : A) (r : Fin 16384) (c : Fin 1024) : r1 x (ix2 c r) = x (ix3 (Out.bat r) (pos r) c) := by
  pointwise [r1]
  rfl

theorem row (r : Fin 16384) (h : (Out.bat r).val * 8192 + (pos r).val < 16384) : (⟨(Out.bat r).val * 8192 + (pos r).val, h⟩ : Fin 16384) = r :=
  Fin.ext (Nat.div_add_mod' r.val 8192)

theorem xR_apply (y : FVec Ideal S16384x1024 .bf16) (w : FVec Ideal S1024x1024 .f32) (x : FVec Ideal S16384x1024 .f32) (g : M) (r : Fin 16384) (c : Fin 1024) :
    xR y w x g (ix3 (Out.bat r) (pos r) c) = Out.stream y w x g r c := by
  pointwise [xR, Out.stream]
  simp only [row]

theorem qR_apply (x : A) (b : Fin 2) (s : Fin 8192) : qR x (ix2 b s) = ∑ k : Fin 1024, x (ix3 b s k) * x (ix3 b s k) := by
  pointwise [qR]

theorem hR_apply (x : A) (n : FVec Ideal S1024 .f32) (sc sh : M) (b : Fin 2) (s : Fin 8192) (c : Fin 1024) :
    hR x n sc sh (ix3 b s c) = Out.normed (fun k => x (ix3 b s k)) (n (ix1 c)) (sc (ix3 b 0 c)) (sh (ix3 b 0 c)) c := by
  pointwise [hR, sR]
  rw [qR_apply]
  rfl

theorem res0_eq (y : FVec Ideal S16384x1024 .bf16) (w : FVec Ideal S1024x1024 .f32) (x : FVec Ideal S16384x1024 .f32) (g : M) :
    r0 (xR y w x g) = fun i : S16384x1024.Idx => Out.stream y w x g (i 0) (i 1) := by
  funext i
  refine (congrArg _ (show i = ix2 (i 0) (i 1) by funext a; fin_cases a <;> rfl)).trans ?_
  exact (r0_apply _ _ _).trans (xR_apply _ _ _ _ _ _)

theorem res1_eq (y : FVec Ideal S16384x1024 .bf16) (w : FVec Ideal S1024x1024 .f32) (x : FVec Ideal S16384x1024 .f32) (g : M)
    (n : FVec Ideal S1024 .f32) (sc sh : M) :
    r1 (hR (xR y w x g) n sc sh) = fun i : S1024x16384.Idx => Out.next y w x g n sc sh (i 1) (i 0) := by
  funext i
  refine (congrArg _ (show i = ix2 (i 0) (i 1) by funext a; fin_cases a <;> rfl)).trans ?_
  refine (r1_apply _ _ _).trans ((hR_apply _ _ _ _ _ _ _).trans ?_)
  exact congrArg (fun s => Out.normed s _ _ _ _) (funext fun k => xR_apply _ _ _ _ _ _)

end Cert.Proof.OutRef

end
-- ==== Proof.Out.Result.lean ====
/-
  The output projection's result arrays are the reference's.
-/
module

public import proofs.«01_k».proof.Proof.Out.Ref
public import proofs.«01_k».proof.Defs

@[expose] public section

noncomputable section

namespace Cert.Proof

open Idealize.ShloMosaic Idealize.SL.Sem

theorem outAlgebraic :
    algebraic_OutKernelIdeal_OutReferenceIdeal (hOutKernelIdeal := Cert.OutKernelIdeal.Gen.facts) (hOutReferenceIdeal := Cert.OutReferenceIdeal.Gen.facts) := by
  intro m g m' g' _ hargs
  refine ⟨fun c => Out.res0 m c, fun c => Out.res1 m c,
    (θ_run Cert.OutKernelIdeal.defs _ _).mono (fun r h c => ⟨(h c).1.trans (Out.arr7 m c), (h c).2.1.trans (Out.arr8 m c), (h c).2.2⟩)
      (Cert.OutKernelIdeal.Value.run_blocks m g), ?_⟩
  refine (θ_run Cert.OutReferenceIdeal.defs _ _).mono (fun r h c => ⟨(h c).1.trans ?_, (h c).2.1.trans ?_, (h c).2.2⟩) (Cert.OutReferenceIdeal.Value.run m' g')
  · obtain ⟨h0, h1, h2, h3, h4, h5, h6⟩ := hargs c
    rw [h0, h1, h2, h3]
    exact OutRef.res0_eq _ _ _ _
  · obtain ⟨h0, h1, h2, h3, h4, h5, h6⟩ := hargs c
    rw [h0, h1, h2, h3, h4, h5, h6]
    exact OutRef.res1_eq _ _ _ _ _ _ _

theorem outRefFrame :
    quiescent_OutReferenceIdeal (hOutReferenceIdeal := Cert.OutReferenceIdeal.Gen.facts) :=
  fun m g _ => (θ_run Cert.OutReferenceIdeal.defs _ _).mono (fun r h => ⟨fun c => (h c).2.2, Idealize.ShloMosaic.sem_eq_zero_of_no_sems (by decide) r.2⟩) (Cert.OutReferenceIdeal.Value.run m g)

end Cert.Proof

end
-- ==== Proof.SBK.Body.lean ====
/-
  The kernel body at one grid point: what it leaves in the result staging buffer, and in the scratch buffers, over
  what its staged blocks hold. One theorem where there is a block before the diagonal one, one where there is none.
-/
module

public import proofs.«01_k».proof.Proof.SBK.Label

@[expose] public section

noncomputable section

namespace Cert.Proof.SBK

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

theorem cond_iff : ∀ a < 32, Iff (Scalar.cmpi .ne (Scalar.extui (Scalar.cmpi .sgt (BitVec.ofNat 32 a) 0#32)) 0#32 = 1#1) (0 < a) := by decide +kernel

theorem dkword : ∀ a < 32, (Scalar.indexCast (Scalar.muli (BitVec.ofNat 32 a) 256#32)).toNat = 256 * (a % 32) := by decide +kernel
theorem dvword : ∀ a < 32, (Scalar.indexCast (BitVec.ofNat 32 a)).toNat = a % 32 := by decide +kernel
theorem pkword : ∀ a < 32, 0 < a → (Scalar.indexCast (Scalar.muli (Scalar.subi (BitVec.ofNat 32 a) 1#32) 256#32)).toNat = 256 * ((a - 1 - 0) % 32) := by decide +kernel
theorem pvword : ∀ a < 32, 0 < a → (Scalar.indexCast (Scalar.subi (BitVec.ofNat 32 a) 1#32)).toNat = (a - 1 - 0) % 32 := by decide +kernel

section Off

variable (i : grid0.Coords)

theorem off1_eq : k0_off1 i = ![0, 256 * (dblk (i 2).val).val, 0] := by unfold k0_off1; dsimp only; rw [dkword _ (i 2).isLt]; rfl
theorem off3_eq : k0_off3 i = ![0, 256 * (dblk (i 2).val).val, 128] := by unfold k0_off3; dsimp only; rw [dkword _ (i 2).isLt]; rfl
theorem off5_eq : k0_off5 i = ![0, 256 * (dblk (i 2).val).val, 256] := by unfold k0_off5; dsimp only; rw [dkword _ (i 2).isLt]; rfl
theorem off7_eq : k0_off7 i = ![0, 256 * (dblk (i 2).val).val, 384] := by unfold k0_off7; dsimp only; rw [dkword _ (i 2).isLt]; rfl
theorem off17_eq : k0_off17 i = ![0, 256 * (dblk (i 2).val).val, 0] := by unfold k0_off17; dsimp only; rw [dkword _ (i 2).isLt]; rfl
theorem off18_eq : k0_off18 i = ![0, 256 * (dblk (i 2).val).val, 128] := by unfold k0_off18; dsimp only; rw [dkword _ (i 2).isLt]; rfl
theorem off19_eq : k0_off19 i = ![0, 256 * (dblk (i 2).val).val, 256] := by unfold k0_off19; dsimp only; rw [dkword _ (i 2).isLt]; rfl
theorem off20_eq : k0_off20 i = ![0, 256 * (dblk (i 2).val).val, 384] := by unfold k0_off20; dsimp only; rw [dkword _ (i 2).isLt]; rfl
theorem off9_eq : k0_off9 i = ![(dblk (i 2).val).val, 0, 0] := by unfold k0_off9; dsimp only; rw [dvword _ (i 2).isLt]; rfl
theorem off11_eq : k0_off11 i = ![(dblk (i 2).val).val, 128, 0] := by unfold k0_off11; dsimp only; rw [dvword _ (i 2).isLt]; rfl
theorem off13_eq : k0_off13 i = ![(dblk (i 2).val).val, 256, 0] := by unfold k0_off13; dsimp only; rw [dvword _ (i 2).isLt]; rfl
theorem off15_eq : k0_off15 i = ![(dblk (i 2).val).val, 384, 0] := by unfold k0_off15; dsimp only; rw [dvword _ (i 2).isLt]; rfl
theorem off21_eq : k0_off21 i = ![(dblk (i 2).val).val, 0, 0] := by unfold k0_off21; dsimp only; rw [dvword _ (i 2).isLt]; rfl
theorem off22_eq : k0_off22 i = ![(dblk (i 2).val).val, 128, 0] := by unfold k0_off22; dsimp only; rw [dvword _ (i 2).isLt]; rfl
theorem off23_eq : k0_off23 i = ![(dblk (i 2).val).val, 256, 0] := by unfold k0_off23; dsimp only; rw [dvword _ (i 2).isLt]; rfl
theorem off24_eq : k0_off24 i = ![(dblk (i 2).val).val, 384, 0] := by unfold k0_off24; dsimp only; rw [dvword _ (i 2).isLt]; rfl
theorem off2_eq (h : 0 < (i 2).val) : k0_off2 i = ![0, 256 * (blk (i 2).val 0).val, 0] := by unfold k0_off2; dsimp only; rw [pkword _ (i 2).isLt h]; rfl
theorem off4_eq (h : 0 < (i 2).val) : k0_off4 i = ![0, 256 * (blk (i 2).val 0).val, 128] := by unfold k0_off4; dsimp only; rw [pkword _ (i 2).isLt h]; rfl
theorem off6_eq (h : 0 < (i 2).val) : k0_off6 i = ![0, 256 * (blk (i 2).val 0).val, 256] := by unfold k0_off6; dsimp only; rw [pkword _ (i 2).isLt h]; rfl
theorem off8_eq (h : 0 < (i 2).val) : k0_off8 i = ![0, 256 * (blk (i 2).val 0).val, 384] := by unfold k0_off8; dsimp only; rw [pkword _ (i 2).isLt h]; rfl
theorem off10_eq (h : 0 < (i 2).val) : k0_off10 i = ![(blk (i 2).val 0).val, 0, 0] := by unfold k0_off10; dsimp only; rw [pvword _ (i 2).isLt h]; rfl
theorem off12_eq (h : 0 < (i 2).val) : k0_off12 i = ![(blk (i 2).val 0).val, 128, 0] := by unfold k0_off12; dsimp only; rw [pvword _ (i 2).isLt h]; rfl
theorem off14_eq (h : 0 < (i 2).val) : k0_off14 i = ![(blk (i 2).val 0).val, 256, 0] := by unfold k0_off14; dsimp only; rw [pvword _ (i 2).isLt h]; rfl
theorem off16_eq (h : 0 < (i 2).val) : k0_off16 i = ![(blk (i 2).val 0).val, 384, 0] := by unfold k0_off16; dsimp only; rw [pvword _ (i 2).isLt h]; rfl

end Off

/-- The score bound of a head, over the block of key maxima its load reads. -/
theorem zm_val (h : Fin 8) {a b : Vec F S1x1x512 .f32} (v : Vec F S128x256 .bf16) (hab : a = b) : k0_pay207 (qfOf h v) (slab a h) = k0_pay207 (qfOf h v) (slab b h) := by
  rw [hab]

/-- The weights of the diagonal block, where the body takes their exponent in two pieces: with two blocks, -/
theorem w_pos (tri l : FVec F S256x256 .bf16) (z : FVec F S256x256 .f32) (run : Vec F S1x256 .f32) : k0_pay68 k0_pay180 (k0_pay66 tri z l) (k0_pay67 run) = wD z (sufOf tri l) run := rfl
/-- and with the diagonal block alone. -/
theorem w_neg (tri l : FVec F S256x256 .bf16) (z : FVec F S256x256 .f32) (run : Vec F S1x256 .f32) : k0_pay142 k0_pay180 (k0_pay140 tri z l) (k0_pay141 run) = wD z (sufOf tri l) run := rfl
/-- What that head stores, over its weights: with two blocks, -/
theorem acc_pos {w w' : FVec F S256x256 .bf16} (h : w = w') (u : FVec F S256x256 .bf16) (a : Vec F S128x256 .f32) (v b : Vec F S1x128x256 .bf16) : k0_pay111 w u a v b = k0_pay116 w' u a v b := by
  rw [h]; rfl
/-- and with the diagonal block alone. -/
theorem acc_neg {w w' : FVec F S256x256 .bf16} (h : w = w') (a : Vec F S128x256 .f32) (v : Vec F S1x128x256 .bf16) : k0_pay169 w a v = accOf w' a v := by
  rw [h]; rfl

/-- What the first visits store, over what their loads read: with two blocks, -/
theorem run_first {kr kb lr lb : Vec F S1x256x128 .bf16} {rr : Vec F S1x256 .f32} {q' q : FVec F S128x256 .bf16} {tri' tri : FVec F S256x256 .bf16} (hq : q' = q) (ht : tri' = tri)
    (hk : kr = kb) (hl : lr = lb) (hr : rr = k0_pay185) :
    k0_pay64 (sufOf tri' (lomD (zOf q' kr))) (sufOf tri' (lomOf (zOf q' lr))) rr
      = runOf (sufOf tri (lomOf (zOf q lb))) (runOf (sufOf tri (lomD (zOf q kb))) k0_pay185) := by
  subst hq ht hk hl hr; exact shapeCast_self _ _
theorem acc_first {kr kb lr lb : Vec F S1x256x128 .bf16} {rr : Vec F S1x256 .f32} {ar : Vec F S128x256 .f32} {vr vb ur ub : Vec F S1x128x256 .bf16}
    {q' q : FVec F S128x256 .bf16} {tri' tri : FVec F S256x256 .bf16} (hq : q' = q) (ht : tri' = tri)
    (hk : kr = kb) (hl : lr = lb) (hr : rr = k0_pay185) (ha : ar = k0_pay186) (hv : vr = vb) (hu : ur = ub) :
    k0_pay116 (wD (zOf q' kr) (sufOf tri' (lomD (zOf q' kr))) rr)
        (wOf (zOf q' lr) (sufOf tri' (lomOf (zOf q' lr))) (runOf (sufOf tri' (lomD (zOf q' kr))) rr)) ar vr ur
      = accOf (wOf (zOf q lb) (sufOf tri (lomOf (zOf q lb))) (runOf (sufOf tri (lomD (zOf q kb))) k0_pay185))
          (accOf (wD (zOf q kb) (sufOf tri (lomD (zOf q kb))) k0_pay185) k0_pay186 vb) ub := by
  subst hq ht hk hl hr ha hv hu
  exact (shapeCast_self _ _).trans ((congrArg (fun a => addf a _) (shapeCast_self _ _).symm).trans (shapeCast_self _ _).symm)
/-- and with the diagonal block alone. -/
theorem run_diag {kr kb : Vec F S1x256x128 .bf16} {rr : Vec F S1x256 .f32} {q' q : FVec F S128x256 .bf16} {tri' tri : FVec F S256x256 .bf16} (hq : q' = q) (ht : tri' = tri)
    (hk : kr = kb) (hr : rr = k0_pay185) :
    k0_pay270 (sufOf tri' (lomD (zOf q' kr))) rr = runOf (sufOf tri (lomD (zOf q kb))) k0_pay185 := by
  subst hq ht hk hr; exact shapeCast_self _ _
theorem acc_diag {kr kb : Vec F S1x256x128 .bf16} {rr : Vec F S1x256 .f32} {ar : Vec F S128x256 .f32} {vr vb : Vec F S1x128x256 .bf16}
    {q' q : FVec F S128x256 .bf16} {tri' tri : FVec F S256x256 .bf16} (hq : q' = q) (ht : tri' = tri)
    (hk : kr = kb) (hr : rr = k0_pay185) (ha : ar = k0_pay186) (hv : vr = vb) :
    accOf (wD (zOf q' kr) (sufOf tri' (lomD (zOf q' kr))) rr) ar vr
      = accOf (wD (zOf q kb) (sufOf tri (lomD (zOf q kb))) k0_pay185) k0_pay186 vb := by
  subst hq ht hk hr ha hv; rfl

theorem fin4 {A : Type*} {f : Fin 4 → A} {a b c d : A} (h0 : a = f 0) (h1 : b = f 1) (h2 : c = f 2) (h3 : d = f 3) : ∀ p, (![a, b, c, d] : Fin 4 → A) p = f p := by
  intro p; fin_cases p; exacts [h0, h1, h2, h3]
theorem fin8 {A : Type*} {f : Fin 8 → A} {a b c d a' b' c' d' : A} (h0 : a = f 0) (h1 : b = f 1) (h2 : c = f 2) (h3 : d = f 3)
    (h4 : a' = f 4) (h5 : b' = f 5) (h6 : c' = f 6) (h7 : d' = f 7) : ∀ p, (![a, b, c, d, a', b', c', d'] : Fin 8 → A) p = f p := by
  intro p; fin_cases p; exacts [h0, h1, h2, h3, h4, h5, h6, h7]

/-- The bound's last step is the same in the body as in the loop. -/
theorem worst_pos (v : FVec F S1x256 .f32) : k0_pay230 v = k0_pay4 v := rfl
/-- A head's log mass after the diagonal block. -/
theorem run_core {kr kb : Vec F S1x256x128 .bf16} {rr : Vec F S1x256 .f32} {q' q : FVec F S128x256 .bf16} {tri' tri : FVec F S256x256 .bf16} (hq : q' = q) (ht : tri' = tri)
    (hk : kr = kb) (hr : rr = k0_pay185) :
    runOf (sufOf tri' (lomD (zOf q' kr))) rr = runOf (sufOf tri (lomD (zOf q kb))) k0_pay185 := by
  subst hq ht hk hr; rfl
/-- The bound as the body takes it, three heads at a time. -/
theorem worst_neg {W : Fin 8 → Vec F S1x256 .f32} {M : Fin 8 → FVec F S1x256 .f32} {s0 s1 s2 s3 s4 s5 s6 s7 : FVec F S256x256 .f32} {u0 u1 u2 u3 u4 u5 u6 u7 : Vec F S1x256 .f32} {m0 m1 m2 m3 m4 m5 m6 m7 : FVec F S1x256 .f32}
    (h0 : runOf s0 u0 = W 0) (h1 : runOf s1 u1 = W 1) (h2 : runOf s2 u2 = W 2) (h3 : runOf s3 u3 = W 3) (h4 : runOf s4 u4 = W 4) (h5 : runOf s5 u5 = W 5) (h6 : runOf s6 u6 = W 6) (h7 : runOf s7 u7 = W 7)
    (k0 : m0 = M 0) (k1 : m1 = M 1) (k2 : m2 = M 2) (k3 : m3 = M 3) (k4 : m4 = M 4) (k5 : m5 = M 5) (k6 : m6 = M 6) (k7 : m7 = M 7) :
    k0_pay231 (k0_pay178 (k0_pay168 m6 m7 s6 s7 (k0_pay161 m3 m4 m5 s3 s4 s5 (k0_pay151 m0 m1 m2 s0 s1 s2 u0 u1 u2) u3 u4 u5) u6 u7)) = worstOf W M := by
  unfold worstOf
  rw [← h0, ← h1, ← h2, ← h3, ← h4, ← h5, ← h6, ← h7, ← k0, ← k1, ← k2, ← k3, ← k4, ← k5, ← k6, ← k7]
  rfl

/-- The bound after the first visits, over what their loads read: with two blocks, -/
theorem worst_first (x : Pt F) (d j : Fin 32) (q : Fin 8 → FVec F S128x256 .bf16) (tri : FVec F S256x256 .bf16) (zm : Fin 8 → FVec F S1x256 .f32)
    (kr lr : Fin 4 → Vec F S1x256x128 .bf16) (rr : Fin 8 → Vec F S1x256 .f32)
    (hq : ∀ h, q h = x.q h) (ht : tri = x.tri) (hm : ∀ h, zm h = x.zm h) (hk : ∀ p, kr p = x.kb p d) (hl : ∀ p, lr p = x.kb p j) (hr : ∀ h, rr h = k0_pay185) :
    worstOf (fun h => runOf (sufOf tri (lomOf (zOf (q h) (lr (pairOf h))))) (runOf (sufOf tri (lomD (zOf (q h) (kr (pairOf h))))) (rr h))) zm
      = worstOf (x.visit j (x.diag d zero)).run x.zm := by
  obtain rfl : zm = x.zm := funext hm
  have e : (fun h => runOf (sufOf tri (lomOf (zOf (q h) (lr (pairOf h))))) (runOf (sufOf tri (lomD (zOf (q h) (kr (pairOf h))))) (rr h)))
      = (x.visit j (x.diag d zero)).run := by
    funext h; rw [hq, ht, hk, hl, hr]; rfl
  rw [e]
/-- The four stores into the result's block cover it. -/
theorem out_cover (a b c d : FVec F S256x128 .bf16) : ∀ y, ∃ p ∈ ([⟨Rect.unit (s := S256x512) ![0, 384] S256x128.size inb_S256x512_S256x128_0_384, d⟩,
    ⟨Rect.unit (s := S256x512) ![0, 256] S256x128.size inb_S256x512_S256x128_0_256, c⟩,
    ⟨Rect.unit (s := S256x512) ![0, 128] S256x128.size inb_S256x512_S256x128_0_128, b⟩,
    ⟨Rect.unit (s := S256x512) ![0, 0] S256x128.size inb_S256x512_S256x128_0_0, a⟩] : List (View.Piece (Elt F) S256x512 .bf16)), y ∈ p.1.set := by
  intro y
  have h0 : (y 0).val < 256 := (y 0).isLt
  have h1 : (y 1).val < 512 := (y 1).isLt
  have key : ∀ k : ℕ, k ≤ (y 1).val → (y 1).val < k + 128 → ∀ inb, y ∈ (Rect.unit (s := S256x512) ![0, k] S256x128.size inb).set := by
    intro k hk hk' inb
    refine Rect.mem_set_unit.2 fun a => ?_
    fin_cases a
    · exact ⟨Nat.zero_le _, (Nat.zero_add 256).symm ▸ h0⟩
    · exact ⟨hk, hk'⟩
  rcases Nat.lt_or_ge (y 1).val 128 with h | h
  · exact ⟨_, .tail _ (.tail _ (.tail _ (.head _))), key 0 (Nat.zero_le _) (by omega) inb_S256x512_S256x128_0_0⟩
  rcases Nat.lt_or_ge (y 1).val 256 with h' | h'
  · exact ⟨_, .tail _ (.tail _ (.head _)), key 128 h (by omega) inb_S256x512_S256x128_0_128⟩
  rcases Nat.lt_or_ge (y 1).val 384 with h'' | h''
  · exact ⟨_, .tail _ (.head _), key 256 h' (by omega) inb_S256x512_S256x128_0_256⟩
  · exact ⟨_, .head _, key 384 h'' (by omega) inb_S256x512_S256x128_0_384⟩

/-- What the result's staging buffer reads after the four stores. -/
theorem out_val (arg8 : Memref sig .tc .vmem S256x512 .bf16) (f8 : arg8.view.ty.Contents (Elt F)) (s : St F) (a : Fin 8 → Vec F S128x256 .f32) (ha : ∀ h, a h = s.acc h) :
    arg8.view.read (Elt F) (arg8.view.writes (Elt F) f8 [⟨Rect.unit (s := S256x512) ![0, 384] S256x128.size inb_S256x512_S256x128_0_384, colsOf (a 6) (a 7)⟩,
      ⟨Rect.unit (s := S256x512) ![0, 256] S256x128.size inb_S256x512_S256x128_0_256, colsOf (a 4) (a 5)⟩,
      ⟨Rect.unit (s := S256x512) ![0, 128] S256x128.size inb_S256x512_S256x128_0_128, colsOf (a 2) (a 3)⟩,
      ⟨Rect.unit (s := S256x512) ![0, 0] S256x128.size inb_S256x512_S256x128_0_0, colsOf (a 0) (a 1)⟩]) = outOf s := by
  obtain rfl : a = s.acc := funext ha
  exact View.read_writes_eq_canon _ _ _ (out_cover _ _ _ _)

set_option maxHeartbeats 8000000 in
/-- The body where a whole block of keys precedes the diagonal one. -/
theorem body_pos (c : Dev nD) (i : grid0.Coords)
  (arg3 : Memref sig .tc .vmem S512x256 .bf16) (harg3 : arg3.IsWhole) (f3 : Buf (Elt F) (arg3.view.loc (c : Thread nD τ)))
  (arg4 : Memref sig .tc .vmem S1x8192x512 .bf16) (harg4 : arg4.IsWhole) (f4 : Buf (Elt F) (arg4.view.loc (c : Thread nD τ)))
  (arg5 : Memref sig .tc .vmem S32x512x256 .bf16) (harg5 : arg5.IsWhole) (f5 : Buf (Elt F) (arg5.view.loc (c : Thread nD τ)))
  (arg6 : Memref sig .tc .vmem S1x1x512 .f32) (harg6 : arg6.IsWhole) (f6 : Buf (Elt F) (arg6.view.loc (c : Thread nD τ)))
  (arg7 : Memref sig .tc .vmem S256x256 .bf16) (harg7 : arg7.IsWhole) (f7 : Buf (Elt F) (arg7.view.loc (c : Thread nD τ)))
  (arg8 : Memref sig .tc .vmem S256x512 .bf16) (harg8 : arg8.IsWhole) (f8 : Buf (Elt F) (arg8.view.loc (c : Thread nD τ)))
  (s : St F) (x : Pt F) (hQ : x = point (arg3.view.read (Elt F) f3) (arg4.view.read (Elt F) f4) (arg5.view.read (Elt F) f5) (arg6.view.read (Elt F) f6) (arg7.view.read (Elt F) f7))
  (hc : k0_cond1 i = 1#1) (K : PUnit → sProp 𝕄) :
  iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ heldSt c s) ∗ (iprop(∃ f8', ⌜arg8.view.read (Elt F) f8' = outOf (x.last (i 2).val)⌝ ∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ heldSt c (x.last (i 2).val))) -∗ K ⟨⟩)) ⊢ wp frame (wpE (defs₀ (F := F)) 𝒱₀ (c : Thread nD τ) none) Set.univ
    (cc0_stick_breaking_attention i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _)) K := by
  have hi : (i 2).val < 32 := (i 2).isLt
  have hz : (![0, 0] : Fin 2 → ℕ) = fun _ => 0 := by funext a; fin_cases a <;> rfl
  have hz3 : (![0, 0, 0] : Fin 3 → ℕ) = fun _ => 0 := by funext a; fin_cases a <;> rfl
  have hi0 : 0 < (i 2).val := (cond_iff _ hi).1 hc
  have hx : ∀ p j, x.kb p j = kAt (arg4.view.read (Elt F) f4) p j := by subst hQ; exact fun _ _ => rfl
  have hy : ∀ p j, x.vb p j = vAt (arg5.view.read (Elt F) f5) p j := by subst hQ; exact fun _ _ => rfl
  have hq : ∀ h, truncf .bf16 (qfOf h (qAt (arg3.view.read (Elt F) f3) (pairOf h))) bitsLt_bf16_f32 = x.q h := by subst hQ; exact fun _ => rfl
  have hm : ∀ h, k0_pay207 (qfOf h (qAt (arg3.view.read (Elt F) f3) (pairOf h))) (slab (arg6.view.read (Elt F) f6) h) = x.zm h := by subst hQ; exact fun _ => rfl
  have ht : arg7.view.read (Elt F) f7 = x.tri := by subst hQ; rfl
  simp only [cc0_stick_breaking_attention_eq_skeleton]; unfold cc0_stick_breaking_attention_skel
  unfold heldSt
  iintro ⟨⟨H3, H4, H5, H6, H7, H8, R0, R1, R2, R3, R4, R5, R6, R7, A0, A1, A2, A3, A4, A5, A6, A7⟩, Hk⟩
  sl_exec_parts
  have hk0 := (readAt_off arg4 f4 (off1_eq i) (k0_off1_inb i hc) (kInb 0 (dblk (i 2).val))).trans (hx 0 _).symm
  have hk1 := (readAt_off arg4 f4 (off3_eq i) (k0_off3_inb i hc) (kInb 1 (dblk (i 2).val))).trans (hx 1 _).symm
  have hk2 := (readAt_off arg4 f4 (off5_eq i) (k0_off5_inb i hc) (kInb 2 (dblk (i 2).val))).trans (hx 2 _).symm
  have hk3 := (readAt_off arg4 f4 (off7_eq i) (k0_off7_inb i hc) (kInb 3 (dblk (i 2).val))).trans (hx 3 _).symm
  have hl0 := (readAt_off arg4 f4 (off2_eq i hi0) (k0_off2_inb i hc) (kInb 0 (blk (i 2).val 0))).trans (hx 0 _).symm
  have hl1 := (readAt_off arg4 f4 (off4_eq i hi0) (k0_off4_inb i hc) (kInb 1 (blk (i 2).val 0))).trans (hx 1 _).symm
  have hl2 := (readAt_off arg4 f4 (off6_eq i hi0) (k0_off6_inb i hc) (kInb 2 (blk (i 2).val 0))).trans (hx 2 _).symm
  have hl3 := (readAt_off arg4 f4 (off8_eq i hi0) (k0_off8_inb i hc) (kInb 3 (blk (i 2).val 0))).trans (hx 3 _).symm
  have hv0 := (readAt_off arg5 f5 (off9_eq i) (k0_off9_inb i hc) (vInb 0 (dblk (i 2).val))).trans (hy 0 _).symm
  have hv1 := (readAt_off arg5 f5 (off11_eq i) (k0_off11_inb i hc) (vInb 1 (dblk (i 2).val))).trans (hy 1 _).symm
  have hv2 := (readAt_off arg5 f5 (off13_eq i) (k0_off13_inb i hc) (vInb 2 (dblk (i 2).val))).trans (hy 2 _).symm
  have hv3 := (readAt_off arg5 f5 (off15_eq i) (k0_off15_inb i hc) (vInb 3 (dblk (i 2).val))).trans (hy 3 _).symm
  have hu0 := (readAt_off arg5 f5 (off10_eq i hi0) (k0_off10_inb i hc) (vInb 0 (blk (i 2).val 0))).trans (hy 0 _).symm
  have hu1 := (readAt_off arg5 f5 (off12_eq i hi0) (k0_off12_inb i hc) (vInb 1 (blk (i 2).val 0))).trans (hy 1 _).symm
  have hu2 := (readAt_off arg5 f5 (off14_eq i hi0) (k0_off14_inb i hc) (vInb 2 (blk (i 2).val 0))).trans (hy 2 _).symm
  have hu3 := (readAt_off arg5 f5 (off16_eq i hi0) (k0_off16_inb i hc) (vInb 3 (blk (i 2).val 0))).trans (hy 3 _).symm
  have ht1 : body_pos.sl.r c arg7 f7 = x.tri := (shapeCast_self _ _).trans ((View.readAt_full arg7.view f7 _).trans ht)
  have hq0 : body_pos.sl.r_2 c arg3 f3 = x.q 0 := hq 0
  have hq1 : body_pos.sl.r_5 c arg3 f3 = x.q 1 := hq 1
  have hq2 : body_pos.sl.r_7 c arg3 f3 = x.q 2 := hq 2
  have hq3 : body_pos.sl.r_9 c arg3 f3 = x.q 3 := hq 3
  have hq4 : body_pos.sl.r_12 c arg3 f3 = x.q 4 := hq 4
  have hq5 : body_pos.sl.r_15 c arg3 f3 = x.q 5 := hq 5
  have hq6 : body_pos.sl.r_18 c arg3 f3 = x.q 6 := hq 6
  have hq7 : body_pos.sl.r_20 c arg3 f3 = x.q 7 := hq 7
  have hm0 : body_pos.sl.r_3 c arg3 f3 arg6 f6 = x.zm 0 := (zm_val 0 _ (View.readAt_full arg6.view f6 _)).trans (hm 0)
  have hm1 : body_pos.sl.r_6 c arg3 f3 arg6 f6 = x.zm 1 := (zm_val 1 _ (View.readAt_full arg6.view f6 _)).trans (hm 1)
  have hm2 : body_pos.sl.r_8 c arg3 f3 arg6 f6 = x.zm 2 := (zm_val 2 _ (View.readAt_full arg6.view f6 _)).trans (hm 2)
  have hm3 : body_pos.sl.r_10 c arg3 f3 arg6 f6 = x.zm 3 := (zm_val 3 _ (View.readAt_full arg6.view f6 _)).trans (hm 3)
  have hm4 : body_pos.sl.r_14 c arg3 f3 arg6 f6 = x.zm 4 := (zm_val 4 _ (View.readAt_full arg6.view f6 _)).trans (hm 4)
  have hm5 : body_pos.sl.r_16 c arg3 f3 arg6 f6 = x.zm 5 := (zm_val 5 _ (View.readAt_full arg6.view f6 _)).trans (hm 5)
  have hm6 : body_pos.sl.r_19 c arg3 f3 arg6 f6 = x.zm 6 := (zm_val 6 _ (View.readAt_full arg6.view f6 _)).trans (hm 6)
  have hm7 : k0_pay225 (body_pos.sl.r_21 c arg6 f6) (body_pos.sl.r_22 c arg3 f3) = x.zm 7 := (zm_val 7 _ (View.readAt_full arg6.view f6 _)).trans (hm 7)
  have z0 : (Memref.whole cc0_scratch0).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch0).view hz inb_S1x256_S1x256_0_0 _
  have z1 : (Memref.whole cc0_scratch1).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch1).view hz inb_S1x256_S1x256_0_0 _
  have z2 : (Memref.whole cc0_scratch2).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch2).view hz inb_S1x256_S1x256_0_0 _
  have z3 : (Memref.whole cc0_scratch3).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch3).view hz inb_S1x256_S1x256_0_0 _
  have z4 : (Memref.whole cc0_scratch4).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch4).view hz inb_S1x256_S1x256_0_0 _
  have z5 : (Memref.whole cc0_scratch5).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch5).view hz inb_S1x256_S1x256_0_0 _
  have z6 : (Memref.whole cc0_scratch6).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch6).view hz inb_S1x256_S1x256_0_0 _
  have z7 : (Memref.whole cc0_scratch7).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch7).view hz inb_S1x256_S1x256_0_0 _
  have hw : k0_pay230 (body_pos.sl.r_103 c i arg3 f3 arg4 f4 arg6 f6 arg7 f7 hc) = worstOf (x.enter (i 2).val).run x.zm := by
    rw [Pt.enter, if_neg (by omega)]
    have e1 := fin4 (f := fun p => x.kb p (dblk (i 2).val)) hk0 hk1 hk2 hk3
    have e2 := fin4 (f := fun p => x.kb p (blk (i 2).val 0)) hl0 hl1 hl2 hl3
    have e3 := fin8 (f := fun _ => (k0_pay185 : Vec F S1x256 .f32)) z0 z1 z2 z3 z4 z5 z6 z7
    have e5 := fin8 (f := x.q) hq0 hq1 hq2 hq3 hq4 hq5 hq6 hq7
    have e6 := fin8 (f := x.zm) hm0 hm1 hm2 hm3 hm4 hm5 hm6 hm7
    have e4 := worst_first x (dblk (i 2).val) (blk (i 2).val 0) _ _ _ _ _ _ e5 ht1 e6 e1 e2 e3
    exact (worst_pos _).trans e4
  rw [ht1, hq0, hm0, hq1, hm1, hq2, hm2, hq3, hm3, hq4, hm4, hq5, hm5, hq6, hm6, hq7, hm7, hw]
  have g0 : (Memref.whole cc0_scratch0).view.writes (Elt F) (s.run 0) (body_pos.sl.R0_2 c i arg3 f3 arg4 f4 arg7 f7 hc) = (x.visit (blk (i 2).val 0) (x.diag (dblk (i 2).val) zero)).run 0 := ((whole_writes cc0_scratch0 _ inb_S1x256_S1x256_0_0 _ _).trans (run_first hq0 ht1 hk0 hl0 (View.readCov_unit_zero (Memref.whole cc0_scratch0).view hz inb_S1x256_S1x256_0_0 _)))
  have g1 : (Memref.whole cc0_scratch1).view.writes (Elt F) (s.run 1) (body_pos.sl.R1_2 c i arg3 f3 arg4 f4 arg7 f7 hc) = (x.visit (blk (i 2).val 0) (x.diag (dblk (i 2).val) zero)).run 1 := ((whole_writes cc0_scratch1 _ inb_S1x256_S1x256_0_0 _ _).trans (run_first hq1 ht1 hk0 hl0 (View.readCov_unit_zero (Memref.whole cc0_scratch1).view hz inb_S1x256_S1x256_0_0 _)))
  have g2 : (Memref.whole cc0_scratch2).view.writes (Elt F) (s.run 2) (body_pos.sl.R2_2 c i arg3 f3 arg4 f4 arg7 f7 hc) = (x.visit (blk (i 2).val 0) (x.diag (dblk (i 2).val) zero)).run 2 := ((whole_writes cc0_scratch2 _ inb_S1x256_S1x256_0_0 _ _).trans (run_first hq2 ht1 hk1 hl1 (View.readCov_unit_zero (Memref.whole cc0_scratch2).view hz inb_S1x256_S1x256_0_0 _)))
  have g3 : (Memref.whole cc0_scratch3).view.writes (Elt F) (s.run 3) (body_pos.sl.R3_2 c i arg3 f3 arg4 f4 arg7 f7 hc) = (x.visit (blk (i 2).val 0) (x.diag (dblk (i 2).val) zero)).run 3 := ((whole_writes cc0_scratch3 _ inb_S1x256_S1x256_0_0 _ _).trans (run_first hq3 ht1 hk1 hl1 (View.readCov_unit_zero (Memref.whole cc0_scratch3).view hz inb_S1x256_S1x256_0_0 _)))
  have g4 : (Memref.whole cc0_scratch4).view.writes (Elt F) (s.run 4) (body_pos.sl.R4_2 c i arg3 f3 arg4 f4 arg7 f7 hc) = (x.visit (blk (i 2).val 0) (x.diag (dblk (i 2).val) zero)).run 4 := ((whole_writes cc0_scratch4 _ inb_S1x256_S1x256_0_0 _ _).trans (run_first hq4 ht1 hk2 hl2 (View.readCov_unit_zero (Memref.whole cc0_scratch4).view hz inb_S1x256_S1x256_0_0 _)))
  have g5 : (Memref.whole cc0_scratch5).view.writes (Elt F) (s.run 5) (body_pos.sl.R5_2 c i arg3 f3 arg4 f4 arg7 f7 hc) = (x.visit (blk (i 2).val 0) (x.diag (dblk (i 2).val) zero)).run 5 := ((whole_writes cc0_scratch5 _ inb_S1x256_S1x256_0_0 _ _).trans (run_first hq5 ht1 hk2 hl2 (View.readCov_unit_zero (Memref.whole cc0_scratch5).view hz inb_S1x256_S1x256_0_0 _)))
  have g6 : (Memref.whole cc0_scratch6).view.writes (Elt F) (s.run 6) (body_pos.sl.R6_2 c i arg3 f3 arg4 f4 arg7 f7 hc) = (x.visit (blk (i 2).val 0) (x.diag (dblk (i 2).val) zero)).run 6 := ((whole_writes cc0_scratch6 _ inb_S1x256_S1x256_0_0 _ _).trans (run_first hq6 ht1 hk3 hl3 (View.readCov_unit_zero (Memref.whole cc0_scratch6).view hz inb_S1x256_S1x256_0_0 _)))
  have g7 : (Memref.whole cc0_scratch7).view.writes (Elt F) (s.run 7) (body_pos.sl.R7_2 c i arg3 f3 arg4 f4 arg7 f7 hc) = (x.visit (blk (i 2).val 0) (x.diag (dblk (i 2).val) zero)).run 7 := ((whole_writes cc0_scratch7 _ inb_S1x256_S1x256_0_0 _ _).trans (run_first hq7 ht1 hk3 hl3 (View.readCov_unit_zero (Memref.whole cc0_scratch7).view hz inb_S1x256_S1x256_0_0 _)))
  have g8 : (Memref.whole cc0_scratch8).view.writes (Elt F) (s.acc 0) (body_pos.sl.A0_2 c i arg3 f3 arg4 f4 arg5 f5 arg7 f7 hc) = (x.visit (blk (i 2).val 0) (x.diag (dblk (i 2).val) zero)).acc 0 := ((whole_writes cc0_scratch8 _ inb_S128x256_S128x256_0_0 _ _).trans (acc_first hq0 ht1 hk0 hl0 (View.readCov_unit_zero (Memref.whole cc0_scratch0).view hz inb_S1x256_S1x256_0_0 _) (View.readCov_unit_zero (Memref.whole cc0_scratch8).view hz inb_S128x256_S128x256_0_0 _) hv0 hu0))
  have a9 : body_pos.sl.r_82 c i arg3 f3 arg4 f4 arg7 f7 hc = wD (body_pos.sl.r_25 c i arg3 f3 arg4 f4 hc) (sufOf (body_pos.sl.r c arg7 f7) (body_pos.sl.r_41 c i arg3 f3 arg4 f4 hc)) body_pos.sl.v561 := w_pos _ _ _ _
  have g9 : (Memref.whole cc0_scratch9).view.writes (Elt F) (s.acc 1) (body_pos.sl.A1_2 c i arg3 f3 arg4 f4 arg5 f5 arg7 f7 hc) = (x.visit (blk (i 2).val 0) (x.diag (dblk (i 2).val) zero)).acc 1 := ((whole_writes cc0_scratch9 _ inb_S128x256_S128x256_0_0 _ _).trans ((acc_pos a9 _ _ _ _).trans (acc_first hq1 ht1 hk0 hl0 (View.readCov_unit_zero (Memref.whole cc0_scratch1).view hz inb_S1x256_S1x256_0_0 _) (View.readCov_unit_zero (Memref.whole cc0_scratch9).view hz inb_S128x256_S128x256_0_0 _) hv0 hu0)))
  have g10 : (Memref.whole cc0_scratch10).view.writes (Elt F) (s.acc 2) (body_pos.sl.A2_2 c i arg3 f3 arg4 f4 arg5 f5 arg7 f7 hc) = (x.visit (blk (i 2).val 0) (x.diag (dblk (i 2).val) zero)).acc 2 := ((whole_writes cc0_scratch10 _ inb_S128x256_S128x256_0_0 _ _).trans (acc_first hq2 ht1 hk1 hl1 (View.readCov_unit_zero (Memref.whole cc0_scratch2).view hz inb_S1x256_S1x256_0_0 _) (View.readCov_unit_zero (Memref.whole cc0_scratch10).view hz inb_S128x256_S128x256_0_0 _) hv1 hu1))
  have g11 : (Memref.whole cc0_scratch11).view.writes (Elt F) (s.acc 3) (body_pos.sl.A3_2 c i arg3 f3 arg4 f4 arg5 f5 arg7 f7 hc) = (x.visit (blk (i 2).val 0) (x.diag (dblk (i 2).val) zero)).acc 3 := ((whole_writes cc0_scratch11 _ inb_S128x256_S128x256_0_0 _ _).trans (acc_first hq3 ht1 hk1 hl1 (View.readCov_unit_zero (Memref.whole cc0_scratch3).view hz inb_S1x256_S1x256_0_0 _) (View.readCov_unit_zero (Memref.whole cc0_scratch11).view hz inb_S128x256_S128x256_0_0 _) hv1 hu1))
  have g12 : (Memref.whole cc0_scratch12).view.writes (Elt F) (s.acc 4) (⟨Rect.unit (s := S128x256) ![0, 0] S128x256.size inb_S128x256_S128x256_0_0, k0_pay115 (body_pos.sl.r_90 c i arg3 f3 arg4 f4 arg7 f7 hc) (body_pos.sl.r_91 c i arg3 f3 arg4 f4 arg7 f7 hc) body_pos.sl.v771 (body_pos.sl.r_105 c i arg5 f5 hc) body_pos.sl.cst_343 (View.readAt (Elt F) arg5.view (Rect.unit (s := S32x512x256) (k0_off14 i) S1x128x256.size (k0_off14_inb i hc)).toLoadRect f5)⟩ :: body_pos.sl.A4_1) = (x.visit (blk (i 2).val 0) (x.diag (dblk (i 2).val) zero)).acc 4 := ((whole_writes cc0_scratch12 _ inb_S128x256_S128x256_0_0 _ _).trans (acc_first hq4 ht1 hk2 hl2 (View.readCov_unit_zero (Memref.whole cc0_scratch4).view hz inb_S1x256_S1x256_0_0 _) (View.readCov_unit_zero (Memref.whole cc0_scratch12).view hz inb_S128x256_S128x256_0_0 _) hv2 hu2))
  have g13 : (Memref.whole cc0_scratch13).view.writes (Elt F) (s.acc 5) (⟨Rect.unit (s := S128x256) ![0, 0] S128x256.size inb_S128x256_S128x256_0_0, k0_pay116 (body_pos.sl.r_93 c i arg3 f3 arg4 f4 arg7 f7 hc) (body_pos.sl.r_95 c i arg3 f3 arg4 f4 arg7 f7 hc) body_pos.sl.v785 (View.readAt (Elt F) arg5.view (Rect.unit (s := S32x512x256) (k0_off13 i) S1x128x256.size (k0_off13_inb i hc)).toLoadRect f5) (View.readAt (Elt F) arg5.view (Rect.unit (s := S32x512x256) (k0_off14 i) S1x128x256.size (k0_off14_inb i hc)).toLoadRect f5)⟩ :: body_pos.sl.A5_1) = (x.visit (blk (i 2).val 0) (x.diag (dblk (i 2).val) zero)).acc 5 := ((whole_writes cc0_scratch13 _ inb_S128x256_S128x256_0_0 _ _).trans (acc_first hq5 ht1 hk2 hl2 (View.readCov_unit_zero (Memref.whole cc0_scratch5).view hz inb_S1x256_S1x256_0_0 _) (View.readCov_unit_zero (Memref.whole cc0_scratch13).view hz inb_S128x256_S128x256_0_0 _) hv2 hu2))
  have g14 : (Memref.whole cc0_scratch14).view.writes (Elt F) (s.acc 6) (⟨Rect.unit (s := S128x256) ![0, 0] S128x256.size inb_S128x256_S128x256_0_0, k0_pay228 (body_pos.sl.r_106 c i arg3 f3 arg4 f4 arg5 f5 arg7 f7 hc)⟩ :: body_pos.sl.A6_1) = (x.visit (blk (i 2).val 0) (x.diag (dblk (i 2).val) zero)).acc 6 := ((whole_writes cc0_scratch14 _ inb_S128x256_S128x256_0_0 _ _).trans (acc_first hq6 ht1 hk3 hl3 (View.readCov_unit_zero (Memref.whole cc0_scratch6).view hz inb_S1x256_S1x256_0_0 _) (View.readCov_unit_zero (Memref.whole cc0_scratch14).view hz inb_S128x256_S128x256_0_0 _) hv3 hu3))
  have g15 : (Memref.whole cc0_scratch15).view.writes (Elt F) (s.acc 7) (⟨Rect.unit (s := S128x256) ![0, 0] S128x256.size inb_S128x256_S128x256_0_0, k0_pay229 (body_pos.sl.r_99 c i arg3 f3 arg4 f4 arg7 f7 hc) (body_pos.sl.r_102 c i arg3 f3 arg4 f4 arg7 f7 hc) body_pos.sl.v813 (View.readAt (Elt F) arg5.view (Rect.unit (s := S32x512x256) (k0_off15 i) S1x128x256.size (k0_off15_inb i hc)).toLoadRect f5) (View.readAt (Elt F) arg5.view (Rect.unit (s := S32x512x256) (k0_off16 i) S1x128x256.size (k0_off16_inb i hc)).toLoadRect f5)⟩ :: body_pos.sl.A7_1) = (x.visit (blk (i 2).val 0) (x.diag (dblk (i 2).val) zero)).acc 7 := ((whole_writes cc0_scratch15 _ inb_S128x256_S128x256_0_0 _ _).trans (acc_first hq7 ht1 hk3 hl3 (View.readCov_unit_zero (Memref.whole cc0_scratch7).view hz inb_S1x256_S1x256_0_0 _) (View.readCov_unit_zero (Memref.whole cc0_scratch15).view hz inb_S128x256_S128x256_0_0 _) hv3 hu3))
  iapply (wp_call_spec 𝒱₀ (c : Thread nD τ) none Set.univ
    (spec c i arg4 arg5 f4 f5 x ((i 2).val - 1) 1 (worstOf (x.enter (i 2).val).run x.zm) (x.enter (i 2).val)) ((i 2).val - 1)
    (fun u hu => nomatch hu) (spec_le c i arg4 harg4 arg5 harg5 f4 f5 x hx hy Set.univ ((i 2).val - 1) 1 le_rfl rfl (by decide) _ _))
  rw [spec_apply]; unfold held heldSt
  rw [Pt.enter, if_neg (by omega)]
  isplitl [H4 H5 R0 R1 R2 R3 R4 R5 R6 R7 A0 A1 A2 A3 A4 A5 A6 A7]
  · isplitl [H4]; · iexact H4
    isplitl [H5]; · iexact H5
    isplitl [R0]
    · iapply (held_of_eq g0)
      iexact R0
    isplitl [R1]
    · iapply (held_of_eq g1)
      iexact R1
    isplitl [R2]
    · iapply (held_of_eq g2)
      iexact R2
    isplitl [R3]
    · iapply (held_of_eq g3)
      iexact R3
    isplitl [R4]
    · iapply (held_of_eq g4)
      iexact R4
    isplitl [R5]
    · iapply (held_of_eq g5)
      iexact R5
    isplitl [R6]
    · iapply (held_of_eq g6)
      iexact R6
    isplitl [R7]
    · iapply (held_of_eq g7)
      iexact R7
    isplitl [A0]
    · iapply (held_of_eq g8)
      iexact A0
    isplitl [A1]
    · iapply (held_of_eq g9)
      iexact A1
    isplitl [A2]
    · iapply (held_of_eq g10)
      iexact A2
    isplitl [A3]
    · iapply (held_of_eq g11)
      iexact A3
    isplitl [A4]
    · iapply (held_of_eq g12)
      iexact A4
    isplitl [A5]
    · iapply (held_of_eq g13)
      iexact A5
    isplitl [A6]
    · iapply (held_of_eq g14)
      iexact A6
    iapply (held_of_eq g15)
    iexact A7
  iintro %r ⟨H4, H5, R0, R1, R2, R3, R4, R5, R6, R7, A0, A1, A2, A3, A4, A5, A6, A7⟩
  have hlast : x.walk (i 2).val ((i 2).val - 1) 1 (worstOf (x.visit (blk (i 2).val 0) (x.diag (dblk (i 2).val) zero)).run x.zm) (x.visit (blk (i 2).val 0) (x.diag (dblk (i 2).val) zero)) = x.last (i 2).val := by rw [Pt.last, Pt.enter, if_neg (by omega)]
  rw [hlast]
  sl_exec_parts
  rw [wp_ret]; imodintro
  iapply Hk
  iexists _
  isplitr
  rotate_left
  · isplitl [H3]; · iexact H3
    isplitl [H4]; · iexact H4
    isplitl [H5]; · iexact H5
    isplitl [H6]; · iexact H6
    isplitl [H7]; · iexact H7
    isplitl [H8]; · iexact H8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ipureintro
  exact out_val arg8 f8 (x.last (i 2).val) ![(Memref.whole cc0_scratch8).view.readAt (Elt F) (Rect.unit (s := S128x256) ![0, 0] S128x256.size inb_S128x256_S128x256_0_0).toLoadRect ((x.last (i 2).val).acc 0), (Memref.whole cc0_scratch9).view.readAt (Elt F) (Rect.unit (s := S128x256) ![0, 0] S128x256.size inb_S128x256_S128x256_0_0).toLoadRect ((x.last (i 2).val).acc 1), (Memref.whole cc0_scratch10).view.readAt (Elt F) (Rect.unit (s := S128x256) ![0, 0] S128x256.size inb_S128x256_S128x256_0_0).toLoadRect ((x.last (i 2).val).acc 2), (Memref.whole cc0_scratch11).view.readAt (Elt F) (Rect.unit (s := S128x256) ![0, 0] S128x256.size inb_S128x256_S128x256_0_0).toLoadRect ((x.last (i 2).val).acc 3), (Memref.whole cc0_scratch12).view.readAt (Elt F) (Rect.unit (s := S128x256) ![0, 0] S128x256.size inb_S128x256_S128x256_0_0).toLoadRect ((x.last (i 2).val).acc 4), (Memref.whole cc0_scratch13).view.readAt (Elt F) (Rect.unit (s := S128x256) ![0, 0] S128x256.size inb_S128x256_S128x256_0_0).toLoadRect ((x.last (i 2).val).acc 5), (Memref.whole cc0_scratch14).view.readAt (Elt F) (Rect.unit (s := S128x256) ![0, 0] S128x256.size inb_S128x256_S128x256_0_0).toLoadRect ((x.last (i 2).val).acc 6), (Memref.whole cc0_scratch15).view.readAt (Elt F) (Rect.unit (s := S128x256) ![0, 0] S128x256.size inb_S128x256_S128x256_0_0).toLoadRect ((x.last (i 2).val).acc 7)]
    (fin8 (Memref.readAt_unit_zero (Elt F) cc0_scratch8 hz inb_S128x256_S128x256_0_0 _) (Memref.readAt_unit_zero (Elt F) cc0_scratch9 hz inb_S128x256_S128x256_0_0 _) (Memref.readAt_unit_zero (Elt F) cc0_scratch10 hz inb_S128x256_S128x256_0_0 _) (Memref.readAt_unit_zero (Elt F) cc0_scratch11 hz inb_S128x256_S128x256_0_0 _) (Memref.readAt_unit_zero (Elt F) cc0_scratch12 hz inb_S128x256_S128x256_0_0 _) (Memref.readAt_unit_zero (Elt F) cc0_scratch13 hz inb_S128x256_S128x256_0_0 _) (Memref.readAt_unit_zero (Elt F) cc0_scratch14 hz inb_S128x256_S128x256_0_0 _) (Memref.readAt_unit_zero (Elt F) cc0_scratch15 hz inb_S128x256_S128x256_0_0 _))

set_option maxHeartbeats 8000000 in
/-- The body at the first block of queries. -/
theorem body_neg (c : Dev nD) (i : grid0.Coords)
  (arg3 : Memref sig .tc .vmem S512x256 .bf16) (harg3 : arg3.IsWhole) (f3 : Buf (Elt F) (arg3.view.loc (c : Thread nD τ)))
  (arg4 : Memref sig .tc .vmem S1x8192x512 .bf16) (harg4 : arg4.IsWhole) (f4 : Buf (Elt F) (arg4.view.loc (c : Thread nD τ)))
  (arg5 : Memref sig .tc .vmem S32x512x256 .bf16) (harg5 : arg5.IsWhole) (f5 : Buf (Elt F) (arg5.view.loc (c : Thread nD τ)))
  (arg6 : Memref sig .tc .vmem S1x1x512 .f32) (harg6 : arg6.IsWhole) (f6 : Buf (Elt F) (arg6.view.loc (c : Thread nD τ)))
  (arg7 : Memref sig .tc .vmem S256x256 .bf16) (harg7 : arg7.IsWhole) (f7 : Buf (Elt F) (arg7.view.loc (c : Thread nD τ)))
  (arg8 : Memref sig .tc .vmem S256x512 .bf16) (harg8 : arg8.IsWhole) (f8 : Buf (Elt F) (arg8.view.loc (c : Thread nD τ)))
  (s : St F) (x : Pt F) (hQ : x = point (arg3.view.read (Elt F) f3) (arg4.view.read (Elt F) f4) (arg5.view.read (Elt F) f5) (arg6.view.read (Elt F) f6) (arg7.view.read (Elt F) f7))
  (hc : ¬ k0_cond1 i = 1#1) (K : PUnit → sProp 𝕄) :
  iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ heldSt c s) ∗ (iprop(∃ f8', ⌜arg8.view.read (Elt F) f8' = outOf (x.last (i 2).val)⌝ ∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ heldSt c (x.last (i 2).val))) -∗ K ⟨⟩)) ⊢ wp frame (wpE (defs₀ (F := F)) 𝒱₀ (c : Thread nD τ) none) Set.univ
    (cc0_stick_breaking_attention i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _)) K := by
  have hi : (i 2).val < 32 := (i 2).isLt
  have hz : (![0, 0] : Fin 2 → ℕ) = fun _ => 0 := by funext a; fin_cases a <;> rfl
  have hz3 : (![0, 0, 0] : Fin 3 → ℕ) = fun _ => 0 := by funext a; fin_cases a <;> rfl
  have hi0 : (i 2).val = 0 := by have := mt (cond_iff _ hi).2 hc; omega
  have hx : ∀ p j, x.kb p j = kAt (arg4.view.read (Elt F) f4) p j := by subst hQ; exact fun _ _ => rfl
  have hy : ∀ p j, x.vb p j = vAt (arg5.view.read (Elt F) f5) p j := by subst hQ; exact fun _ _ => rfl
  have hq : ∀ h, truncf .bf16 (qfOf h (qAt (arg3.view.read (Elt F) f3) (pairOf h))) bitsLt_bf16_f32 = x.q h := by subst hQ; exact fun _ => rfl
  have hm : ∀ h, k0_pay207 (qfOf h (qAt (arg3.view.read (Elt F) f3) (pairOf h))) (slab (arg6.view.read (Elt F) f6) h) = x.zm h := by subst hQ; exact fun _ => rfl
  have ht : arg7.view.read (Elt F) f7 = x.tri := by subst hQ; rfl
  simp only [cc0_stick_breaking_attention_eq_skeleton]; unfold cc0_stick_breaking_attention_skel
  unfold heldSt
  iintro ⟨⟨H3, H4, H5, H6, H7, H8, R0, R1, R2, R3, R4, R5, R6, R7, A0, A1, A2, A3, A4, A5, A6, A7⟩, Hk⟩
  sl_exec_parts
  have hk0 := (readAt_off arg4 f4 (off17_eq i) (k0_off17_inb i hc) (kInb 0 (dblk (i 2).val))).trans (hx 0 _).symm
  have hk1 := (readAt_off arg4 f4 (off18_eq i) (k0_off18_inb i hc) (kInb 1 (dblk (i 2).val))).trans (hx 1 _).symm
  have hk2 := (readAt_off arg4 f4 (off19_eq i) (k0_off19_inb i hc) (kInb 2 (dblk (i 2).val))).trans (hx 2 _).symm
  have hk3 := (readAt_off arg4 f4 (off20_eq i) (k0_off20_inb i hc) (kInb 3 (dblk (i 2).val))).trans (hx 3 _).symm
  have hv0 := (readAt_off arg5 f5 (off21_eq i) (k0_off21_inb i hc) (vInb 0 (dblk (i 2).val))).trans (hy 0 _).symm
  have hv1 := (readAt_off arg5 f5 (off22_eq i) (k0_off22_inb i hc) (vInb 1 (dblk (i 2).val))).trans (hy 1 _).symm
  have hv2 := (readAt_off arg5 f5 (off23_eq i) (k0_off23_inb i hc) (vInb 2 (dblk (i 2).val))).trans (hy 2 _).symm
  have hv3 := (readAt_off arg5 f5 (off24_eq i) (k0_off24_inb i hc) (vInb 3 (dblk (i 2).val))).trans (hy 3 _).symm
  have ht1 : body_neg.sl.r c arg7 f7 = x.tri := (shapeCast_self _ _).trans ((View.readAt_full arg7.view f7 _).trans ht)
  have hq0 : body_neg.sl.r_2 c arg3 f3 = x.q 0 := hq 0
  have hq1 : body_neg.sl.r_5 c arg3 f3 = x.q 1 := hq 1
  have hq2 : body_neg.sl.r_7 c arg3 f3 = x.q 2 := hq 2
  have hq3 : body_neg.sl.r_9 c arg3 f3 = x.q 3 := hq 3
  have hq4 : body_neg.sl.r_12 c arg3 f3 = x.q 4 := hq 4
  have hq5 : body_neg.sl.r_15 c arg3 f3 = x.q 5 := hq 5
  have hq6 : body_neg.sl.r_18 c arg3 f3 = x.q 6 := hq 6
  have hq7 : body_neg.sl.r_20 c arg3 f3 = x.q 7 := hq 7
  have hm0 : body_neg.sl.r_3 c arg3 f3 arg6 f6 = x.zm 0 := (zm_val 0 _ (View.readAt_full arg6.view f6 _)).trans (hm 0)
  have hm1 : body_neg.sl.r_6 c arg3 f3 arg6 f6 = x.zm 1 := (zm_val 1 _ (View.readAt_full arg6.view f6 _)).trans (hm 1)
  have hm2 : body_neg.sl.r_8 c arg3 f3 arg6 f6 = x.zm 2 := (zm_val 2 _ (View.readAt_full arg6.view f6 _)).trans (hm 2)
  have hm3 : body_neg.sl.r_10 c arg3 f3 arg6 f6 = x.zm 3 := (zm_val 3 _ (View.readAt_full arg6.view f6 _)).trans (hm 3)
  have hm4 : body_neg.sl.r_14 c arg3 f3 arg6 f6 = x.zm 4 := (zm_val 4 _ (View.readAt_full arg6.view f6 _)).trans (hm 4)
  have hm5 : body_neg.sl.r_16 c arg3 f3 arg6 f6 = x.zm 5 := (zm_val 5 _ (View.readAt_full arg6.view f6 _)).trans (hm 5)
  have hm6 : body_neg.sl.r_19 c arg3 f3 arg6 f6 = x.zm 6 := (zm_val 6 _ (View.readAt_full arg6.view f6 _)).trans (hm 6)
  have hm7 : k0_pay225 (body_neg.sl.r_21 c arg6 f6) (body_neg.sl.r_22 c arg3 f3) = x.zm 7 := (zm_val 7 _ (View.readAt_full arg6.view f6 _)).trans (hm 7)
  have z0 : (Memref.whole cc0_scratch0).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch0).view hz inb_S1x256_S1x256_0_0 _
  have z1 : (Memref.whole cc0_scratch1).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch1).view hz inb_S1x256_S1x256_0_0 _
  have z2 : (Memref.whole cc0_scratch2).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch2).view hz inb_S1x256_S1x256_0_0 _
  have z3 : (Memref.whole cc0_scratch3).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch3).view hz inb_S1x256_S1x256_0_0 _
  have z4 : (Memref.whole cc0_scratch4).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch4).view hz inb_S1x256_S1x256_0_0 _
  have z5 : (Memref.whole cc0_scratch5).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch5).view hz inb_S1x256_S1x256_0_0 _
  have z6 : (Memref.whole cc0_scratch6).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch6).view hz inb_S1x256_S1x256_0_0 _
  have z7 : (Memref.whole cc0_scratch7).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch7).view hz inb_S1x256_S1x256_0_0 _
  have hw : k0_pay231 (body_neg.sl.r_59 c i arg3 f3 arg4 f4 arg6 f6 arg7 f7 hc) = worstOf (x.enter (i 2).val).run x.zm := by
    rw [Pt.enter, if_pos hi0]
    exact worst_neg (W := (x.diag (dblk (i 2).val) zero).run) (M := x.zm) (run_core hq0 ht1 hk0 z0) (run_core hq1 ht1 hk0 z1) (run_core hq2 ht1 hk1 z2) (run_core hq3 ht1 hk1 z3) (run_core hq4 ht1 hk2 z4) (run_core hq5 ht1 hk2 z5) (run_core hq6 ht1 hk3 z6) (run_core hq7 ht1 hk3 z7) hm0 hm1 hm2 hm3 hm4 hm5 hm6 hm7
  rw [ht1, hq0, hm0, hq1, hm1, hq2, hm2, hq3, hm3, hq4, hm4, hq5, hm5, hq6, hm6, hq7, hm7, hw]
  have g0 : (Memref.whole cc0_scratch0).view.writes (Elt F) (s.run 0) (body_neg.sl.R0_2 c i arg3 f3 arg4 f4 arg7 f7 hc) = (x.diag (dblk (i 2).val) zero).run 0 := ((whole_writes cc0_scratch0 _ inb_S1x256_S1x256_0_0 _ _).trans (run_diag hq0 ht1 hk0 (View.readCov_unit_zero (Memref.whole cc0_scratch0).view hz inb_S1x256_S1x256_0_0 _)))
  have g1 : (Memref.whole cc0_scratch1).view.writes (Elt F) (s.run 1) (body_neg.sl.R1_2 c i arg3 f3 arg4 f4 arg7 f7 hc) = (x.diag (dblk (i 2).val) zero).run 1 := ((whole_writes cc0_scratch1 _ inb_S1x256_S1x256_0_0 _ _).trans (run_diag hq1 ht1 hk0 (View.readCov_unit_zero (Memref.whole cc0_scratch1).view hz inb_S1x256_S1x256_0_0 _)))
  have g2 : (Memref.whole cc0_scratch2).view.writes (Elt F) (s.run 2) (body_neg.sl.R2_2 c i arg3 f3 arg4 f4 arg7 f7 hc) = (x.diag (dblk (i 2).val) zero).run 2 := ((whole_writes cc0_scratch2 _ inb_S1x256_S1x256_0_0 _ _).trans (run_diag hq2 ht1 hk1 (View.readCov_unit_zero (Memref.whole cc0_scratch2).view hz inb_S1x256_S1x256_0_0 _)))
  have g3 : (Memref.whole cc0_scratch3).view.writes (Elt F) (s.run 3) (body_neg.sl.R3_2 c i arg3 f3 arg4 f4 arg7 f7 hc) = (x.diag (dblk (i 2).val) zero).run 3 := ((whole_writes cc0_scratch3 _ inb_S1x256_S1x256_0_0 _ _).trans (run_diag hq3 ht1 hk1 (View.readCov_unit_zero (Memref.whole cc0_scratch3).view hz inb_S1x256_S1x256_0_0 _)))
  have g4 : (Memref.whole cc0_scratch4).view.writes (Elt F) (s.run 4) (body_neg.sl.R4_2 c i arg3 f3 arg4 f4 arg7 f7 hc) = (x.diag (dblk (i 2).val) zero).run 4 := ((whole_writes cc0_scratch4 _ inb_S1x256_S1x256_0_0 _ _).trans (run_diag hq4 ht1 hk2 (View.readCov_unit_zero (Memref.whole cc0_scratch4).view hz inb_S1x256_S1x256_0_0 _)))
  have g5 : (Memref.whole cc0_scratch5).view.writes (Elt F) (s.run 5) (body_neg.sl.R5_2 c i arg3 f3 arg4 f4 arg7 f7 hc) = (x.diag (dblk (i 2).val) zero).run 5 := ((whole_writes cc0_scratch5 _ inb_S1x256_S1x256_0_0 _ _).trans (run_diag hq5 ht1 hk2 (View.readCov_unit_zero (Memref.whole cc0_scratch5).view hz inb_S1x256_S1x256_0_0 _)))
  have g6 : (Memref.whole cc0_scratch6).view.writes (Elt F) (s.run 6) (body_neg.sl.R6_2 c i arg3 f3 arg4 f4 arg7 f7 hc) = (x.diag (dblk (i 2).val) zero).run 6 := ((whole_writes cc0_scratch6 _ inb_S1x256_S1x256_0_0 _ _).trans (run_diag hq6 ht1 hk3 (View.readCov_unit_zero (Memref.whole cc0_scratch6).view hz inb_S1x256_S1x256_0_0 _)))
  have g7 : (Memref.whole cc0_scratch7).view.writes (Elt F) (s.run 7) (body_neg.sl.R7_2 c i arg3 f3 arg4 f4 arg7 f7 hc) = (x.diag (dblk (i 2).val) zero).run 7 := ((whole_writes cc0_scratch7 _ inb_S1x256_S1x256_0_0 _ _).trans (run_diag hq7 ht1 hk3 (View.readCov_unit_zero (Memref.whole cc0_scratch7).view hz inb_S1x256_S1x256_0_0 _)))
  have a8 : body_neg.sl.r_47 c i arg3 f3 arg4 f4 arg7 f7 hc = wD (body_neg.sl.r_23 c i arg3 f3 arg4 f4 hc) (sufOf (body_neg.sl.r c arg7 f7) (body_neg.sl.r_31 c i arg3 f3 arg4 f4 hc)) body_neg.sl.v393 := w_neg _ _ _ _
  have g8 : (Memref.whole cc0_scratch8).view.writes (Elt F) (s.acc 0) (body_neg.sl.A0_2 c i arg3 f3 arg4 f4 arg5 f5 arg7 f7 hc) = (x.diag (dblk (i 2).val) zero).acc 0 := ((whole_writes cc0_scratch8 _ inb_S128x256_S128x256_0_0 _ _).trans ((acc_neg a8 _ _).trans (acc_diag hq0 ht1 hk0 (View.readCov_unit_zero (Memref.whole cc0_scratch0).view hz inb_S1x256_S1x256_0_0 _) (View.readCov_unit_zero (Memref.whole cc0_scratch8).view hz inb_S128x256_S128x256_0_0 _) hv0)))
  have g9 : (Memref.whole cc0_scratch9).view.writes (Elt F) (s.acc 1) (body_neg.sl.A1_2 c i arg3 f3 arg4 f4 arg5 f5 arg7 f7 hc) = (x.diag (dblk (i 2).val) zero).acc 1 := ((whole_writes cc0_scratch9 _ inb_S128x256_S128x256_0_0 _ _).trans (acc_diag hq1 ht1 hk0 (View.readCov_unit_zero (Memref.whole cc0_scratch1).view hz inb_S1x256_S1x256_0_0 _) (View.readCov_unit_zero (Memref.whole cc0_scratch9).view hz inb_S128x256_S128x256_0_0 _) hv0))
  have g10 : (Memref.whole cc0_scratch10).view.writes (Elt F) (s.acc 2) (body_neg.sl.A2_2 c i arg3 f3 arg4 f4 arg5 f5 arg7 f7 hc) = (x.diag (dblk (i 2).val) zero).acc 2 := ((whole_writes cc0_scratch10 _ inb_S128x256_S128x256_0_0 _ _).trans (acc_diag hq2 ht1 hk1 (View.readCov_unit_zero (Memref.whole cc0_scratch2).view hz inb_S1x256_S1x256_0_0 _) (View.readCov_unit_zero (Memref.whole cc0_scratch10).view hz inb_S128x256_S128x256_0_0 _) hv1))
  have g11 : (Memref.whole cc0_scratch11).view.writes (Elt F) (s.acc 3) (body_neg.sl.A3_2 c i arg3 f3 arg4 f4 arg5 f5 arg7 f7 hc) = (x.diag (dblk (i 2).val) zero).acc 3 := ((whole_writes cc0_scratch11 _ inb_S128x256_S128x256_0_0 _ _).trans (acc_diag hq3 ht1 hk1 (View.readCov_unit_zero (Memref.whole cc0_scratch3).view hz inb_S1x256_S1x256_0_0 _) (View.readCov_unit_zero (Memref.whole cc0_scratch11).view hz inb_S128x256_S128x256_0_0 _) hv1))
  have g12 : (Memref.whole cc0_scratch12).view.writes (Elt F) (s.acc 4) (⟨Rect.unit (s := S128x256) ![0, 0] S128x256.size inb_S128x256_S128x256_0_0, k0_pay174 body_neg.sl.v548 (body_neg.sl.r_58 c i arg3 f3 arg4 f4 arg5 f5 arg7 f7 hc)⟩ :: body_neg.sl.A4_1) = (x.diag (dblk (i 2).val) zero).acc 4 := ((whole_writes cc0_scratch12 _ inb_S128x256_S128x256_0_0 _ _).trans (acc_diag hq4 ht1 hk2 (View.readCov_unit_zero (Memref.whole cc0_scratch4).view hz inb_S1x256_S1x256_0_0 _) (View.readCov_unit_zero (Memref.whole cc0_scratch12).view hz inb_S128x256_S128x256_0_0 _) hv2))
  have g13 : (Memref.whole cc0_scratch13).view.writes (Elt F) (s.acc 5) (⟨Rect.unit (s := S128x256) ![0, 0] S128x256.size inb_S128x256_S128x256_0_0, k0_pay175 (body_neg.sl.r_53 c i arg3 f3 arg4 f4 arg7 f7 hc) body_neg.sl.v557 (View.readAt (Elt F) arg5.view (Rect.unit (s := S32x512x256) (k0_off23 i) S1x128x256.size (k0_off23_inb i hc)).toLoadRect f5)⟩ :: body_neg.sl.A5_1) = (x.diag (dblk (i 2).val) zero).acc 5 := ((whole_writes cc0_scratch13 _ inb_S128x256_S128x256_0_0 _ _).trans (acc_diag hq5 ht1 hk2 (View.readCov_unit_zero (Memref.whole cc0_scratch5).view hz inb_S1x256_S1x256_0_0 _) (View.readCov_unit_zero (Memref.whole cc0_scratch13).view hz inb_S128x256_S128x256_0_0 _) hv2))
  have g14 : (Memref.whole cc0_scratch14).view.writes (Elt F) (s.acc 6) (⟨Rect.unit (s := S128x256) ![0, 0] S128x256.size inb_S128x256_S128x256_0_0, k0_pay176 (body_neg.sl.r_55 c i arg3 f3 arg4 f4 arg7 f7 hc) body_neg.sl.v566 (View.readAt (Elt F) arg5.view (Rect.unit (s := S32x512x256) (k0_off24 i) S1x128x256.size (k0_off24_inb i hc)).toLoadRect f5)⟩ :: body_neg.sl.A6_1) = (x.diag (dblk (i 2).val) zero).acc 6 := ((whole_writes cc0_scratch14 _ inb_S128x256_S128x256_0_0 _ _).trans (acc_diag hq6 ht1 hk3 (View.readCov_unit_zero (Memref.whole cc0_scratch6).view hz inb_S1x256_S1x256_0_0 _) (View.readCov_unit_zero (Memref.whole cc0_scratch14).view hz inb_S128x256_S128x256_0_0 _) hv3))
  have g15 : (Memref.whole cc0_scratch15).view.writes (Elt F) (s.acc 7) (⟨Rect.unit (s := S128x256) ![0, 0] S128x256.size inb_S128x256_S128x256_0_0, k0_pay177 (body_neg.sl.r_56 c i arg3 f3 arg4 f4 arg7 f7 hc) body_neg.sl.v575 (View.readAt (Elt F) arg5.view (Rect.unit (s := S32x512x256) (k0_off24 i) S1x128x256.size (k0_off24_inb i hc)).toLoadRect f5)⟩ :: body_neg.sl.A7_1) = (x.diag (dblk (i 2).val) zero).acc 7 := ((whole_writes cc0_scratch15 _ inb_S128x256_S128x256_0_0 _ _).trans (acc_diag hq7 ht1 hk3 (View.readCov_unit_zero (Memref.whole cc0_scratch7).view hz inb_S1x256_S1x256_0_0 _) (View.readCov_unit_zero (Memref.whole cc0_scratch15).view hz inb_S128x256_S128x256_0_0 _) hv3))
  iapply (wp_call_spec 𝒱₀ (c : Thread nD τ) none Set.univ
    (spec c i arg4 arg5 f4 f5 x ((i 2).val - 1) 1 (worstOf (x.enter (i 2).val).run x.zm) (x.enter (i 2).val)) ((i 2).val - 1)
    (fun u hu => nomatch hu) (spec_le c i arg4 harg4 arg5 harg5 f4 f5 x hx hy Set.univ ((i 2).val - 1) 1 le_rfl rfl (by decide) _ _))
  rw [spec_apply]; unfold held heldSt
  rw [Pt.enter, if_pos hi0]
  isplitl [H4 H5 R0 R1 R2 R3 R4 R5 R6 R7 A0 A1 A2 A3 A4 A5 A6 A7]
  · isplitl [H4]; · iexact H4
    isplitl [H5]; · iexact H5
    isplitl [R0]
    · iapply (held_of_eq g0)
      iexact R0
    isplitl [R1]
    · iapply (held_of_eq g1)
      iexact R1
    isplitl [R2]
    · iapply (held_of_eq g2)
      iexact R2
    isplitl [R3]
    · iapply (held_of_eq g3)
      iexact R3
    isplitl [R4]
    · iapply (held_of_eq g4)
      iexact R4
    isplitl [R5]
    · iapply (held_of_eq g5)
      iexact R5
    isplitl [R6]
    · iapply (held_of_eq g6)
      iexact R6
    isplitl [R7]
    · iapply (held_of_eq g7)
      iexact R7
    isplitl [A0]
    · iapply (held_of_eq g8)
      iexact A0
    isplitl [A1]
    · iapply (held_of_eq g9)
      iexact A1
    isplitl [A2]
    · iapply (held_of_eq g10)
      iexact A2
    isplitl [A3]
    · iapply (held_of_eq g11)
      iexact A3
    isplitl [A4]
    · iapply (held_of_eq g12)
      iexact A4
    isplitl [A5]
    · iapply (held_of_eq g13)
      iexact A5
    isplitl [A6]
    · iapply (held_of_eq g14)
      iexact A6
    iapply (held_of_eq g15)
    iexact A7
  iintro %r ⟨H4, H5, R0, R1, R2, R3, R4, R5, R6, R7, A0, A1, A2, A3, A4, A5, A6, A7⟩
  have hlast : x.walk (i 2).val ((i 2).val - 1) 1 (worstOf (x.diag (dblk (i 2).val) zero).run x.zm) (x.diag (dblk (i 2).val) zero) = x.last (i 2).val := by rw [Pt.last, Pt.enter, if_pos hi0]
  rw [hlast]
  sl_exec_parts
  rw [wp_ret]; imodintro
  iapply Hk
  iexists _
  isplitr
  rotate_left
  · isplitl [H3]; · iexact H3
    isplitl [H4]; · iexact H4
    isplitl [H5]; · iexact H5
    isplitl [H6]; · iexact H6
    isplitl [H7]; · iexact H7
    isplitl [H8]; · iexact H8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ipureintro
  exact out_val arg8 f8 (x.last (i 2).val) ![(Memref.whole cc0_scratch8).view.readAt (Elt F) (Rect.unit (s := S128x256) ![0, 0] S128x256.size inb_S128x256_S128x256_0_0).toLoadRect ((x.last (i 2).val).acc 0), (Memref.whole cc0_scratch9).view.readAt (Elt F) (Rect.unit (s := S128x256) ![0, 0] S128x256.size inb_S128x256_S128x256_0_0).toLoadRect ((x.last (i 2).val).acc 1), (Memref.whole cc0_scratch10).view.readAt (Elt F) (Rect.unit (s := S128x256) ![0, 0] S128x256.size inb_S128x256_S128x256_0_0).toLoadRect ((x.last (i 2).val).acc 2), (Memref.whole cc0_scratch11).view.readAt (Elt F) (Rect.unit (s := S128x256) ![0, 0] S128x256.size inb_S128x256_S128x256_0_0).toLoadRect ((x.last (i 2).val).acc 3), (Memref.whole cc0_scratch12).view.readAt (Elt F) (Rect.unit (s := S128x256) ![0, 0] S128x256.size inb_S128x256_S128x256_0_0).toLoadRect ((x.last (i 2).val).acc 4), (Memref.whole cc0_scratch13).view.readAt (Elt F) (Rect.unit (s := S128x256) ![0, 0] S128x256.size inb_S128x256_S128x256_0_0).toLoadRect ((x.last (i 2).val).acc 5), (Memref.whole cc0_scratch14).view.readAt (Elt F) (Rect.unit (s := S128x256) ![0, 0] S128x256.size inb_S128x256_S128x256_0_0).toLoadRect ((x.last (i 2).val).acc 6), (Memref.whole cc0_scratch15).view.readAt (Elt F) (Rect.unit (s := S128x256) ![0, 0] S128x256.size inb_S128x256_S128x256_0_0).toLoadRect ((x.last (i 2).val).acc 7)]
    (fin8 (Memref.readAt_unit_zero (Elt F) cc0_scratch8 hz inb_S128x256_S128x256_0_0 _) (Memref.readAt_unit_zero (Elt F) cc0_scratch9 hz inb_S128x256_S128x256_0_0 _) (Memref.readAt_unit_zero (Elt F) cc0_scratch10 hz inb_S128x256_S128x256_0_0 _) (Memref.readAt_unit_zero (Elt F) cc0_scratch11 hz inb_S128x256_S128x256_0_0 _) (Memref.readAt_unit_zero (Elt F) cc0_scratch12 hz inb_S128x256_S128x256_0_0 _) (Memref.readAt_unit_zero (Elt F) cc0_scratch13 hz inb_S128x256_S128x256_0_0 _) (Memref.readAt_unit_zero (Elt F) cc0_scratch14 hz inb_S128x256_S128x256_0_0 _) (Memref.readAt_unit_zero (Elt F) cc0_scratch15 hz inb_S128x256_S128x256_0_0 _))

end Cert.Proof.SBK

end
-- ==== Proof.SBK.Frame.lean ====
/-
  What the launch leaves of the arguments and the counters.
-/
module

public import proofs.«01_k».proof.Proof.SBK.Launch

@[expose] public section

noncomputable section

namespace Cert.Proof.SBK

open Cert.Kernel Cert.Kernel.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (g : Dev nD → PrngReg)

/-- No host operation writes an argument. -/
theorem V_arg0 (c : Dev nD) : V m c main_arg0 = m ((c.tc : Thread nD τ).loc main_arg0) := by unfold V; after_results_simp <;> rfl
theorem V_arg1 (c : Dev nD) : V m c main_arg1 = m ((c.tc : Thread nD τ).loc main_arg1) := by unfold V; after_results_simp <;> rfl
theorem V_arg2 (c : Dev nD) : V m c main_arg2 = m ((c.tc : Thread nD τ).loc main_arg2) := by unfold V; after_results_simp <;> rfl
theorem V_arg3 (c : Dev nD) : V m c main_arg3 = m ((c.tc : Thread nD τ).loc main_arg3) := by unfold V; after_results_simp <;> rfl

/-- The arguments end as they were, and the result array is what the pipeline leaves. -/
theorem kept {r} (h : Pipeline.FramePost (cfgs (F := F)) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans ((Dat.arrAt_in (dats m 0 c) 0 rfl _).trans (V_arg0 m c)),
   ((h c).2 main_arg1 (Pipeline.mem_restRefs_of (win := spec0) main_arg1 (by decide) (by decide))).trans (V_arg1 m c),
   ((h c).1 2).trans ((Dat.arrAt_in (dats m 0 c) 2 rfl _).trans (V_arg2 m c)),
   ((h c).1 3).trans ((Dat.arrAt_in (dats m 0 c) 3 rfl _).trans (V_arg3 m c))⟩

/-- The program runs, its arguments end unchanged and every counter at zero. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (run_main m g)

end Cert.Proof.SBK

end
-- ==== Proof.SB.Ops.lean ====
/-
  One grid point of the stick-breaking attention, as mathematics on blocks: what a visit of one 256-key block does
  to the running log masses and to the accumulators of the eight heads of a group, and the walk over the blocks from
  the diagonal downwards. Everything here is for any float values `F`.
-/
module

public import proofs.«01_k».proof.Proof.Gen.KernelIdeal.Skeleton
public import Idealize.ShloMosaic.Lib.Pipeline.FrameBody

@[expose] public section

noncomputable section

namespace Cert.Proof.SB

open Cert.KernelIdeal Cert.KernelIdeal.Gen
open Idealize.ShloMosaic

variable {F : FTy → Type} [FloatOps F] [Named F]

/-- The pair of heads, sharing 128 feature rows, that head `h` belongs to. -/
def pairOf (h : Fin 8) : Fin 4 := ⟨h.val / 2, by omega⟩

/-- What the visits of one grid point read: each head's queries and score bounds, the triangle of ones, and per pair
    of heads the blocks of keys and of values. -/
structure Pt (F : FTy → Type) where
  q : Fin 8 → FVec F S128x256 .bf16
  zm : Fin 8 → FVec F S1x256 .f32
  tri : FVec F S256x256 .bf16
  kb : Fin 4 → Fin 32 → Vec F S1x256x128 .bf16
  vb : Fin 4 → Fin 32 → Vec F S1x128x256 .bf16

/-- What the visits carry: each head's log mass of the keys already seen, and its accumulator. -/
structure St (F : FTy → Type) where
  run : Fin 8 → Vec F S1x256 .f32
  acc : Fin 8 → Vec F S128x256 .f32

/-- The scores of a block of keys against the queries. -/
def zOf (q : FVec F S128x256 .bf16) (kb : Vec F S1x256x128 .bf16) : FVec F S256x256 .f32 := k0_pay235 q kb

/-- The log of what each key of the block leaves of the stick. -/
def lomOf (z : FVec F S256x256 .f32) : FVec F S256x256 .bf16 := k0_pay243 z

/-- Sums of a block from each key on. -/
def sufOf (tri l : FVec F S256x256 .bf16) : FVec F S256x256 .f32 := k0_pay252 tri l

/-- The weights of the block. -/
def wOf (z suf : FVec F S256x256 .f32) (run : Vec F S1x256 .f32) : FVec F S256x256 .bf16 := k0_pay268 z suf run

/-- The log mass after the block. -/
def runOf (suf : FVec F S256x256 .f32) (run : Vec F S1x256 .f32) : Vec F S1x256 .f32 := k0_pay269 suf run

/-- The accumulator after the block. -/
def accOf (w : FVec F S256x256 .bf16) (acc : Vec F S128x256 .f32) (vb : Vec F S1x128x256 .bf16) : Vec F S128x256 .f32 :=
  k0_pay288 w acc vb

/-- The largest log mass left to any query of any head, bounded above by the heads' score bounds. -/
def worstOf (run : Fin 8 → Vec F S1x256 .f32) (zm : Fin 8 → FVec F S1x256 .f32) : F .f32 :=
  k0_pay4 (maximumf (maximumf (maximumf (maximumf (maximumf (maximumf (maximumf (addf (run 0) (zm 0)) (addf (run 1) (zm 1)))
    (addf (run 2) (zm 2))) (addf (run 3) (zm 3))) (addf (run 4) (zm 4))) (addf (run 5) (zm 5))) (addf (run 6) (zm 6))) (addf (run 7) (zm 7)))

/-- Head `h`'s scores in block `j`, -/
def Pt.z (x : Pt F) (h : Fin 8) (j : Fin 32) : FVec F S256x256 .f32 := zOf (x.q h) (x.kb (pairOf h) j)

/-- and their sums from each key on. -/
def Pt.suf (x : Pt F) (h : Fin 8) (j : Fin 32) : FVec F S256x256 .f32 := sufOf x.tri (lomOf (x.z h j))

/-- A visit of the block `j`, wholly before the queries. -/
def Pt.visit (x : Pt F) (j : Fin 32) (s : St F) : St F where
  run h := runOf (x.suf h j) (s.run h)
  acc h := accOf (wOf (x.z h j) (x.suf h j) (s.run h)) (s.acc h) (x.vb (pairOf h) j)

/-- The block visited at counter `n` by the queries of block `i`. -/
def blk (i n : ℕ) : Fin 32 := ⟨(i - 1 - n) % 32, Nat.mod_lt _ (by decide)⟩

/-- The walk: from counter `n`, at most `k` more visits, while some query may still have weight to give. -/
def Pt.walk (x : Pt F) (i : ℕ) : ℕ → ℕ → F .f32 → St F → St F
  | 0, _, _, s => s
  | k + 1, n, w, s =>
    if Scalar.cmpf .ogt w (Named.named κ "floor" 0xC2DC0000#32 : F .f32) = 1#1 then
      x.walk i k (n + 1) (worstOf (x.visit (blk i n) s).run x.zm) (x.visit (blk i n) s)
    else s

theorem kInb (p : Fin 4) (j : Fin 32) : ∀ a, (![0, 256 * j.val, 128 * p.val] : Fin 3 → ℕ) a + S1x256x128.size a ≤ S1x8192x512.size a :=
  fun a => by fin_cases a <;> simp [S1x256x128, S1x8192x512] <;> omega
theorem vInb (p : Fin 4) (j : Fin 32) : ∀ a, (![j.val, 128 * p.val, 0] : Fin 3 → ℕ) a + S1x128x256.size a ≤ S32x512x256.size a :=
  fun a => by fin_cases a <;> simp [S1x128x256, S32x512x256] <;> omega

/-- A block of keys: 256 rows from row `256 j`, the 128 features of pair `p`. -/
def kAt (K : Vec F S1x8192x512 .bf16) (p : Fin 4) (j : Fin 32) : Vec F S1x256x128 .bf16 :=
  View.ld (Val := Elt F) (e' := .bf16) K (Rect.unit (s := S1x8192x512) ![0, 256 * j.val, 128 * p.val] S1x256x128.size
(kInb p j))

/-- A block of values: the 128 feature rows of pair `p` in block `j`. -/
def vAt (V : Vec F S32x512x256 .bf16) (p : Fin 4) (j : Fin 32) : Vec F S1x128x256 .bf16 :=
  View.ld (Val := Elt F) (e' := .bf16) V (Rect.unit (s := S32x512x256) ![j.val, 128 * p.val, 0] S1x128x256.size
(vInb p j))

/-! ### The diagonal block -/

/-- The keys of the diagonal block strictly before the query. -/
def past : IVec S256x256 1 := k0_pay180

/-- The diagonal block's logs: nothing is taken by a key not strictly before the query, -/
def lomD (z : FVec F S256x256 .f32) : FVec F S256x256 .bf16 := k0_pay23 past z

/-- nor has it any weight. -/
def wD (z suf : FVec F S256x256 .f32) (run : Vec F S1x256 .f32) : FVec F S256x256 .bf16 := k0_pay73 past z suf run

/-- The sums of head `h`'s diagonal block. -/
def Pt.sufD (x : Pt F) (h : Fin 8) (j : Fin 32) : FVec F S256x256 .f32 := sufOf x.tri (lomD (x.z h j))

/-- The visit of the diagonal block. -/
def Pt.diag (x : Pt F) (j : Fin 32) (s : St F) : St F where
  run h := runOf (x.sufD h j) (s.run h)
  acc h := accOf (wD (x.z h j) (x.sufD h j) (s.run h)) (s.acc h) (x.vb (pairOf h) j)

/-- The state before any visit. -/
def zero : St F where
  run _ := k0_pay185
  acc _ := k0_pay186

/-- The diagonal block as a block number. -/
def dblk (i : ℕ) : Fin 32 := ⟨i % 32, Nat.mod_lt _ (by decide)⟩

/-- The state after the first visits: of the diagonal block, and of the one before it where there is one. -/
def Pt.enter (x : Pt F) (i : ℕ) : St F :=
  if i = 0 then x.diag (dblk i) zero else x.visit (blk i 0) (x.diag (dblk i) zero)

/-- The state after all visits. -/
def Pt.last (x : Pt F) (i : ℕ) : St F := x.walk i (i - 1) 1 (worstOf (x.enter i).run x.zm) (x.enter i)

/-! ### What the visits read of the staged blocks -/

/-- The rows of a pair's queries that are head `h`'s, the others zero. -/
def qfOf (h : Fin 8) (v : Vec F S128x256 .bf16) : FVec F S128x256 .f32 := bif h.val % 2 == 0 then k0_pay182 v else k0_pay199 v

theorem slab_ok (h : Fin 8) : S1x512.Slices ![0, 64 * h.val] S1x64 := by fin_cases h <;> decide

/-- Head `h`'s key maxima. -/
def slab (ka : Vec F S1x1x512 .f32) (h : Fin 8) : FVec F S1x64 .f32 :=
  extractStridedSlice S1x64 ![0, 64 * h.val] (k0_pay181 ka) (slab_ok h)

theorem qInb (p : Fin 4) : ∀ a, (![128 * p.val, 0] : Fin 2 → ℕ) a + S128x256.size a ≤ S512x256.size a :=
  fun a => by fin_cases a <;> simp [S128x256, S512x256] <;> omega

/-- A pair's queries: 128 feature rows. -/
def qAt (Q : Vec F S512x256 .bf16) (p : Fin 4) : Vec F S128x256 .bf16 :=
  View.ld (Val := Elt F) (e' := .bf16) Q (Rect.unit (s := S512x256) ![128 * p.val, 0] S128x256.size (qInb p))

/-- A grid point's reads, from its five staged blocks. -/
def point (Q : Vec F S512x256 .bf16) (K : Vec F S1x8192x512 .bf16) (V : Vec F S32x512x256 .bf16) (ka : Vec F S1x1x512 .f32)
    (T : Vec F S256x256 .bf16) : Pt F where
  q h := truncf .bf16 (qfOf h (qAt Q (pairOf h))) bitsLt_bf16_f32
  zm h := k0_pay207 (qfOf h (qAt Q (pairOf h))) (slab ka h)
  tri := T
  kb := kAt K
  vb := vAt V

/-- The columns of the result one pair of heads gives: the first 64 feature rows of the even head's accumulator, the
    last 64 of the odd one's, as rows of the result. -/
def colsOf (a b : Vec F S128x256 .f32) : FVec F S256x128 .bf16 := k0_pay2 k0_pay232 a b

/-- The result's block: the four pairs' columns side by side. -/
def outOf (s : St F) : Vec F S256x512 .bf16 :=
  View.canon (Val := Elt F) (s := S256x512) (e := .bf16) [⟨Rect.unit (s := S256x512) ![0, 384] S256x128.size inb_S256x512_S256x128_0_384, colsOf (s.acc 6) (s.acc 7)⟩,
    ⟨Rect.unit (s := S256x512) ![0, 256] S256x128.size inb_S256x512_S256x128_0_256, colsOf (s.acc 4) (s.acc 5)⟩,
    ⟨Rect.unit (s := S256x512) ![0, 128] S256x128.size inb_S256x512_S256x128_0_128, colsOf (s.acc 2) (s.acc 3)⟩,
    ⟨Rect.unit (s := S256x512) ![0, 0] S256x128.size inb_S256x512_S256x128_0_0, colsOf (s.acc 0) (s.acc 1)⟩]

end Cert.Proof.SB

end
-- ==== Proof.SB.Label.lean ====
/-
  The walk over the blocks below the diagonal: the loop's label, answered by a specification with `k` visits still
  possible after counter `n`, met by its body by induction on `k`.
-/
module

public import proofs.«01_k».proof.Proof.SB.Ops
public import Idealize.ShloMosaic.Lib.Tactic
public import Idealize.ShloMosaic.Lib.Pipeline.Sound
public import Idealize.ShloMosaic.Lib.Pipeline.Value
public import Idealize.ShloMosaic.Lib.VecWindow

@[expose] public section

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost algebra: the rounds library's over the machine's cells. -/
abbrev UR (nD : Nat) (τ : Topo) : Type := URounds (GSem nD τ sig) Unit

local notation "𝕄" => MT nD τ sig Unit (Elt F) ℕ (UR nD τ) ℕ

abbrev 𝒱₀ : Variants := Variants.nat

section Label

variable (c : Dev nD) (i : grid0.Coords)
  (arg4 : Memref sig .tc .vmem S1x8192x512 .bf16) (harg4 : arg4.IsWhole)
  (arg5 : Memref sig .tc .vmem S32x512x256 .bf16) (harg5 : arg5.IsWhole)
  (f4 : Buf (Elt F) (arg4.view.loc (c : Thread nD τ))) (f5 : Buf (Elt F) (arg5.view.loc (c : Thread nD τ)))
  (x : Pt F)

/-- The eight heads' log masses and accumulators, in the scratch buffers. -/
def heldSt (s : St F) : sProp 𝕄 :=
  iprop((((Memref.whole cc0_scratch0).view.loc (c : Thread nD τ)) ↦{fullShare} s.run 0) ∗ (((Memref.whole cc0_scratch1).view.loc (c : Thread nD τ)) ↦{fullShare} s.run 1) ∗ (((Memref.whole cc0_scratch2).view.loc (c : Thread nD τ)) ↦{fullShare} s.run 2) ∗ (((Memref.whole cc0_scratch3).view.loc (c : Thread nD τ)) ↦{fullShare} s.run 3) ∗ (((Memref.whole cc0_scratch4).view.loc (c : Thread nD τ)) ↦{fullShare} s.run 4) ∗ (((Memref.whole cc0_scratch5).view.loc (c : Thread nD τ)) ↦{fullShare} s.run 5) ∗ (((Memref.whole cc0_scratch6).view.loc (c : Thread nD τ)) ↦{fullShare} s.run 6) ∗ (((Memref.whole cc0_scratch7).view.loc (c : Thread nD τ)) ↦{fullShare} s.run 7) ∗ (((Memref.whole cc0_scratch8).view.loc (c : Thread nD τ)) ↦{fullShare} s.acc 0) ∗ (((Memref.whole cc0_scratch9).view.loc (c : Thread nD τ)) ↦{fullShare} s.acc 1) ∗ (((Memref.whole cc0_scratch10).view.loc (c : Thread nD τ)) ↦{fullShare} s.acc 2) ∗ (((Memref.whole cc0_scratch11).view.loc (c : Thread nD τ)) ↦{fullShare} s.acc 3) ∗ (((Memref.whole cc0_scratch12).view.loc (c : Thread nD τ)) ↦{fullShare} s.acc 4) ∗ (((Memref.whole cc0_scratch13).view.loc (c : Thread nD τ)) ↦{fullShare} s.acc 5) ∗ (((Memref.whole cc0_scratch14).view.loc (c : Thread nD τ)) ↦{fullShare} s.acc 6) ∗ (((Memref.whole cc0_scratch15).view.loc (c : Thread nD τ)) ↦{fullShare} s.acc 7))

/-- With them the staging buffers of keys and of values, at their contents. -/
def held (s : St F) : sProp 𝕄 :=
  iprop((arg4.view.loc (c : Thread nD τ) ↦[arg4.view.set]{fullShare} f4) ∗ (arg5.view.loc (c : Thread nD τ) ↦[arg5.view.set]{fullShare} f5) ∗ heldSt c s)

/-- The label's specification with `k` visits possible after counter `n`: it leaves the walk's state. -/
def spec (k n : ℕ) (w : F .f32) (s : St F) : sWPT 𝕄 (BitVec 32 × F .f32) := do
  sWPT.consume (held c arg4 arg5 f4 f5 s)
  let r ← sWPT.arbitrary
  sWPT.produce (held c arg4 arg5 f4 f5 (x.walk (i 2).val k n w s))
  pure r

theorem spec_apply (k n : ℕ) (w : F .f32) (s : St F) (K : BitVec 32 × F .f32 → sProp 𝕄) :
    spec c i arg4 arg5 f4 f5 x k n w s K
      = iprop(held c arg4 arg5 f4 f5 s ∗ ∀ r : BitVec 32 × F .f32, (held c arg4 arg5 f4 f5 (x.walk (i 2).val k n w s) -∗ K r)) := rfl

theorem slt_iff : ∀ a < 33, ∀ n < 33, Scalar.cmpi .slt (BitVec.ofNat 32 n) (BitVec.ofNat 32 a) = 1#1 ↔ n < a := by decide +kernel

theorem addi_succ : ∀ n < 33, Scalar.addi (BitVec.ofNat 32 n) 1#32 = BitVec.ofNat 32 (n + 1) := by decide

theorem kword : ∀ a < 32, ∀ n < 32, n < a →
    (Scalar.indexCast (Scalar.muli (Scalar.subi (Scalar.subi (BitVec.ofNat 32 a) 1#32) (BitVec.ofNat 32 n)) 256#32)).toNat = 256 * ((a - 1 - n) % 32) := by
  decide +kernel
theorem vword : ∀ a < 32, ∀ n < 32, n < a →
    (Scalar.indexCast (Scalar.subi (Scalar.subi (BitVec.ofNat 32 a) 1#32) (BitVec.ofNat 32 n))).toNat = (a - 1 - n) % 32 := by
  decide +kernel
theorem mword : ∀ a < 32, ∀ n < 32, n < a →
    256 ∣ (Scalar.muli (Scalar.subi (Scalar.subi (BitVec.ofNat 32 a) 1#32) (BitVec.ofNat 32 n)) 256#32).toNat := by
  decide +kernel

section Off

variable (n : ℕ) (h : n < (i 2).val)
include h

/-- The rows of keys and of values a visit at counter `n` reads are those of its block. -/
theorem off25_eq : k0_off25 i (BitVec.ofNat 32 n) = ![0, 256 * (blk (i 2).val n).val, 0] := by
  have hi : (i 2).val < 32 := (i 2).isLt
  unfold k0_off25; dsimp only; rw [kword _ hi _ (by omega) h]; rfl
theorem off26_eq : k0_off26 i (BitVec.ofNat 32 n) = ![0, 256 * (blk (i 2).val n).val, 128] := by
  have hi : (i 2).val < 32 := (i 2).isLt
  unfold k0_off26; dsimp only; rw [kword _ hi _ (by omega) h]; rfl
theorem off27_eq : k0_off27 i (BitVec.ofNat 32 n) = ![0, 256 * (blk (i 2).val n).val, 256] := by
  have hi : (i 2).val < 32 := (i 2).isLt
  unfold k0_off27; dsimp only; rw [kword _ hi _ (by omega) h]; rfl
theorem off28_eq : k0_off28 i (BitVec.ofNat 32 n) = ![0, 256 * (blk (i 2).val n).val, 384] := by
  have hi : (i 2).val < 32 := (i 2).isLt
  unfold k0_off28; dsimp only; rw [kword _ hi _ (by omega) h]; rfl
theorem off29_eq : k0_off29 i (BitVec.ofNat 32 n) = ![(blk (i 2).val n).val, 0, 0] := by
  have hi : (i 2).val < 32 := (i 2).isLt
  unfold k0_off29; dsimp only; rw [vword _ hi _ (by omega) h]; rfl
theorem off30_eq : k0_off30 i (BitVec.ofNat 32 n) = ![(blk (i 2).val n).val, 128, 0] := by
  have hi : (i 2).val < 32 := (i 2).isLt
  unfold k0_off30; dsimp only; rw [vword _ hi _ (by omega) h]; rfl
theorem off31_eq : k0_off31 i (BitVec.ofNat 32 n) = ![(blk (i 2).val n).val, 256, 0] := by
  have hi : (i 2).val < 32 := (i 2).isLt
  unfold k0_off31; dsimp only; rw [vword _ hi _ (by omega) h]; rfl
theorem off32_eq : k0_off32 i (BitVec.ofNat 32 n) = ![(blk (i 2).val n).val, 384, 0] := by
  have hi : (i 2).val < 32 := (i 2).isLt
  unfold k0_off32; dsimp only; rw [vword _ hi _ (by omega) h]; rfl

/-- So the loop's assumption holds. -/
theorem chk_of_lt : k0_chk1 i (BitVec.ofNat 32 n) := by
  have hi : (i 2).val < 32 := (i 2).isLt
  have hb := (blk (i 2).val n).isLt
  unfold k0_chk1
  rw [off25_eq i n h, off26_eq i n h, off27_eq i n h, off28_eq i n h, off29_eq i n h, off30_eq i n h, off31_eq i n h, off32_eq i n h]
  refine ⟨mword _ hi _ (by omega) h, ?_, ?_, ?_, ?_, ?_, ?_, ?_, ?_⟩ <;>
    (intro a; fin_cases a <;> simp [S1x256x128, S1x8192x512, S1x128x256, S32x512x256] <;> first | done | omega)

end Off

/-- A load at equal offsets reads the same window. -/
theorem readAt_off {sp : Space} {S : Shape} {e : EltTy} (m : Memref sig .tc sp S e) (f : m.view.ty.Contents (Elt F))
    {off off' size : Fin S.rank → ℕ} (h : off = off') (inb : ∀ a, off a + size a ≤ S.size a) (inb' : ∀ a, off' a + size a ≤ S.size a) :
    m.view.readAt (Elt F) (Rect.unit (s := S) off size inb).toLoadRect f
      = View.ld (Val := Elt F) (e' := e) (m.view.read (Elt F) f) (Rect.unit (s := S) off' size inb') := by
  subst h; rfl

/-- The contents a hypothesis holds may be exchanged for equal ones. -/
theorem held_of_eq {ℓ : Loc nD τ sig} {f g : Buf (Elt F) ℓ} (h : f = g) : (ℓ ↦{fullShare} f : sProp 𝕄) ⊢ ℓ ↦{fullShare} g := by
  rw [h]

/-- A buffer stored whole holds the stored value. -/
theorem whole_writes (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) (L : List (View.Piece (Elt F) b.ty.shape b.ty.elt)) :
    (Memref.whole b).view.writes (Elt F) f (⟨Rect.unit off b.ty.shape.size inb, w⟩ :: L) = w :=
  View.read_writes_full (Memref.whole b).view f inb w L

/-- The log mass a head's visit stores. -/
theorem run_val {kr kb : Vec F S1x256x128 .bf16} {rr r : Vec F S1x256 .f32} (q : FVec F S128x256 .bf16) (tri : FVec F S256x256 .bf16)
    (hk : kr = kb) (hr : rr = r) : k0_pay270 (sufOf tri (lomOf (zOf q kr))) rr = runOf (sufOf tri (lomOf (zOf q kb))) r := by
  subst hk hr; exact shapeCast_self _ _

/-- The accumulator a head's visit stores. -/
theorem acc_val {kr kb : Vec F S1x256x128 .bf16} {rr r : Vec F S1x256 .f32} {ar a : Vec F S128x256 .f32} {vr vb : Vec F S1x128x256 .bf16}
    (q : FVec F S128x256 .bf16) (tri : FVec F S256x256 .bf16)
    (hk : kr = kb) (hr : rr = r) (ha : ar = a) (hv : vr = vb) :
    accOf (wOf (zOf q kr) (sufOf tri (lomOf (zOf q kr))) rr) ar vr = accOf (wOf (zOf q kb) (sufOf tri (lomOf (zOf q kb))) r) a vb := by
  subst hk hr ha hv; rfl

/-- The bound the visit returns, over what its loads read. -/
theorem worst_val (j : Fin 32) (s : St F) (kr : Fin 4 → Vec F S1x256x128 .bf16) (rr : Fin 8 → Vec F S1x256 .f32)
    (hk : ∀ p, kr p = x.kb p j) (hr : ∀ h, rr h = s.run h) :
    worstOf (fun h => runOf (sufOf x.tri (lomOf (zOf (x.q h) (kr (pairOf h))))) (rr h)) x.zm = worstOf (x.visit j s).run x.zm := by
  have e : (fun h => runOf (sufOf x.tri (lomOf (zOf (x.q h) (kr (pairOf h))))) (rr h)) = (x.visit j s).run := by
    funext h; rw [hk, hr]; rfl
  rw [e]

set_option maxHeartbeats 4000000 in
/-- The specification is met by the loop's body: with no visit possible the counter has reached the diagonal block and
    the body returns; otherwise either the bound has fallen below the floor and it returns, or it visits the counter's
    block and calls the label at the next counter. -/
theorem spec_le (hx : ∀ p j, x.kb p j = kAt (arg4.view.read (Elt F) f4) p j) (hy : ∀ p j, x.vb p j = vAt (arg5.view.read (Elt F) f5) p j) (E : Set ℕ) :
    ∀ k n, 1 ≤ n → k = (i 2).val - n → n < 33 → ∀ w s K, spec c i arg4 arg5 f4 f5 x k n w s K
      ⊢ wp frame (wpE (defs₀ (F := F)) 𝒱₀ (c : Thread nD τ) (some k)) E
          (defs₀ (F := F) .tc 1 ⟨i, arg4, harg4, x.q 0, x.q 1, x.q 2, x.q 3, x.q 4, x.q 5, x.q 6, x.q 7, x.tri, Memref.whole cc0_scratch0, Memref.isWhole_whole _, x.zm 0, Memref.whole cc0_scratch1, Memref.isWhole_whole _, x.zm 1, Memref.whole cc0_scratch2, Memref.isWhole_whole _, x.zm 2, Memref.whole cc0_scratch3, Memref.isWhole_whole _, x.zm 3, Memref.whole cc0_scratch4, Memref.isWhole_whole _, x.zm 4, Memref.whole cc0_scratch5, Memref.isWhole_whole _, x.zm 5, Memref.whole cc0_scratch6, Memref.isWhole_whole _, x.zm 6, Memref.whole cc0_scratch7, Memref.isWhole_whole _, x.zm 7, Memref.whole cc0_scratch8, Memref.isWhole_whole _, arg5, harg5, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _, Memref.whole cc0_scratch15, Memref.isWhole_whole _, BitVec.ofNat 32 n, w⟩) K := by
  have hi : (i 2).val < 32 := (i 2).isLt
  intro k
  induction k with
  | zero =>
    intro n hn1 hk hn w s K
    rw [spec_apply]
    show _ ⊢ wp frame (wpE (defs₀ (F := F)) 𝒱₀ (c : Thread nD τ) (some 0)) E
      (cc0_while1 i arg4 harg4 (x.q 0) (x.q 1) (x.q 2) (x.q 3) (x.q 4) (x.q 5) (x.q 6) (x.q 7) x.tri (Memref.whole cc0_scratch0) (Memref.isWhole_whole _) (x.zm 0) (Memref.whole cc0_scratch1) (Memref.isWhole_whole _) (x.zm 1) (Memref.whole cc0_scratch2) (Memref.isWhole_whole _) (x.zm 2) (Memref.whole cc0_scratch3) (Memref.isWhole_whole _) (x.zm 3) (Memref.whole cc0_scratch4) (Memref.isWhole_whole _) (x.zm 4) (Memref.whole cc0_scratch5) (Memref.isWhole_whole _) (x.zm 5) (Memref.whole cc0_scratch6) (Memref.isWhole_whole _) (x.zm 6) (Memref.whole cc0_scratch7) (Memref.isWhole_whole _) (x.zm 7) (Memref.whole cc0_scratch8) (Memref.isWhole_whole _) arg5 harg5 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (BitVec.ofNat 32 n) w) K
    simp only [cc0_while1_eq_skeleton]; unfold cc0_while1_skel
    have htest : ¬ Scalar.cmpi .slt (BitVec.ofNat 32 n) (BitVec.ofNat 32 (i 2).val) = 1#1 := by
      rw [slt_iff _ (by omega) _ hn]; omega
    have hand : ∀ b : BitVec 1, ¬ Scalar.andi (Scalar.cmpi .slt (BitVec.ofNat 32 n) (BitVec.ofNat 32 (i 2).val)) b = 1#1 := by
      intro b
      generalize Scalar.cmpi .slt (BitVec.ofNat 32 n) (BitVec.ofNat 32 (i 2).val) = a at htest
      revert a b; decide
    rw [if_neg (hand _)]
    simp only [Prog.pure_eq_ret]
    iintro ⟨H, Hk⟩
    rw [wp_ret]; imodintro
    iapply Hk
    simp only [Pt.walk]; iexact H
  | succ k ih =>
    intro n hn1 hk hn w s K
    rw [spec_apply]
    show _ ⊢ wp frame (wpE (defs₀ (F := F)) 𝒱₀ (c : Thread nD τ) (some (k + 1))) E
      (cc0_while1 i arg4 harg4 (x.q 0) (x.q 1) (x.q 2) (x.q 3) (x.q 4) (x.q 5) (x.q 6) (x.q 7) x.tri (Memref.whole cc0_scratch0) (Memref.isWhole_whole _) (x.zm 0) (Memref.whole cc0_scratch1) (Memref.isWhole_whole _) (x.zm 1) (Memref.whole cc0_scratch2) (Memref.isWhole_whole _) (x.zm 2) (Memref.whole cc0_scratch3) (Memref.isWhole_whole _) (x.zm 3) (Memref.whole cc0_scratch4) (Memref.isWhole_whole _) (x.zm 4) (Memref.whole cc0_scratch5) (Memref.isWhole_whole _) (x.zm 5) (Memref.whole cc0_scratch6) (Memref.isWhole_whole _) (x.zm 6) (Memref.whole cc0_scratch7) (Memref.isWhole_whole _) (x.zm 7) (Memref.whole cc0_scratch8) (Memref.isWhole_whole _) arg5 harg5 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (BitVec.ofNat 32 n) w) K
    simp only [cc0_while1_eq_skeleton]; unfold cc0_while1_skel
    have htest : Scalar.cmpi .slt (BitVec.ofNat 32 n) (BitVec.ofNat 32 (i 2).val) = 1#1 := by
      rw [slt_iff _ (by omega) _ hn]; omega
    have hand : ∀ b : BitVec 1, Scalar.andi (1#1) b = b := by decide
    dsimp only
    rw [htest, hand]
    by_cases hw : Scalar.cmpf .ogt w (Named.named κ "floor" 0xC2DC0000#32 : F .f32) = 1#1
    · rw [if_pos hw]
      have hlt : n < (i 2).val := by omega
      have hchk := chk_of_lt i n hlt
      unfold held heldSt
      iintro ⟨⟨H4, H5, R0, R1, R2, R3, R4, R5, R6, R7, A0, A1, A2, A3, A4, A5, A6, A7⟩, Hk⟩
      sl_exec_parts
      have hz : (![0, 0] : Fin 2 → ℕ) = fun _ => 0 := by funext a; fin_cases a <;> rfl
      have hk0 := (readAt_off arg4 f4 (off25_eq i n hlt) (k0_off25_inb i _ hchk) (kInb 0 (blk (i 2).val n))).trans (hx 0 _).symm
      have hk1 := (readAt_off arg4 f4 (off26_eq i n hlt) (k0_off26_inb i _ hchk) (kInb 1 (blk (i 2).val n))).trans (hx 1 _).symm
      have hk2 := (readAt_off arg4 f4 (off27_eq i n hlt) (k0_off27_inb i _ hchk) (kInb 2 (blk (i 2).val n))).trans (hx 2 _).symm
      have hk3 := (readAt_off arg4 f4 (off28_eq i n hlt) (k0_off28_inb i _ hchk) (kInb 3 (blk (i 2).val n))).trans (hx 3 _).symm
      have hv0 := (readAt_off arg5 f5 (off29_eq i n hlt) (k0_off29_inb i _ hchk) (vInb 0 (blk (i 2).val n))).trans (hy 0 _).symm
      have hv1 := (readAt_off arg5 f5 (off30_eq i n hlt) (k0_off30_inb i _ hchk) (vInb 1 (blk (i 2).val n))).trans (hy 1 _).symm
      have hv2 := (readAt_off arg5 f5 (off31_eq i n hlt) (k0_off31_inb i _ hchk) (vInb 2 (blk (i 2).val n))).trans (hy 2 _).symm
      have hv3 := (readAt_off arg5 f5 (off32_eq i n hlt) (k0_off32_inb i _ hchk) (vInb 3 (blk (i 2).val n))).trans (hy 3 _).symm
      have hw' : k0_pay4 (spec_le.sl.v482 c i arg4 f4 x n s hchk) = worstOf (x.visit (blk (i 2).val n) s).run x.zm :=
        worst_val x (blk (i 2).val n) s
          ![arg4.view.readAt (Elt F) (Rect.unit (s := S1x8192x512) (k0_off25 i (BitVec.ofNat 32 n)) S1x256x128.size (k0_off25_inb i _ hchk)).toLoadRect f4, arg4.view.readAt (Elt F) (Rect.unit (s := S1x8192x512) (k0_off26 i (BitVec.ofNat 32 n)) S1x256x128.size (k0_off26_inb i _ hchk)).toLoadRect f4, arg4.view.readAt (Elt F) (Rect.unit (s := S1x8192x512) (k0_off27 i (BitVec.ofNat 32 n)) S1x256x128.size (k0_off27_inb i _ hchk)).toLoadRect f4, arg4.view.readAt (Elt F) (Rect.unit (s := S1x8192x512) (k0_off28 i (BitVec.ofNat 32 n)) S1x256x128.size (k0_off28_inb i _ hchk)).toLoadRect f4]
          ![(Memref.whole cc0_scratch0).view.readAt (Elt F) (Rect.unit (s := S1x256) ![0, 0] S1x256.size inb_S1x256_S1x256_0_0).toLoadRect (s.run 0), (Memref.whole cc0_scratch1).view.readAt (Elt F) (Rect.unit (s := S1x256) ![0, 0] S1x256.size inb_S1x256_S1x256_0_0).toLoadRect (s.run 1), (Memref.whole cc0_scratch2).view.readAt (Elt F) (Rect.unit (s := S1x256) ![0, 0] S1x256.size inb_S1x256_S1x256_0_0).toLoadRect (s.run 2), (Memref.whole cc0_scratch3).view.readAt (Elt F) (Rect.unit (s := S1x256) ![0, 0] S1x256.size inb_S1x256_S1x256_0_0).toLoadRect (s.run 3), (Memref.whole cc0_scratch4).view.readAt (Elt F) (Rect.unit (s := S1x256) ![0, 0] S1x256.size inb_S1x256_S1x256_0_0).toLoadRect (s.run 4), (Memref.whole cc0_scratch5).view.readAt (Elt F) (Rect.unit (s := S1x256) ![0, 0] S1x256.size inb_S1x256_S1x256_0_0).toLoadRect (s.run 5), (Memref.whole cc0_scratch6).view.readAt (Elt F) (Rect.unit (s := S1x256) ![0, 0] S1x256.size inb_S1x256_S1x256_0_0).toLoadRect (s.run 6), (Memref.whole cc0_scratch7).view.readAt (Elt F) (Rect.unit (s := S1x256) ![0, 0] S1x256.size inb_S1x256_S1x256_0_0).toLoadRect (s.run 7)]
          (fun p => by fin_cases p; exacts [hk0, hk1, hk2, hk3])
          (fun h => by fin_cases h; exacts [Memref.readAt_unit_zero (Elt F) cc0_scratch0 hz inb_S1x256_S1x256_0_0 (s.run 0), Memref.readAt_unit_zero (Elt F) cc0_scratch1 hz inb_S1x256_S1x256_0_0 (s.run 1), Memref.readAt_unit_zero (Elt F) cc0_scratch2 hz inb_S1x256_S1x256_0_0 (s.run 2), Memref.readAt_unit_zero (Elt F) cc0_scratch3 hz inb_S1x256_S1x256_0_0 (s.run 3), Memref.readAt_unit_zero (Elt F) cc0_scratch4 hz inb_S1x256_S1x256_0_0 (s.run 4), Memref.readAt_unit_zero (Elt F) cc0_scratch5 hz inb_S1x256_S1x256_0_0 (s.run 5), Memref.readAt_unit_zero (Elt F) cc0_scratch6 hz inb_S1x256_S1x256_0_0 (s.run 6), Memref.readAt_unit_zero (Elt F) cc0_scratch7 hz inb_S1x256_S1x256_0_0 (s.run 7)])
      rw [show spec_le.sl.v231 n = BitVec.ofNat 32 (n + 1) from addi_succ n hn, hw']
      iapply (wp_call_spec 𝒱₀ (c : Thread nD τ) (some (k + 1)) E
        (spec c i arg4 arg5 f4 f5 x k (n + 1) (worstOf (x.visit (blk (i 2).val n) s).run x.zm) (x.visit (blk (i 2).val n) s)) k
        (fun u hu => by cases hu; exact Nat.lt_succ_self k)
        (ih (n + 1) (by omega) (by omega) (by omega) _ _))
      rw [spec_apply]; unfold held heldSt
      isplitl [H4 H5 R0 R1 R2 R3 R4 R5 R6 R7 A0 A1 A2 A3 A4 A5 A6 A7]
      · isplitl [H4]; · iexact H4
        isplitl [H5]; · iexact H5
        isplitl [R0]
        · iapply (held_of_eq ((whole_writes cc0_scratch0 (s.run 0) inb_S1x256_S1x256_0_0 _ []).trans
            (run_val (x.q 0) x.tri hk0 (Memref.readAt_unit_zero (Elt F) cc0_scratch0 hz inb_S1x256_S1x256_0_0 (s.run 0)))))
          iexact R0
        isplitl [R1]
        · iapply (held_of_eq ((whole_writes cc0_scratch1 (s.run 1) inb_S1x256_S1x256_0_0 _ []).trans
            (run_val (x.q 1) x.tri hk0 (Memref.readAt_unit_zero (Elt F) cc0_scratch1 hz inb_S1x256_S1x256_0_0 (s.run 1)))))
          iexact R1
        isplitl [R2]
        · iapply (held_of_eq ((whole_writes cc0_scratch2 (s.run 2) inb_S1x256_S1x256_0_0 _ []).trans
            (run_val (x.q 2) x.tri hk1 (Memref.readAt_unit_zero (Elt F) cc0_scratch2 hz inb_S1x256_S1x256_0_0 (s.run 2)))))
          iexact R2
        isplitl [R3]
        · iapply (held_of_eq ((whole_writes cc0_scratch3 (s.run 3) inb_S1x256_S1x256_0_0 _ []).trans
            (run_val (x.q 3) x.tri hk1 (Memref.readAt_unit_zero (Elt F) cc0_scratch3 hz inb_S1x256_S1x256_0_0 (s.run 3)))))
          iexact R3
        isplitl [R4]
        · iapply (held_of_eq ((whole_writes cc0_scratch4 (s.run 4) inb_S1x256_S1x256_0_0 _ []).trans
            (run_val (x.q 4) x.tri hk2 (Memref.readAt_unit_zero (Elt F) cc0_scratch4 hz inb_S1x256_S1x256_0_0 (s.run 4)))))
          iexact R4
        isplitl [R5]
        · iapply (held_of_eq ((whole_writes cc0_scratch5 (s.run 5) inb_S1x256_S1x256_0_0 _ []).trans
            (run_val (x.q 5) x.tri hk2 (Memref.readAt_unit_zero (Elt F) cc0_scratch5 hz inb_S1x256_S1x256_0_0 (s.run 5)))))
          iexact R5
        isplitl [R6]
        · iapply (held_of_eq ((whole_writes cc0_scratch6 (s.run 6) inb_S1x256_S1x256_0_0 _ []).trans
            (run_val (x.q 6) x.tri hk3 (Memref.readAt_unit_zero (Elt F) cc0_scratch6 hz inb_S1x256_S1x256_0_0 (s.run 6)))))
          iexact R6
        isplitl [R7]
        · iapply (held_of_eq ((whole_writes cc0_scratch7 (s.run 7) inb_S1x256_S1x256_0_0 _ []).trans
            (run_val (x.q 7) x.tri hk3 (Memref.readAt_unit_zero (Elt F) cc0_scratch7 hz inb_S1x256_S1x256_0_0 (s.run 7)))))
          iexact R7
        isplitl [A0]
        · iapply (held_of_eq ((whole_writes cc0_scratch8 (s.acc 0) inb_S128x256_S128x256_0_0 _ []).trans
            (acc_val (x.q 0) x.tri hk0 (Memref.readAt_unit_zero (Elt F) cc0_scratch0 hz inb_S1x256_S1x256_0_0 (s.run 0))
              (Memref.readAt_unit_zero (Elt F) cc0_scratch8 hz inb_S128x256_S128x256_0_0 (s.acc 0)) hv0)))
          iexact A0
        isplitl [A1]
        · iapply (held_of_eq ((whole_writes cc0_scratch9 (s.acc 1) inb_S128x256_S128x256_0_0 _ []).trans
            (acc_val (x.q 1) x.tri hk0 (Memref.readAt_unit_zero (Elt F) cc0_scratch1 hz inb_S1x256_S1x256_0_0 (s.run 1))
              (Memref.readAt_unit_zero (Elt F) cc0_scratch9 hz inb_S128x256_S128x256_0_0 (s.acc 1)) hv0)))
          iexact A1
        isplitl [A2]
        · iapply (held_of_eq ((whole_writes cc0_scratch10 (s.acc 2) inb_S128x256_S128x256_0_0 _ []).trans
            (acc_val (x.q 2) x.tri hk1 (Memref.readAt_unit_zero (Elt F) cc0_scratch2 hz inb_S1x256_S1x256_0_0 (s.run 2))
              (Memref.readAt_unit_zero (Elt F) cc0_scratch10 hz inb_S128x256_S128x256_0_0 (s.acc 2)) hv1)))
          iexact A2
        isplitl [A3]
        · iapply (held_of_eq ((whole_writes cc0_scratch11 (s.acc 3) inb_S128x256_S128x256_0_0 _ []).trans
            (acc_val (x.q 3) x.tri hk1 (Memref.readAt_unit_zero (Elt F) cc0_scratch3 hz inb_S1x256_S1x256_0_0 (s.run 3))
              (Memref.readAt_unit_zero (Elt F) cc0_scratch11 hz inb_S128x256_S128x256_0_0 (s.acc 3)) hv1)))
          iexact A3
        isplitl [A4]
        · iapply (held_of_eq ((whole_writes cc0_scratch12 (s.acc 4) inb_S128x256_S128x256_0_0 _ []).trans
            (acc_val (x.q 4) x.tri hk2 (Memref.readAt_unit_zero (Elt F) cc0_scratch4 hz inb_S1x256_S1x256_0_0 (s.run 4))
              (Memref.readAt_unit_zero (Elt F) cc0_scratch12 hz inb_S128x256_S128x256_0_0 (s.acc 4)) hv2)))
          iexact A4
        isplitl [A5]
        · iapply (held_of_eq ((whole_writes cc0_scratch13 (s.acc 5) inb_S128x256_S128x256_0_0 _ []).trans
            (acc_val (x.q 5) x.tri hk2 (Memref.readAt_unit_zero (Elt F) cc0_scratch5 hz inb_S1x256_S1x256_0_0 (s.run 5))
              (Memref.readAt_unit_zero (Elt F) cc0_scratch13 hz inb_S128x256_S128x256_0_0 (s.acc 5)) hv2)))
          iexact A5
        isplitl [A6]
        · iapply (held_of_eq ((whole_writes cc0_scratch14 (s.acc 6) inb_S128x256_S128x256_0_0 _ []).trans
            (acc_val (x.q 6) x.tri hk3 (Memref.readAt_unit_zero (Elt F) cc0_scratch6 hz inb_S1x256_S1x256_0_0 (s.run 6))
              (Memref.readAt_unit_zero (Elt F) cc0_scratch14 hz inb_S128x256_S128x256_0_0 (s.acc 6)) hv3)))
          iexact A6
        iapply (held_of_eq ((whole_writes cc0_scratch15 (s.acc 7) inb_S128x256_S128x256_0_0 _ []).trans
          (acc_val (x.q 7) x.tri hk3 (Memref.readAt_unit_zero (Elt F) cc0_scratch7 hz inb_S1x256_S1x256_0_0 (s.run 7))
            (Memref.readAt_unit_zero (Elt F) cc0_scratch15 hz inb_S128x256_S128x256_0_0 (s.acc 7)) hv3)))
        iexact A7
      iintro %r H
      rw [wp_ret]; imodintro
      iapply Hk
      simp only [Pt.walk, if_pos hw]; iexact H
    · rw [if_neg hw]
      simp only [Prog.pure_eq_ret]
      iintro ⟨H, Hk⟩
      rw [wp_ret]; imodintro
      iapply Hk
      simp only [Pt.walk, if_neg hw]; iexact H

end Label

end Cert.Proof.SB

end
-- ==== Proof.SB.Body.lean ====
/-
  The kernel body at one grid point: what it leaves in the result staging buffer, and in the scratch buffers, over
  what its staged blocks hold. One theorem where there is a block before the diagonal one, one where there is none.
-/
module

public import proofs.«01_k».proof.Proof.SB.Label

@[expose] public section

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

theorem cond_iff : ∀ a < 32, Iff (Scalar.cmpi .ne (Scalar.extui (Scalar.cmpi .sgt (BitVec.ofNat 32 a) 0#32)) 0#32 = 1#1) (0 < a) := by decide +kernel

theorem dkword : ∀ a < 32, (Scalar.indexCast (Scalar.muli (BitVec.ofNat 32 a) 256#32)).toNat = 256 * (a % 32) := by decide +kernel
theorem dvword : ∀ a < 32, (Scalar.indexCast (BitVec.ofNat 32 a)).toNat = a % 32 := by decide +kernel
theorem pkword : ∀ a < 32, 0 < a → (Scalar.indexCast (Scalar.muli (Scalar.subi (BitVec.ofNat 32 a) 1#32) 256#32)).toNat = 256 * ((a - 1 - 0) % 32) := by decide +kernel
theorem pvword : ∀ a < 32, 0 < a → (Scalar.indexCast (Scalar.subi (BitVec.ofNat 32 a) 1#32)).toNat = (a - 1 - 0) % 32 := by decide +kernel

section Off

variable (i : grid0.Coords)

theorem off1_eq : k0_off1 i = ![0, 256 * (dblk (i 2).val).val, 0] := by unfold k0_off1; dsimp only; rw [dkword _ (i 2).isLt]; rfl
theorem off3_eq : k0_off3 i = ![0, 256 * (dblk (i 2).val).val, 128] := by unfold k0_off3; dsimp only; rw [dkword _ (i 2).isLt]; rfl
theorem off5_eq : k0_off5 i = ![0, 256 * (dblk (i 2).val).val, 256] := by unfold k0_off5; dsimp only; rw [dkword _ (i 2).isLt]; rfl
theorem off7_eq : k0_off7 i = ![0, 256 * (dblk (i 2).val).val, 384] := by unfold k0_off7; dsimp only; rw [dkword _ (i 2).isLt]; rfl
theorem off17_eq : k0_off17 i = ![0, 256 * (dblk (i 2).val).val, 0] := by unfold k0_off17; dsimp only; rw [dkword _ (i 2).isLt]; rfl
theorem off18_eq : k0_off18 i = ![0, 256 * (dblk (i 2).val).val, 128] := by unfold k0_off18; dsimp only; rw [dkword _ (i 2).isLt]; rfl
theorem off19_eq : k0_off19 i = ![0, 256 * (dblk (i 2).val).val, 256] := by unfold k0_off19; dsimp only; rw [dkword _ (i 2).isLt]; rfl
theorem off20_eq : k0_off20 i = ![0, 256 * (dblk (i 2).val).val, 384] := by unfold k0_off20; dsimp only; rw [dkword _ (i 2).isLt]; rfl
theorem off9_eq : k0_off9 i = ![(dblk (i 2).val).val, 0, 0] := by unfold k0_off9; dsimp only; rw [dvword _ (i 2).isLt]; rfl
theorem off11_eq : k0_off11 i = ![(dblk (i 2).val).val, 128, 0] := by unfold k0_off11; dsimp only; rw [dvword _ (i 2).isLt]; rfl
theorem off13_eq : k0_off13 i = ![(dblk (i 2).val).val, 256, 0] := by unfold k0_off13; dsimp only; rw [dvword _ (i 2).isLt]; rfl
theorem off15_eq : k0_off15 i = ![(dblk (i 2).val).val, 384, 0] := by unfold k0_off15; dsimp only; rw [dvword _ (i 2).isLt]; rfl
theorem off21_eq : k0_off21 i = ![(dblk (i 2).val).val, 0, 0] := by unfold k0_off21; dsimp only; rw [dvword _ (i 2).isLt]; rfl
theorem off22_eq : k0_off22 i = ![(dblk (i 2).val).val, 128, 0] := by unfold k0_off22; dsimp only; rw [dvword _ (i 2).isLt]; rfl
theorem off23_eq : k0_off23 i = ![(dblk (i 2).val).val, 256, 0] := by unfold k0_off23; dsimp only; rw [dvword _ (i 2).isLt]; rfl
theorem off24_eq : k0_off24 i = ![(dblk (i 2).val).val, 384, 0] := by unfold k0_off24; dsimp only; rw [dvword _ (i 2).isLt]; rfl
theorem off2_eq (h : 0 < (i 2).val) : k0_off2 i = ![0, 256 * (blk (i 2).val 0).val, 0] := by unfold k0_off2; dsimp only; rw [pkword _ (i 2).isLt h]; rfl
theorem off4_eq (h : 0 < (i 2).val) : k0_off4 i = ![0, 256 * (blk (i 2).val 0).val, 128] := by unfold k0_off4; dsimp only; rw [pkword _ (i 2).isLt h]; rfl
theorem off6_eq (h : 0 < (i 2).val) : k0_off6 i = ![0, 256 * (blk (i 2).val 0).val, 256] := by unfold k0_off6; dsimp only; rw [pkword _ (i 2).isLt h]; rfl
theorem off8_eq (h : 0 < (i 2).val) : k0_off8 i = ![0, 256 * (blk (i 2).val 0).val, 384] := by unfold k0_off8; dsimp only; rw [pkword _ (i 2).isLt h]; rfl
theorem off10_eq (h : 0 < (i 2).val) : k0_off10 i = ![(blk (i 2).val 0).val, 0, 0] := by unfold k0_off10; dsimp only; rw [pvword _ (i 2).isLt h]; rfl
theorem off12_eq (h : 0 < (i 2).val) : k0_off12 i = ![(blk (i 2).val 0).val, 128, 0] := by unfold k0_off12; dsimp only; rw [pvword _ (i 2).isLt h]; rfl
theorem off14_eq (h : 0 < (i 2).val) : k0_off14 i = ![(blk (i 2).val 0).val, 256, 0] := by unfold k0_off14; dsimp only; rw [pvword _ (i 2).isLt h]; rfl
theorem off16_eq (h : 0 < (i 2).val) : k0_off16 i = ![(blk (i 2).val 0).val, 384, 0] := by unfold k0_off16; dsimp only; rw [pvword _ (i 2).isLt h]; rfl

end Off

/-- The score bound of a head, over the block of key maxima its load reads. -/
theorem zm_val (h : Fin 8) {a b : Vec F S1x1x512 .f32} (v : Vec F S128x256 .bf16) (hab : a = b) : k0_pay207 (qfOf h v) (slab a h) = k0_pay207 (qfOf h v) (slab b h) := by
  rw [hab]

/-- What the first visits store, over what their loads read: with two blocks, -/
theorem run_first {kr kb lr lb : Vec F S1x256x128 .bf16} {rr : Vec F S1x256 .f32} {q' q : FVec F S128x256 .bf16} {tri' tri : FVec F S256x256 .bf16} (hq : q' = q) (ht : tri' = tri)
    (hk : kr = kb) (hl : lr = lb) (hr : rr = k0_pay185) :
    k0_pay64 (sufOf tri' (lomD (zOf q' kr))) (sufOf tri' (lomOf (zOf q' lr))) rr
      = runOf (sufOf tri (lomOf (zOf q lb))) (runOf (sufOf tri (lomD (zOf q kb))) k0_pay185) := by
  subst hq ht hk hl hr; exact shapeCast_self _ _
theorem acc_first {kr kb lr lb : Vec F S1x256x128 .bf16} {rr : Vec F S1x256 .f32} {ar : Vec F S128x256 .f32} {vr vb ur ub : Vec F S1x128x256 .bf16}
    {q' q : FVec F S128x256 .bf16} {tri' tri : FVec F S256x256 .bf16} (hq : q' = q) (ht : tri' = tri)
    (hk : kr = kb) (hl : lr = lb) (hr : rr = k0_pay185) (ha : ar = k0_pay186) (hv : vr = vb) (hu : ur = ub) :
    k0_pay116 (wD (zOf q' kr) (sufOf tri' (lomD (zOf q' kr))) rr)
        (wOf (zOf q' lr) (sufOf tri' (lomOf (zOf q' lr))) (runOf (sufOf tri' (lomD (zOf q' kr))) rr)) ar vr ur
      = accOf (wOf (zOf q lb) (sufOf tri (lomOf (zOf q lb))) (runOf (sufOf tri (lomD (zOf q kb))) k0_pay185))
          (accOf (wD (zOf q kb) (sufOf tri (lomD (zOf q kb))) k0_pay185) k0_pay186 vb) ub := by
  subst hq ht hk hl hr ha hv hu
  exact (shapeCast_self _ _).trans ((congrArg (fun a => addf a _) (shapeCast_self _ _).symm).trans (shapeCast_self _ _).symm)
/-- and with the diagonal block alone. -/
theorem run_diag {kr kb : Vec F S1x256x128 .bf16} {rr : Vec F S1x256 .f32} {q' q : FVec F S128x256 .bf16} {tri' tri : FVec F S256x256 .bf16} (hq : q' = q) (ht : tri' = tri)
    (hk : kr = kb) (hr : rr = k0_pay185) :
    k0_pay270 (sufOf tri' (lomD (zOf q' kr))) rr = runOf (sufOf tri (lomD (zOf q kb))) k0_pay185 := by
  subst hq ht hk hr; exact shapeCast_self _ _
theorem acc_diag {kr kb : Vec F S1x256x128 .bf16} {rr : Vec F S1x256 .f32} {ar : Vec F S128x256 .f32} {vr vb : Vec F S1x128x256 .bf16}
    {q' q : FVec F S128x256 .bf16} {tri' tri : FVec F S256x256 .bf16} (hq : q' = q) (ht : tri' = tri)
    (hk : kr = kb) (hr : rr = k0_pay185) (ha : ar = k0_pay186) (hv : vr = vb) :
    accOf (wD (zOf q' kr) (sufOf tri' (lomD (zOf q' kr))) rr) ar vr
      = accOf (wD (zOf q kb) (sufOf tri (lomD (zOf q kb))) k0_pay185) k0_pay186 vb := by
  subst hq ht hk hr ha hv; rfl

theorem fin4 {A : Type*} {f : Fin 4 → A} {a b c d : A} (h0 : a = f 0) (h1 : b = f 1) (h2 : c = f 2) (h3 : d = f 3) : ∀ p, (![a, b, c, d] : Fin 4 → A) p = f p := by
  intro p; fin_cases p; exacts [h0, h1, h2, h3]
theorem fin8 {A : Type*} {f : Fin 8 → A} {a b c d a' b' c' d' : A} (h0 : a = f 0) (h1 : b = f 1) (h2 : c = f 2) (h3 : d = f 3)
    (h4 : a' = f 4) (h5 : b' = f 5) (h6 : c' = f 6) (h7 : d' = f 7) : ∀ p, (![a, b, c, d, a', b', c', d'] : Fin 8 → A) p = f p := by
  intro p; fin_cases p; exacts [h0, h1, h2, h3, h4, h5, h6, h7]

/-- The bound after the first visits, over what their loads read: with two blocks, -/
theorem worst_first (x : Pt F) (d j : Fin 32) (q : Fin 8 → FVec F S128x256 .bf16) (tri : FVec F S256x256 .bf16) (zm : Fin 8 → FVec F S1x256 .f32)
    (kr lr : Fin 4 → Vec F S1x256x128 .bf16) (rr : Fin 8 → Vec F S1x256 .f32)
    (hq : ∀ h, q h = x.q h) (ht : tri = x.tri) (hm : ∀ h, zm h = x.zm h) (hk : ∀ p, kr p = x.kb p d) (hl : ∀ p, lr p = x.kb p j) (hr : ∀ h, rr h = k0_pay185) :
    worstOf (fun h => runOf (sufOf tri (lomOf (zOf (q h) (lr (pairOf h))))) (runOf (sufOf tri (lomD (zOf (q h) (kr (pairOf h))))) (rr h))) zm
      = worstOf (x.visit j (x.diag d zero)).run x.zm := by
  obtain rfl : zm = x.zm := funext hm
  have e : (fun h => runOf (sufOf tri (lomOf (zOf (q h) (lr (pairOf h))))) (runOf (sufOf tri (lomD (zOf (q h) (kr (pairOf h))))) (rr h)))
      = (x.visit j (x.diag d zero)).run := by
    funext h; rw [hq, ht, hk, hl, hr]; rfl
  rw [e]
/-- and with the diagonal block alone. -/
theorem worst_diag (x : Pt F) (d : Fin 32) (q : Fin 8 → FVec F S128x256 .bf16) (tri : FVec F S256x256 .bf16) (zm : Fin 8 → FVec F S1x256 .f32)
    (kr : Fin 4 → Vec F S1x256x128 .bf16) (rr : Fin 8 → Vec F S1x256 .f32)
    (hq : ∀ h, q h = x.q h) (ht : tri = x.tri) (hm : ∀ h, zm h = x.zm h) (hk : ∀ p, kr p = x.kb p d) (hr : ∀ h, rr h = k0_pay185) :
    worstOf (fun h => runOf (sufOf tri (lomD (zOf (q h) (kr (pairOf h))))) (rr h)) zm = worstOf (x.diag d zero).run x.zm := by
  obtain rfl : zm = x.zm := funext hm
  have e : (fun h => runOf (sufOf tri (lomD (zOf (q h) (kr (pairOf h))))) (rr h)) = (x.diag d zero).run := by
    funext h; rw [hq, ht, hk, hr]; rfl
  rw [e]

/-- The four stores into the result's block cover it. -/
theorem out_cover (a b c d : FVec F S256x128 .bf16) : ∀ y, ∃ p ∈ ([⟨Rect.unit (s := S256x512) ![0, 384] S256x128.size inb_S256x512_S256x128_0_384, d⟩,
    ⟨Rect.unit (s := S256x512) ![0, 256] S256x128.size inb_S256x512_S256x128_0_256, c⟩,
    ⟨Rect.unit (s := S256x512) ![0, 128] S256x128.size inb_S256x512_S256x128_0_128, b⟩,
    ⟨Rect.unit (s := S256x512) ![0, 0] S256x128.size inb_S256x512_S256x128_0_0, a⟩] : List (View.Piece (Elt F) S256x512 .bf16)), y ∈ p.1.set := by
  intro y
  have h0 : (y 0).val < 256 := (y 0).isLt
  have h1 : (y 1).val < 512 := (y 1).isLt
  have key : ∀ k : ℕ, k ≤ (y 1).val → (y 1).val < k + 128 → ∀ inb, y ∈ (Rect.unit (s := S256x512) ![0, k] S256x128.size inb).set := by
    intro k hk hk' inb
    refine Rect.mem_set_unit.2 fun a => ?_
    fin_cases a
    · exact ⟨Nat.zero_le _, (Nat.zero_add 256).symm ▸ h0⟩
    · exact ⟨hk, hk'⟩
  rcases Nat.lt_or_ge (y 1).val 128 with h | h
  · exact ⟨_, .tail _ (.tail _ (.tail _ (.head _))), key 0 (Nat.zero_le _) (by omega) inb_S256x512_S256x128_0_0⟩
  rcases Nat.lt_or_ge (y 1).val 256 with h' | h'
  · exact ⟨_, .tail _ (.tail _ (.head _)), key 128 h (by omega) inb_S256x512_S256x128_0_128⟩
  rcases Nat.lt_or_ge (y 1).val 384 with h'' | h''
  · exact ⟨_, .tail _ (.head _), key 256 h' (by omega) inb_S256x512_S256x128_0_256⟩
  · exact ⟨_, .head _, key 384 h'' (by omega) inb_S256x512_S256x128_0_384⟩

/-- What the result's staging buffer reads after the four stores. -/
theorem out_val (arg8 : Memref sig .tc .vmem S256x512 .bf16) (f8 : arg8.view.ty.Contents (Elt F)) (s : St F) (a : Fin 8 → Vec F S128x256 .f32) (ha : ∀ h, a h = s.acc h) :
    arg8.view.read (Elt F) (arg8.view.writes (Elt F) f8 [⟨Rect.unit (s := S256x512) ![0, 384] S256x128.size inb_S256x512_S256x128_0_384, colsOf (a 6) (a 7)⟩,
      ⟨Rect.unit (s := S256x512) ![0, 256] S256x128.size inb_S256x512_S256x128_0_256, colsOf (a 4) (a 5)⟩,
      ⟨Rect.unit (s := S256x512) ![0, 128] S256x128.size inb_S256x512_S256x128_0_128, colsOf (a 2) (a 3)⟩,
      ⟨Rect.unit (s := S256x512) ![0, 0] S256x128.size inb_S256x512_S256x128_0_0, colsOf (a 0) (a 1)⟩]) = outOf s := by
  obtain rfl : a = s.acc := funext ha
  exact View.read_writes_eq_canon _ _ _ (out_cover _ _ _ _)

set_option maxHeartbeats 8000000 in
/-- The body where a whole block of keys precedes the diagonal one. -/
theorem body_pos (c : Dev nD) (i : grid0.Coords)
  (arg3 : Memref sig .tc .vmem S512x256 .bf16) (harg3 : arg3.IsWhole) (f3 : Buf (Elt F) (arg3.view.loc (c : Thread nD τ)))
  (arg4 : Memref sig .tc .vmem S1x8192x512 .bf16) (harg4 : arg4.IsWhole) (f4 : Buf (Elt F) (arg4.view.loc (c : Thread nD τ)))
  (arg5 : Memref sig .tc .vmem S32x512x256 .bf16) (harg5 : arg5.IsWhole) (f5 : Buf (Elt F) (arg5.view.loc (c : Thread nD τ)))
  (arg6 : Memref sig .tc .vmem S1x1x512 .f32) (harg6 : arg6.IsWhole) (f6 : Buf (Elt F) (arg6.view.loc (c : Thread nD τ)))
  (arg7 : Memref sig .tc .vmem S256x256 .bf16) (harg7 : arg7.IsWhole) (f7 : Buf (Elt F) (arg7.view.loc (c : Thread nD τ)))
  (arg8 : Memref sig .tc .vmem S256x512 .bf16) (harg8 : arg8.IsWhole) (f8 : Buf (Elt F) (arg8.view.loc (c : Thread nD τ)))
  (s : St F) (x : Pt F) (hQ : x = point (arg3.view.read (Elt F) f3) (arg4.view.read (Elt F) f4) (arg5.view.read (Elt F) f5) (arg6.view.read (Elt F) f6) (arg7.view.read (Elt F) f7))
  (hc : k0_cond1 i = 1#1) (K : PUnit → sProp 𝕄) :
  iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ heldSt c s) ∗ (iprop(∃ f8', ⌜arg8.view.read (Elt F) f8' = outOf (x.last (i 2).val)⌝ ∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ heldSt c (x.last (i 2).val))) -∗ K ⟨⟩)) ⊢ wp frame (wpE (defs₀ (F := F)) 𝒱₀ (c : Thread nD τ) none) Set.univ
    (cc0_stick_breaking_attention i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _)) K := by
  have hi : (i 2).val < 32 := (i 2).isLt
  have hz : (![0, 0] : Fin 2 → ℕ) = fun _ => 0 := by funext a; fin_cases a <;> rfl
  have hz3 : (![0, 0, 0] : Fin 3 → ℕ) = fun _ => 0 := by funext a; fin_cases a <;> rfl
  have hi0 : 0 < (i 2).val := (cond_iff _ hi).1 hc
  have hx : ∀ p j, x.kb p j = kAt (arg4.view.read (Elt F) f4) p j := by subst hQ; exact fun _ _ => rfl
  have hy : ∀ p j, x.vb p j = vAt (arg5.view.read (Elt F) f5) p j := by subst hQ; exact fun _ _ => rfl
  have hq : ∀ h, truncf .bf16 (qfOf h (qAt (arg3.view.read (Elt F) f3) (pairOf h))) bitsLt_bf16_f32 = x.q h := by subst hQ; exact fun _ => rfl
  have hm : ∀ h, k0_pay207 (qfOf h (qAt (arg3.view.read (Elt F) f3) (pairOf h))) (slab (arg6.view.read (Elt F) f6) h) = x.zm h := by subst hQ; exact fun _ => rfl
  have ht : arg7.view.read (Elt F) f7 = x.tri := by subst hQ; rfl
  simp only [cc0_stick_breaking_attention_eq_skeleton]; unfold cc0_stick_breaking_attention_skel
  unfold heldSt
  iintro ⟨⟨H3, H4, H5, H6, H7, H8, R0, R1, R2, R3, R4, R5, R6, R7, A0, A1, A2, A3, A4, A5, A6, A7⟩, Hk⟩
  sl_exec_parts
  have hk0 := (readAt_off arg4 f4 (off1_eq i) (k0_off1_inb i hc) (kInb 0 (dblk (i 2).val))).trans (hx 0 _).symm
  have hk1 := (readAt_off arg4 f4 (off3_eq i) (k0_off3_inb i hc) (kInb 1 (dblk (i 2).val))).trans (hx 1 _).symm
  have hk2 := (readAt_off arg4 f4 (off5_eq i) (k0_off5_inb i hc) (kInb 2 (dblk (i 2).val))).trans (hx 2 _).symm
  have hk3 := (readAt_off arg4 f4 (off7_eq i) (k0_off7_inb i hc) (kInb 3 (dblk (i 2).val))).trans (hx 3 _).symm
  have hl0 := (readAt_off arg4 f4 (off2_eq i hi0) (k0_off2_inb i hc) (kInb 0 (blk (i 2).val 0))).trans (hx 0 _).symm
  have hl1 := (readAt_off arg4 f4 (off4_eq i hi0) (k0_off4_inb i hc) (kInb 1 (blk (i 2).val 0))).trans (hx 1 _).symm
  have hl2 := (readAt_off arg4 f4 (off6_eq i hi0) (k0_off6_inb i hc) (kInb 2 (blk (i 2).val 0))).trans (hx 2 _).symm
  have hl3 := (readAt_off arg4 f4 (off8_eq i hi0) (k0_off8_inb i hc) (kInb 3 (blk (i 2).val 0))).trans (hx 3 _).symm
  have hv0 := (readAt_off arg5 f5 (off9_eq i) (k0_off9_inb i hc) (vInb 0 (dblk (i 2).val))).trans (hy 0 _).symm
  have hv1 := (readAt_off arg5 f5 (off11_eq i) (k0_off11_inb i hc) (vInb 1 (dblk (i 2).val))).trans (hy 1 _).symm
  have hv2 := (readAt_off arg5 f5 (off13_eq i) (k0_off13_inb i hc) (vInb 2 (dblk (i 2).val))).trans (hy 2 _).symm
  have hv3 := (readAt_off arg5 f5 (off15_eq i) (k0_off15_inb i hc) (vInb 3 (dblk (i 2).val))).trans (hy 3 _).symm
  have hu0 := (readAt_off arg5 f5 (off10_eq i hi0) (k0_off10_inb i hc) (vInb 0 (blk (i 2).val 0))).trans (hy 0 _).symm
  have hu1 := (readAt_off arg5 f5 (off12_eq i hi0) (k0_off12_inb i hc) (vInb 1 (blk (i 2).val 0))).trans (hy 1 _).symm
  have hu2 := (readAt_off arg5 f5 (off14_eq i hi0) (k0_off14_inb i hc) (vInb 2 (blk (i 2).val 0))).trans (hy 2 _).symm
  have hu3 := (readAt_off arg5 f5 (off16_eq i hi0) (k0_off16_inb i hc) (vInb 3 (blk (i 2).val 0))).trans (hy 3 _).symm
  have ht1 : body_pos.sl.v1 c arg7 f7 = x.tri := (shapeCast_self _ _).trans ((View.readAt_full arg7.view f7 _).trans ht)
  have hq0 : body_pos.sl.v14 c arg3 f3 = x.q 0 := hq 0
  have hq1 : body_pos.sl.v38 c arg3 f3 = x.q 1 := hq 1
  have hq2 : body_pos.sl.v62 c arg3 f3 = x.q 2 := hq 2
  have hq3 : body_pos.sl.v86 c arg3 f3 = x.q 3 := hq 3
  have hq4 : body_pos.sl.v110 c arg3 f3 = x.q 4 := hq 4
  have hq5 : body_pos.sl.v134 c arg3 f3 = x.q 5 := hq 5
  have hq6 : body_pos.sl.v158 c arg3 f3 = x.q 6 := hq 6
  have hq7 : body_pos.sl.v182 c arg3 f3 = x.q 7 := hq 7
  have hm0 : body_pos.sl.v22 c arg3 f3 arg6 f6 = x.zm 0 := (zm_val 0 _ (View.readAt_full arg6.view f6 _)).trans (hm 0)
  have hm1 : body_pos.sl.v46 c arg3 f3 arg6 f6 = x.zm 1 := (zm_val 1 _ (View.readAt_full arg6.view f6 _)).trans (hm 1)
  have hm2 : body_pos.sl.v70 c arg3 f3 arg6 f6 = x.zm 2 := (zm_val 2 _ (View.readAt_full arg6.view f6 _)).trans (hm 2)
  have hm3 : body_pos.sl.v94 c arg3 f3 arg6 f6 = x.zm 3 := (zm_val 3 _ (View.readAt_full arg6.view f6 _)).trans (hm 3)
  have hm4 : body_pos.sl.v118 c arg3 f3 arg6 f6 = x.zm 4 := (zm_val 4 _ (View.readAt_full arg6.view f6 _)).trans (hm 4)
  have hm5 : body_pos.sl.v142 c arg3 f3 arg6 f6 = x.zm 5 := (zm_val 5 _ (View.readAt_full arg6.view f6 _)).trans (hm 5)
  have hm6 : body_pos.sl.v166 c arg3 f3 arg6 f6 = x.zm 6 := (zm_val 6 _ (View.readAt_full arg6.view f6 _)).trans (hm 6)
  have hm7 : body_pos.sl.v190 c arg3 f3 arg6 f6 = x.zm 7 := (zm_val 7 _ (View.readAt_full arg6.view f6 _)).trans (hm 7)
  have z0 : (Memref.whole cc0_scratch0).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch0).view hz inb_S1x256_S1x256_0_0 _
  have z1 : (Memref.whole cc0_scratch1).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch1).view hz inb_S1x256_S1x256_0_0 _
  have z2 : (Memref.whole cc0_scratch2).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch2).view hz inb_S1x256_S1x256_0_0 _
  have z3 : (Memref.whole cc0_scratch3).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch3).view hz inb_S1x256_S1x256_0_0 _
  have z4 : (Memref.whole cc0_scratch4).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch4).view hz inb_S1x256_S1x256_0_0 _
  have z5 : (Memref.whole cc0_scratch5).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch5).view hz inb_S1x256_S1x256_0_0 _
  have z6 : (Memref.whole cc0_scratch6).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch6).view hz inb_S1x256_S1x256_0_0 _
  have z7 : (Memref.whole cc0_scratch7).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch7).view hz inb_S1x256_S1x256_0_0 _
  have hw : body_pos.sl.v830 c i arg3 f3 arg4 f4 arg6 f6 arg7 f7 hc = worstOf (x.enter (i 2).val).run x.zm := by
    rw [Pt.enter, if_neg (by omega)]
    have e1 := fin4 (f := fun p => x.kb p (dblk (i 2).val)) hk0 hk1 hk2 hk3
    have e2 := fin4 (f := fun p => x.kb p (blk (i 2).val 0)) hl0 hl1 hl2 hl3
    have e3 := fin8 (f := fun _ => (k0_pay185 : Vec F S1x256 .f32)) z0 z1 z2 z3 z4 z5 z6 z7
    have e5 := fin8 (f := x.q) hq0 hq1 hq2 hq3 hq4 hq5 hq6 hq7
    have e6 := fin8 (f := x.zm) hm0 hm1 hm2 hm3 hm4 hm5 hm6 hm7
    have e4 := worst_first x (dblk (i 2).val) (blk (i 2).val 0) _ _ _ _ _ _ e5 ht1 e6 e1 e2 e3
    exact e4
  rw [ht1, hq0, hm0, hq1, hm1, hq2, hm2, hq3, hm3, hq4, hm4, hq5, hm5, hq6, hm6, hq7, hm7, hw]
  have g0 : (Memref.whole cc0_scratch0).view.writes (Elt F) (s.run 0) (body_pos.sl.R0_2 c i arg3 f3 arg4 f4 arg7 f7 hc) = (x.visit (blk (i 2).val 0) (x.diag (dblk (i 2).val) zero)).run 0 := ((whole_writes cc0_scratch0 _ inb_S1x256_S1x256_0_0 _ _).trans (run_first hq0 ht1 hk0 hl0 (View.readCov_unit_zero (Memref.whole cc0_scratch0).view hz inb_S1x256_S1x256_0_0 _)))
  have g1 : (Memref.whole cc0_scratch1).view.writes (Elt F) (s.run 1) (body_pos.sl.R1_2 c i arg3 f3 arg4 f4 arg7 f7 hc) = (x.visit (blk (i 2).val 0) (x.diag (dblk (i 2).val) zero)).run 1 := ((whole_writes cc0_scratch1 _ inb_S1x256_S1x256_0_0 _ _).trans (run_first hq1 ht1 hk0 hl0 (View.readCov_unit_zero (Memref.whole cc0_scratch1).view hz inb_S1x256_S1x256_0_0 _)))
  have g2 : (Memref.whole cc0_scratch2).view.writes (Elt F) (s.run 2) (body_pos.sl.R2_2 c i arg3 f3 arg4 f4 arg7 f7 hc) = (x.visit (blk (i 2).val 0) (x.diag (dblk (i 2).val) zero)).run 2 := ((whole_writes cc0_scratch2 _ inb_S1x256_S1x256_0_0 _ _).trans (run_first hq2 ht1 hk1 hl1 (View.readCov_unit_zero (Memref.whole cc0_scratch2).view hz inb_S1x256_S1x256_0_0 _)))
  have g3 : (Memref.whole cc0_scratch3).view.writes (Elt F) (s.run 3) (body_pos.sl.R3_2 c i arg3 f3 arg4 f4 arg7 f7 hc) = (x.visit (blk (i 2).val 0) (x.diag (dblk (i 2).val) zero)).run 3 := ((whole_writes cc0_scratch3 _ inb_S1x256_S1x256_0_0 _ _).trans (run_first hq3 ht1 hk1 hl1 (View.readCov_unit_zero (Memref.whole cc0_scratch3).view hz inb_S1x256_S1x256_0_0 _)))
  have g4 : (Memref.whole cc0_scratch4).view.writes (Elt F) (s.run 4) (body_pos.sl.R4_2 c i arg3 f3 arg4 f4 arg7 f7 hc) = (x.visit (blk (i 2).val 0) (x.diag (dblk (i 2).val) zero)).run 4 := ((whole_writes cc0_scratch4 _ inb_S1x256_S1x256_0_0 _ _).trans (run_first hq4 ht1 hk2 hl2 (View.readCov_unit_zero (Memref.whole cc0_scratch4).view hz inb_S1x256_S1x256_0_0 _)))
  have g5 : (Memref.whole cc0_scratch5).view.writes (Elt F) (s.run 5) (body_pos.sl.R5_2 c i arg3 f3 arg4 f4 arg7 f7 hc) = (x.visit (blk (i 2).val 0) (x.diag (dblk (i 2).val) zero)).run 5 := ((whole_writes cc0_scratch5 _ inb_S1x256_S1x256_0_0 _ _).trans (run_first hq5 ht1 hk2 hl2 (View.readCov_unit_zero (Memref.whole cc0_scratch5).view hz inb_S1x256_S1x256_0_0 _)))
  have g6 : (Memref.whole cc0_scratch6).view.writes (Elt F) (s.run 6) (body_pos.sl.R6_2 c i arg3 f3 arg4 f4 arg7 f7 hc) = (x.visit (blk (i 2).val 0) (x.diag (dblk (i 2).val) zero)).run 6 := ((whole_writes cc0_scratch6 _ inb_S1x256_S1x256_0_0 _ _).trans (run_first hq6 ht1 hk3 hl3 (View.readCov_unit_zero (Memref.whole cc0_scratch6).view hz inb_S1x256_S1x256_0_0 _)))
  have g7 : (Memref.whole cc0_scratch7).view.writes (Elt F) (s.run 7) (body_pos.sl.R7_2 c i arg3 f3 arg4 f4 arg7 f7 hc) = (x.visit (blk (i 2).val 0) (x.diag (dblk (i 2).val) zero)).run 7 := ((whole_writes cc0_scratch7 _ inb_S1x256_S1x256_0_0 _ _).trans (run_first hq7 ht1 hk3 hl3 (View.readCov_unit_zero (Memref.whole cc0_scratch7).view hz inb_S1x256_S1x256_0_0 _)))
  have g8 : (Memref.whole cc0_scratch8).view.writes (Elt F) (s.acc 0) (body_pos.sl.A0_2 c i arg3 f3 arg4 f4 arg5 f5 arg7 f7 hc) = (x.visit (blk (i 2).val 0) (x.diag (dblk (i 2).val) zero)).acc 0 := ((whole_writes cc0_scratch8 _ inb_S128x256_S128x256_0_0 _ _).trans (acc_first hq0 ht1 hk0 hl0 (View.readCov_unit_zero (Memref.whole cc0_scratch0).view hz inb_S1x256_S1x256_0_0 _) (View.readCov_unit_zero (Memref.whole cc0_scratch8).view hz inb_S128x256_S128x256_0_0 _) hv0 hu0))
  have g9 : (Memref.whole cc0_scratch9).view.writes (Elt F) (s.acc 1) (body_pos.sl.A1_2 c i arg3 f3 arg4 f4 arg5 f5 arg7 f7 hc) = (x.visit (blk (i 2).val 0) (x.diag (dblk (i 2).val) zero)).acc 1 := ((whole_writes cc0_scratch9 _ inb_S128x256_S128x256_0_0 _ _).trans (acc_first hq1 ht1 hk0 hl0 (View.readCov_unit_zero (Memref.whole cc0_scratch1).view hz inb_S1x256_S1x256_0_0 _) (View.readCov_unit_zero (Memref.whole cc0_scratch9).view hz inb_S128x256_S128x256_0_0 _) hv0 hu0))
  have g10 : (Memref.whole cc0_scratch10).view.writes (Elt F) (s.acc 2) (body_pos.sl.A2_2 c i arg3 f3 arg4 f4 arg5 f5 arg7 f7 hc) = (x.visit (blk (i 2).val 0) (x.diag (dblk (i 2).val) zero)).acc 2 := ((whole_writes cc0_scratch10 _ inb_S128x256_S128x256_0_0 _ _).trans (acc_first hq2 ht1 hk1 hl1 (View.readCov_unit_zero (Memref.whole cc0_scratch2).view hz inb_S1x256_S1x256_0_0 _) (View.readCov_unit_zero (Memref.whole cc0_scratch10).view hz inb_S128x256_S128x256_0_0 _) hv1 hu1))
  have g11 : (Memref.whole cc0_scratch11).view.writes (Elt F) (s.acc 3) (body_pos.sl.A3_2 c i arg3 f3 arg4 f4 arg5 f5 arg7 f7 hc) = (x.visit (blk (i 2).val 0) (x.diag (dblk (i 2).val) zero)).acc 3 := ((whole_writes cc0_scratch11 _ inb_S128x256_S128x256_0_0 _ _).trans (acc_first hq3 ht1 hk1 hl1 (View.readCov_unit_zero (Memref.whole cc0_scratch3).view hz inb_S1x256_S1x256_0_0 _) (View.readCov_unit_zero (Memref.whole cc0_scratch11).view hz inb_S128x256_S128x256_0_0 _) hv1 hu1))
  have g12 : (Memref.whole cc0_scratch12).view.writes (Elt F) (s.acc 4) (⟨Rect.unit (s := S128x256) ![0, 0] S128x256.size inb_S128x256_S128x256_0_0, body_pos.sl.v784 c i arg3 f3 arg4 f4 arg5 f5 arg7 f7 hc⟩ :: body_pos.sl.A4_1) = (x.visit (blk (i 2).val 0) (x.diag (dblk (i 2).val) zero)).acc 4 := ((whole_writes cc0_scratch12 _ inb_S128x256_S128x256_0_0 _ _).trans (acc_first hq4 ht1 hk2 hl2 (View.readCov_unit_zero (Memref.whole cc0_scratch4).view hz inb_S1x256_S1x256_0_0 _) (View.readCov_unit_zero (Memref.whole cc0_scratch12).view hz inb_S128x256_S128x256_0_0 _) hv2 hu2))
  have g13 : (Memref.whole cc0_scratch13).view.writes (Elt F) (s.acc 5) (⟨Rect.unit (s := S128x256) ![0, 0] S128x256.size inb_S128x256_S128x256_0_0, body_pos.sl.v798 c i arg3 f3 arg4 f4 arg5 f5 arg7 f7 hc⟩ :: body_pos.sl.A5_1) = (x.visit (blk (i 2).val 0) (x.diag (dblk (i 2).val) zero)).acc 5 := ((whole_writes cc0_scratch13 _ inb_S128x256_S128x256_0_0 _ _).trans (acc_first hq5 ht1 hk2 hl2 (View.readCov_unit_zero (Memref.whole cc0_scratch5).view hz inb_S1x256_S1x256_0_0 _) (View.readCov_unit_zero (Memref.whole cc0_scratch13).view hz inb_S128x256_S128x256_0_0 _) hv2 hu2))
  have g14 : (Memref.whole cc0_scratch14).view.writes (Elt F) (s.acc 6) (⟨Rect.unit (s := S128x256) ![0, 0] S128x256.size inb_S128x256_S128x256_0_0, body_pos.sl.v812 c i arg3 f3 arg4 f4 arg5 f5 arg7 f7 hc⟩ :: body_pos.sl.A6_1) = (x.visit (blk (i 2).val 0) (x.diag (dblk (i 2).val) zero)).acc 6 := ((whole_writes cc0_scratch14 _ inb_S128x256_S128x256_0_0 _ _).trans (acc_first hq6 ht1 hk3 hl3 (View.readCov_unit_zero (Memref.whole cc0_scratch6).view hz inb_S1x256_S1x256_0_0 _) (View.readCov_unit_zero (Memref.whole cc0_scratch14).view hz inb_S128x256_S128x256_0_0 _) hv3 hu3))
  have g15 : (Memref.whole cc0_scratch15).view.writes (Elt F) (s.acc 7) (⟨Rect.unit (s := S128x256) ![0, 0] S128x256.size inb_S128x256_S128x256_0_0, body_pos.sl.v826 c i arg3 f3 arg4 f4 arg5 f5 arg7 f7 hc⟩ :: body_pos.sl.A7_1) = (x.visit (blk (i 2).val 0) (x.diag (dblk (i 2).val) zero)).acc 7 := ((whole_writes cc0_scratch15 _ inb_S128x256_S128x256_0_0 _ _).trans (acc_first hq7 ht1 hk3 hl3 (View.readCov_unit_zero (Memref.whole cc0_scratch7).view hz inb_S1x256_S1x256_0_0 _) (View.readCov_unit_zero (Memref.whole cc0_scratch15).view hz inb_S128x256_S128x256_0_0 _) hv3 hu3))
  iapply (wp_call_spec 𝒱₀ (c : Thread nD τ) none Set.univ
    (spec c i arg4 arg5 f4 f5 x ((i 2).val - 1) 1 (worstOf (x.enter (i 2).val).run x.zm) (x.enter (i 2).val)) ((i 2).val - 1)
    (fun u hu => nomatch hu) (spec_le c i arg4 harg4 arg5 harg5 f4 f5 x hx hy Set.univ ((i 2).val - 1) 1 le_rfl rfl (by decide) _ _))
  rw [spec_apply]; unfold held heldSt
  rw [Pt.enter, if_neg (by omega)]
  isplitl [H4 H5 R0 R1 R2 R3 R4 R5 R6 R7 A0 A1 A2 A3 A4 A5 A6 A7]
  · isplitl [H4]; · iexact H4
    isplitl [H5]; · iexact H5
    isplitl [R0]
    · iapply (held_of_eq g0)
      iexact R0
    isplitl [R1]
    · iapply (held_of_eq g1)
      iexact R1
    isplitl [R2]
    · iapply (held_of_eq g2)
      iexact R2
    isplitl [R3]
    · iapply (held_of_eq g3)
      iexact R3
    isplitl [R4]
    · iapply (held_of_eq g4)
      iexact R4
    isplitl [R5]
    · iapply (held_of_eq g5)
      iexact R5
    isplitl [R6]
    · iapply (held_of_eq g6)
      iexact R6
    isplitl [R7]
    · iapply (held_of_eq g7)
      iexact R7
    isplitl [A0]
    · iapply (held_of_eq g8)
      iexact A0
    isplitl [A1]
    · iapply (held_of_eq g9)
      iexact A1
    isplitl [A2]
    · iapply (held_of_eq g10)
      iexact A2
    isplitl [A3]
    · iapply (held_of_eq g11)
      iexact A3
    isplitl [A4]
    · iapply (held_of_eq g12)
      iexact A4
    isplitl [A5]
    · iapply (held_of_eq g13)
      iexact A5
    isplitl [A6]
    · iapply (held_of_eq g14)
      iexact A6
    iapply (held_of_eq g15)
    iexact A7
  iintro %r ⟨H4, H5, R0, R1, R2, R3, R4, R5, R6, R7, A0, A1, A2, A3, A4, A5, A6, A7⟩
  have hlast : x.walk (i 2).val ((i 2).val - 1) 1 (worstOf (x.visit (blk (i 2).val 0) (x.diag (dblk (i 2).val) zero)).run x.zm) (x.visit (blk (i 2).val 0) (x.diag (dblk (i 2).val) zero)) = x.last (i 2).val := by rw [Pt.last, Pt.enter, if_neg (by omega)]
  rw [hlast]
  sl_exec_parts
  rw [wp_ret]; imodintro
  iapply Hk
  iexists _
  isplitr
  rotate_left
  · isplitl [H3]; · iexact H3
    isplitl [H4]; · iexact H4
    isplitl [H5]; · iexact H5
    isplitl [H6]; · iexact H6
    isplitl [H7]; · iexact H7
    isplitl [H8]; · iexact H8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ipureintro
  exact out_val arg8 f8 (x.last (i 2).val) ![(Memref.whole cc0_scratch8).view.readAt (Elt F) (Rect.unit (s := S128x256) ![0, 0] S128x256.size inb_S128x256_S128x256_0_0).toLoadRect ((x.last (i 2).val).acc 0), (Memref.whole cc0_scratch9).view.readAt (Elt F) (Rect.unit (s := S128x256) ![0, 0] S128x256.size inb_S128x256_S128x256_0_0).toLoadRect ((x.last (i 2).val).acc 1), (Memref.whole cc0_scratch10).view.readAt (Elt F) (Rect.unit (s := S128x256) ![0, 0] S128x256.size inb_S128x256_S128x256_0_0).toLoadRect ((x.last (i 2).val).acc 2), (Memref.whole cc0_scratch11).view.readAt (Elt F) (Rect.unit (s := S128x256) ![0, 0] S128x256.size inb_S128x256_S128x256_0_0).toLoadRect ((x.last (i 2).val).acc 3), (Memref.whole cc0_scratch12).view.readAt (Elt F) (Rect.unit (s := S128x256) ![0, 0] S128x256.size inb_S128x256_S128x256_0_0).toLoadRect ((x.last (i 2).val).acc 4), (Memref.whole cc0_scratch13).view.readAt (Elt F) (Rect.unit (s := S128x256) ![0, 0] S128x256.size inb_S128x256_S128x256_0_0).toLoadRect ((x.last (i 2).val).acc 5), (Memref.whole cc0_scratch14).view.readAt (Elt F) (Rect.unit (s := S128x256) ![0, 0] S128x256.size inb_S128x256_S128x256_0_0).toLoadRect ((x.last (i 2).val).acc 6), (Memref.whole cc0_scratch15).view.readAt (Elt F) (Rect.unit (s := S128x256) ![0, 0] S128x256.size inb_S128x256_S128x256_0_0).toLoadRect ((x.last (i 2).val).acc 7)]
    (fin8 (Memref.readAt_unit_zero (Elt F) cc0_scratch8 hz inb_S128x256_S128x256_0_0 _) (Memref.readAt_unit_zero (Elt F) cc0_scratch9 hz inb_S128x256_S128x256_0_0 _) (Memref.readAt_unit_zero (Elt F) cc0_scratch10 hz inb_S128x256_S128x256_0_0 _) (Memref.readAt_unit_zero (Elt F) cc0_scratch11 hz inb_S128x256_S128x256_0_0 _) (Memref.readAt_unit_zero (Elt F) cc0_scratch12 hz inb_S128x256_S128x256_0_0 _) (Memref.readAt_unit_zero (Elt F) cc0_scratch13 hz inb_S128x256_S128x256_0_0 _) (Memref.readAt_unit_zero (Elt F) cc0_scratch14 hz inb_S128x256_S128x256_0_0 _) (Memref.readAt_unit_zero (Elt F) cc0_scratch15 hz inb_S128x256_S128x256_0_0 _))

set_option maxHeartbeats 8000000 in
/-- The body at the first block of queries. -/
theorem body_neg (c : Dev nD) (i : grid0.Coords)
  (arg3 : Memref sig .tc .vmem S512x256 .bf16) (harg3 : arg3.IsWhole) (f3 : Buf (Elt F) (arg3.view.loc (c : Thread nD τ)))
  (arg4 : Memref sig .tc .vmem S1x8192x512 .bf16) (harg4 : arg4.IsWhole) (f4 : Buf (Elt F) (arg4.view.loc (c : Thread nD τ)))
  (arg5 : Memref sig .tc .vmem S32x512x256 .bf16) (harg5 : arg5.IsWhole) (f5 : Buf (Elt F) (arg5.view.loc (c : Thread nD τ)))
  (arg6 : Memref sig .tc .vmem S1x1x512 .f32) (harg6 : arg6.IsWhole) (f6 : Buf (Elt F) (arg6.view.loc (c : Thread nD τ)))
  (arg7 : Memref sig .tc .vmem S256x256 .bf16) (harg7 : arg7.IsWhole) (f7 : Buf (Elt F) (arg7.view.loc (c : Thread nD τ)))
  (arg8 : Memref sig .tc .vmem S256x512 .bf16) (harg8 : arg8.IsWhole) (f8 : Buf (Elt F) (arg8.view.loc (c : Thread nD τ)))
  (s : St F) (x : Pt F) (hQ : x = point (arg3.view.read (Elt F) f3) (arg4.view.read (Elt F) f4) (arg5.view.read (Elt F) f5) (arg6.view.read (Elt F) f6) (arg7.view.read (Elt F) f7))
  (hc : ¬ k0_cond1 i = 1#1) (K : PUnit → sProp 𝕄) :
  iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ heldSt c s) ∗ (iprop(∃ f8', ⌜arg8.view.read (Elt F) f8' = outOf (x.last (i 2).val)⌝ ∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ heldSt c (x.last (i 2).val))) -∗ K ⟨⟩)) ⊢ wp frame (wpE (defs₀ (F := F)) 𝒱₀ (c : Thread nD τ) none) Set.univ
    (cc0_stick_breaking_attention i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _)) K := by
  have hi : (i 2).val < 32 := (i 2).isLt
  have hz : (![0, 0] : Fin 2 → ℕ) = fun _ => 0 := by funext a; fin_cases a <;> rfl
  have hz3 : (![0, 0, 0] : Fin 3 → ℕ) = fun _ => 0 := by funext a; fin_cases a <;> rfl
  have hi0 : (i 2).val = 0 := by have := mt (cond_iff _ hi).2 hc; omega
  have hx : ∀ p j, x.kb p j = kAt (arg4.view.read (Elt F) f4) p j := by subst hQ; exact fun _ _ => rfl
  have hy : ∀ p j, x.vb p j = vAt (arg5.view.read (Elt F) f5) p j := by subst hQ; exact fun _ _ => rfl
  have hq : ∀ h, truncf .bf16 (qfOf h (qAt (arg3.view.read (Elt F) f3) (pairOf h))) bitsLt_bf16_f32 = x.q h := by subst hQ; exact fun _ => rfl
  have hm : ∀ h, k0_pay207 (qfOf h (qAt (arg3.view.read (Elt F) f3) (pairOf h))) (slab (arg6.view.read (Elt F) f6) h) = x.zm h := by subst hQ; exact fun _ => rfl
  have ht : arg7.view.read (Elt F) f7 = x.tri := by subst hQ; rfl
  simp only [cc0_stick_breaking_attention_eq_skeleton]; unfold cc0_stick_breaking_attention_skel
  unfold heldSt
  iintro ⟨⟨H3, H4, H5, H6, H7, H8, R0, R1, R2, R3, R4, R5, R6, R7, A0, A1, A2, A3, A4, A5, A6, A7⟩, Hk⟩
  sl_exec_parts
  have hk0 := (readAt_off arg4 f4 (off17_eq i) (k0_off17_inb i hc) (kInb 0 (dblk (i 2).val))).trans (hx 0 _).symm
  have hk1 := (readAt_off arg4 f4 (off18_eq i) (k0_off18_inb i hc) (kInb 1 (dblk (i 2).val))).trans (hx 1 _).symm
  have hk2 := (readAt_off arg4 f4 (off19_eq i) (k0_off19_inb i hc) (kInb 2 (dblk (i 2).val))).trans (hx 2 _).symm
  have hk3 := (readAt_off arg4 f4 (off20_eq i) (k0_off20_inb i hc) (kInb 3 (dblk (i 2).val))).trans (hx 3 _).symm
  have hv0 := (readAt_off arg5 f5 (off21_eq i) (k0_off21_inb i hc) (vInb 0 (dblk (i 2).val))).trans (hy 0 _).symm
  have hv1 := (readAt_off arg5 f5 (off22_eq i) (k0_off22_inb i hc) (vInb 1 (dblk (i 2).val))).trans (hy 1 _).symm
  have hv2 := (readAt_off arg5 f5 (off23_eq i) (k0_off23_inb i hc) (vInb 2 (dblk (i 2).val))).trans (hy 2 _).symm
  have hv3 := (readAt_off arg5 f5 (off24_eq i) (k0_off24_inb i hc) (vInb 3 (dblk (i 2).val))).trans (hy 3 _).symm
  have ht1 : body_neg.sl.v1 c arg7 f7 = x.tri := (shapeCast_self _ _).trans ((View.readAt_full arg7.view f7 _).trans ht)
  have hq0 : body_neg.sl.v14 c arg3 f3 = x.q 0 := hq 0
  have hq1 : body_neg.sl.v38 c arg3 f3 = x.q 1 := hq 1
  have hq2 : body_neg.sl.v62 c arg3 f3 = x.q 2 := hq 2
  have hq3 : body_neg.sl.v86 c arg3 f3 = x.q 3 := hq 3
  have hq4 : body_neg.sl.v110 c arg3 f3 = x.q 4 := hq 4
  have hq5 : body_neg.sl.v134 c arg3 f3 = x.q 5 := hq 5
  have hq6 : body_neg.sl.v158 c arg3 f3 = x.q 6 := hq 6
  have hq7 : body_neg.sl.v182 c arg3 f3 = x.q 7 := hq 7
  have hm0 : body_neg.sl.v22 c arg3 f3 arg6 f6 = x.zm 0 := (zm_val 0 _ (View.readAt_full arg6.view f6 _)).trans (hm 0)
  have hm1 : body_neg.sl.v46 c arg3 f3 arg6 f6 = x.zm 1 := (zm_val 1 _ (View.readAt_full arg6.view f6 _)).trans (hm 1)
  have hm2 : body_neg.sl.v70 c arg3 f3 arg6 f6 = x.zm 2 := (zm_val 2 _ (View.readAt_full arg6.view f6 _)).trans (hm 2)
  have hm3 : body_neg.sl.v94 c arg3 f3 arg6 f6 = x.zm 3 := (zm_val 3 _ (View.readAt_full arg6.view f6 _)).trans (hm 3)
  have hm4 : body_neg.sl.v118 c arg3 f3 arg6 f6 = x.zm 4 := (zm_val 4 _ (View.readAt_full arg6.view f6 _)).trans (hm 4)
  have hm5 : body_neg.sl.v142 c arg3 f3 arg6 f6 = x.zm 5 := (zm_val 5 _ (View.readAt_full arg6.view f6 _)).trans (hm 5)
  have hm6 : body_neg.sl.v166 c arg3 f3 arg6 f6 = x.zm 6 := (zm_val 6 _ (View.readAt_full arg6.view f6 _)).trans (hm 6)
  have hm7 : body_neg.sl.v190 c arg3 f3 arg6 f6 = x.zm 7 := (zm_val 7 _ (View.readAt_full arg6.view f6 _)).trans (hm 7)
  have z0 : (Memref.whole cc0_scratch0).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch0).view hz inb_S1x256_S1x256_0_0 _
  have z1 : (Memref.whole cc0_scratch1).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch1).view hz inb_S1x256_S1x256_0_0 _
  have z2 : (Memref.whole cc0_scratch2).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch2).view hz inb_S1x256_S1x256_0_0 _
  have z3 : (Memref.whole cc0_scratch3).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch3).view hz inb_S1x256_S1x256_0_0 _
  have z4 : (Memref.whole cc0_scratch4).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch4).view hz inb_S1x256_S1x256_0_0 _
  have z5 : (Memref.whole cc0_scratch5).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch5).view hz inb_S1x256_S1x256_0_0 _
  have z6 : (Memref.whole cc0_scratch6).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch6).view hz inb_S1x256_S1x256_0_0 _
  have z7 : (Memref.whole cc0_scratch7).view.readCov (Val := Elt F) [⟨Rect.unit (s := S1x256) ![0, 0] S1x256.size inb_S1x256_S1x256_0_0, k0_pay185⟩] (Rect.unit (s := S1x256) ![0, 0] S1x256.size inb_S1x256_S1x256_0_0).toLoadRect = (k0_pay185 : Vec F S1x256 .f32) := View.readCov_unit_zero (Memref.whole cc0_scratch7).view hz inb_S1x256_S1x256_0_0 _
  have hw : body_neg.sl.v587 c i arg3 f3 arg4 f4 arg6 f6 arg7 f7 hc = worstOf (x.enter (i 2).val).run x.zm := by
    rw [Pt.enter, if_pos hi0]
    have e1 := fin4 (f := fun p => x.kb p (dblk (i 2).val)) hk0 hk1 hk2 hk3
    have e3 := fin8 (f := fun _ => (k0_pay185 : Vec F S1x256 .f32)) z0 z1 z2 z3 z4 z5 z6 z7
    have e5 := fin8 (f := x.q) hq0 hq1 hq2 hq3 hq4 hq5 hq6 hq7
    have e6 := fin8 (f := x.zm) hm0 hm1 hm2 hm3 hm4 hm5 hm6 hm7
    have e4 := worst_diag x (dblk (i 2).val) _ _ _ _ _ e5 ht1 e6 e1 e3
    exact e4
  rw [ht1, hq0, hm0, hq1, hm1, hq2, hm2, hq3, hm3, hq4, hm4, hq5, hm5, hq6, hm6, hq7, hm7, hw]
  have g0 : (Memref.whole cc0_scratch0).view.writes (Elt F) (s.run 0) (body_neg.sl.R0_2 c i arg3 f3 arg4 f4 arg7 f7 hc) = (x.diag (dblk (i 2).val) zero).run 0 := ((whole_writes cc0_scratch0 _ inb_S1x256_S1x256_0_0 _ _).trans (run_diag hq0 ht1 hk0 (View.readCov_unit_zero (Memref.whole cc0_scratch0).view hz inb_S1x256_S1x256_0_0 _)))
  have g1 : (Memref.whole cc0_scratch1).view.writes (Elt F) (s.run 1) (body_neg.sl.R1_2 c i arg3 f3 arg4 f4 arg7 f7 hc) = (x.diag (dblk (i 2).val) zero).run 1 := ((whole_writes cc0_scratch1 _ inb_S1x256_S1x256_0_0 _ _).trans (run_diag hq1 ht1 hk0 (View.readCov_unit_zero (Memref.whole cc0_scratch1).view hz inb_S1x256_S1x256_0_0 _)))
  have g2 : (Memref.whole cc0_scratch2).view.writes (Elt F) (s.run 2) (body_neg.sl.R2_2 c i arg3 f3 arg4 f4 arg7 f7 hc) = (x.diag (dblk (i 2).val) zero).run 2 := ((whole_writes cc0_scratch2 _ inb_S1x256_S1x256_0_0 _ _).trans (run_diag hq2 ht1 hk1 (View.readCov_unit_zero (Memref.whole cc0_scratch2).view hz inb_S1x256_S1x256_0_0 _)))
  have g3 : (Memref.whole cc0_scratch3).view.writes (Elt F) (s.run 3) (body_neg.sl.R3_2 c i arg3 f3 arg4 f4 arg7 f7 hc) = (x.diag (dblk (i 2).val) zero).run 3 := ((whole_writes cc0_scratch3 _ inb_S1x256_S1x256_0_0 _ _).trans (run_diag hq3 ht1 hk1 (View.readCov_unit_zero (Memref.whole cc0_scratch3).view hz inb_S1x256_S1x256_0_0 _)))
  have g4 : (Memref.whole cc0_scratch4).view.writes (Elt F) (s.run 4) (body_neg.sl.R4_2 c i arg3 f3 arg4 f4 arg7 f7 hc) = (x.diag (dblk (i 2).val) zero).run 4 := ((whole_writes cc0_scratch4 _ inb_S1x256_S1x256_0_0 _ _).trans (run_diag hq4 ht1 hk2 (View.readCov_unit_zero (Memref.whole cc0_scratch4).view hz inb_S1x256_S1x256_0_0 _)))
  have g5 : (Memref.whole cc0_scratch5).view.writes (Elt F) (s.run 5) (body_neg.sl.R5_2 c i arg3 f3 arg4 f4 arg7 f7 hc) = (x.diag (dblk (i 2).val) zero).run 5 := ((whole_writes cc0_scratch5 _ inb_S1x256_S1x256_0_0 _ _).trans (run_diag hq5 ht1 hk2 (View.readCov_unit_zero (Memref.whole cc0_scratch5).view hz inb_S1x256_S1x256_0_0 _)))
  have g6 : (Memref.whole cc0_scratch6).view.writes (Elt F) (s.run 6) (body_neg.sl.R6_2 c i arg3 f3 arg4 f4 arg7 f7 hc) = (x.diag (dblk (i 2).val) zero).run 6 := ((whole_writes cc0_scratch6 _ inb_S1x256_S1x256_0_0 _ _).trans (run_diag hq6 ht1 hk3 (View.readCov_unit_zero (Memref.whole cc0_scratch6).view hz inb_S1x256_S1x256_0_0 _)))
  have g7 : (Memref.whole cc0_scratch7).view.writes (Elt F) (s.run 7) (body_neg.sl.R7_2 c i arg3 f3 arg4 f4 arg7 f7 hc) = (x.diag (dblk (i 2).val) zero).run 7 := ((whole_writes cc0_scratch7 _ inb_S1x256_S1x256_0_0 _ _).trans (run_diag hq7 ht1 hk3 (View.readCov_unit_zero (Memref.whole cc0_scratch7).view hz inb_S1x256_S1x256_0_0 _)))
  have g8 : (Memref.whole cc0_scratch8).view.writes (Elt F) (s.acc 0) (body_neg.sl.A0_2 c i arg3 f3 arg4 f4 arg5 f5 arg7 f7 hc) = (x.diag (dblk (i 2).val) zero).acc 0 := ((whole_writes cc0_scratch8 _ inb_S128x256_S128x256_0_0 _ _).trans (acc_diag hq0 ht1 hk0 (View.readCov_unit_zero (Memref.whole cc0_scratch0).view hz inb_S1x256_S1x256_0_0 _) (View.readCov_unit_zero (Memref.whole cc0_scratch8).view hz inb_S128x256_S128x256_0_0 _) hv0))
  have g9 : (Memref.whole cc0_scratch9).view.writes (Elt F) (s.acc 1) (body_neg.sl.A1_2 c i arg3 f3 arg4 f4 arg5 f5 arg7 f7 hc) = (x.diag (dblk (i 2).val) zero).acc 1 := ((whole_writes cc0_scratch9 _ inb_S128x256_S128x256_0_0 _ _).trans (acc_diag hq1 ht1 hk0 (View.readCov_unit_zero (Memref.whole cc0_scratch1).view hz inb_S1x256_S1x256_0_0 _) (View.readCov_unit_zero (Memref.whole cc0_scratch9).view hz inb_S128x256_S128x256_0_0 _) hv0))
  have g10 : (Memref.whole cc0_scratch10).view.writes (Elt F) (s.acc 2) (body_neg.sl.A2_2 c i arg3 f3 arg4 f4 arg5 f5 arg7 f7 hc) = (x.diag (dblk (i 2).val) zero).acc 2 := ((whole_writes cc0_scratch10 _ inb_S128x256_S128x256_0_0 _ _).trans (acc_diag hq2 ht1 hk1 (View.readCov_unit_zero (Memref.whole cc0_scratch2).view hz inb_S1x256_S1x256_0_0 _) (View.readCov_unit_zero (Memref.whole cc0_scratch10).view hz inb_S128x256_S128x256_0_0 _) hv1))
  have g11 : (Memref.whole cc0_scratch11).view.writes (Elt F) (s.acc 3) (body_neg.sl.A3_2 c i arg3 f3 arg4 f4 arg5 f5 arg7 f7 hc) = (x.diag (dblk (i 2).val) zero).acc 3 := ((whole_writes cc0_scratch11 _ inb_S128x256_S128x256_0_0 _ _).trans (acc_diag hq3 ht1 hk1 (View.readCov_unit_zero (Memref.whole cc0_scratch3).view hz inb_S1x256_S1x256_0_0 _) (View.readCov_unit_zero (Memref.whole cc0_scratch11).view hz inb_S128x256_S128x256_0_0 _) hv1))
  have g12 : (Memref.whole cc0_scratch12).view.writes (Elt F) (s.acc 4) (⟨Rect.unit (s := S128x256) ![0, 0] S128x256.size inb_S128x256_S128x256_0_0, body_neg.sl.v556 c i arg3 f3 arg4 f4 arg5 f5 arg7 f7 hc⟩ :: body_neg.sl.A4_1) = (x.diag (dblk (i 2).val) zero).acc 4 := ((whole_writes cc0_scratch12 _ inb_S128x256_S128x256_0_0 _ _).trans (acc_diag hq4 ht1 hk2 (View.readCov_unit_zero (Memref.whole cc0_scratch4).view hz inb_S1x256_S1x256_0_0 _) (View.readCov_unit_zero (Memref.whole cc0_scratch12).view hz inb_S128x256_S128x256_0_0 _) hv2))
  have g13 : (Memref.whole cc0_scratch13).view.writes (Elt F) (s.acc 5) (⟨Rect.unit (s := S128x256) ![0, 0] S128x256.size inb_S128x256_S128x256_0_0, body_neg.sl.v565 c i arg3 f3 arg4 f4 arg5 f5 arg7 f7 hc⟩ :: body_neg.sl.A5_1) = (x.diag (dblk (i 2).val) zero).acc 5 := ((whole_writes cc0_scratch13 _ inb_S128x256_S128x256_0_0 _ _).trans (acc_diag hq5 ht1 hk2 (View.readCov_unit_zero (Memref.whole cc0_scratch5).view hz inb_S1x256_S1x256_0_0 _) (View.readCov_unit_zero (Memref.whole cc0_scratch13).view hz inb_S128x256_S128x256_0_0 _) hv2))
  have g14 : (Memref.whole cc0_scratch14).view.writes (Elt F) (s.acc 6) (⟨Rect.unit (s := S128x256) ![0, 0] S128x256.size inb_S128x256_S128x256_0_0, body_neg.sl.v574 c i arg3 f3 arg4 f4 arg5 f5 arg7 f7 hc⟩ :: body_neg.sl.A6_1) = (x.diag (dblk (i 2).val) zero).acc 6 := ((whole_writes cc0_scratch14 _ inb_S128x256_S128x256_0_0 _ _).trans (acc_diag hq6 ht1 hk3 (View.readCov_unit_zero (Memref.whole cc0_scratch6).view hz inb_S1x256_S1x256_0_0 _) (View.readCov_unit_zero (Memref.whole cc0_scratch14).view hz inb_S128x256_S128x256_0_0 _) hv3))
  have g15 : (Memref.whole cc0_scratch15).view.writes (Elt F) (s.acc 7) (⟨Rect.unit (s := S128x256) ![0, 0] S128x256.size inb_S128x256_S128x256_0_0, body_neg.sl.v583 c i arg3 f3 arg4 f4 arg5 f5 arg7 f7 hc⟩ :: body_neg.sl.A7_1) = (x.diag (dblk (i 2).val) zero).acc 7 := ((whole_writes cc0_scratch15 _ inb_S128x256_S128x256_0_0 _ _).trans (acc_diag hq7 ht1 hk3 (View.readCov_unit_zero (Memref.whole cc0_scratch7).view hz inb_S1x256_S1x256_0_0 _) (View.readCov_unit_zero (Memref.whole cc0_scratch15).view hz inb_S128x256_S128x256_0_0 _) hv3))
  iapply (wp_call_spec 𝒱₀ (c : Thread nD τ) none Set.univ
    (spec c i arg4 arg5 f4 f5 x ((i 2).val - 1) 1 (worstOf (x.enter (i 2).val).run x.zm) (x.enter (i 2).val)) ((i 2).val - 1)
    (fun u hu => nomatch hu) (spec_le c i arg4 harg4 arg5 harg5 f4 f5 x hx hy Set.univ ((i 2).val - 1) 1 le_rfl rfl (by decide) _ _))
  rw [spec_apply]; unfold held heldSt
  rw [Pt.enter, if_pos hi0]
  isplitl [H4 H5 R0 R1 R2 R3 R4 R5 R6 R7 A0 A1 A2 A3 A4 A5 A6 A7]
  · isplitl [H4]; · iexact H4
    isplitl [H5]; · iexact H5
    isplitl [R0]
    · iapply (held_of_eq g0)
      iexact R0
    isplitl [R1]
    · iapply (held_of_eq g1)
      iexact R1
    isplitl [R2]
    · iapply (held_of_eq g2)
      iexact R2
    isplitl [R3]
    · iapply (held_of_eq g3)
      iexact R3
    isplitl [R4]
    · iapply (held_of_eq g4)
      iexact R4
    isplitl [R5]
    · iapply (held_of_eq g5)
      iexact R5
    isplitl [R6]
    · iapply (held_of_eq g6)
      iexact R6
    isplitl [R7]
    · iapply (held_of_eq g7)
      iexact R7
    isplitl [A0]
    · iapply (held_of_eq g8)
      iexact A0
    isplitl [A1]
    · iapply (held_of_eq g9)
      iexact A1
    isplitl [A2]
    · iapply (held_of_eq g10)
      iexact A2
    isplitl [A3]
    · iapply (held_of_eq g11)
      iexact A3
    isplitl [A4]
    · iapply (held_of_eq g12)
      iexact A4
    isplitl [A5]
    · iapply (held_of_eq g13)
      iexact A5
    isplitl [A6]
    · iapply (held_of_eq g14)
      iexact A6
    iapply (held_of_eq g15)
    iexact A7
  iintro %r ⟨H4, H5, R0, R1, R2, R3, R4, R5, R6, R7, A0, A1, A2, A3, A4, A5, A6, A7⟩
  have hlast : x.walk (i 2).val ((i 2).val - 1) 1 (worstOf (x.diag (dblk (i 2).val) zero).run x.zm) (x.diag (dblk (i 2).val) zero) = x.last (i 2).val := by rw [Pt.last, Pt.enter, if_pos hi0]
  rw [hlast]
  sl_exec_parts
  rw [wp_ret]; imodintro
  iapply Hk
  iexists _
  isplitr
  rotate_left
  · isplitl [H3]; · iexact H3
    isplitl [H4]; · iexact H4
    isplitl [H5]; · iexact H5
    isplitl [H6]; · iexact H6
    isplitl [H7]; · iexact H7
    isplitl [H8]; · iexact H8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ipureintro
  exact out_val arg8 f8 (x.last (i 2).val) ![(Memref.whole cc0_scratch8).view.readAt (Elt F) (Rect.unit (s := S128x256) ![0, 0] S128x256.size inb_S128x256_S128x256_0_0).toLoadRect ((x.last (i 2).val).acc 0), (Memref.whole cc0_scratch9).view.readAt (Elt F) (Rect.unit (s := S128x256) ![0, 0] S128x256.size inb_S128x256_S128x256_0_0).toLoadRect ((x.last (i 2).val).acc 1), (Memref.whole cc0_scratch10).view.readAt (Elt F) (Rect.unit (s := S128x256) ![0, 0] S128x256.size inb_S128x256_S128x256_0_0).toLoadRect ((x.last (i 2).val).acc 2), (Memref.whole cc0_scratch11).view.readAt (Elt F) (Rect.unit (s := S128x256) ![0, 0] S128x256.size inb_S128x256_S128x256_0_0).toLoadRect ((x.last (i 2).val).acc 3), (Memref.whole cc0_scratch12).view.readAt (Elt F) (Rect.unit (s := S128x256) ![0, 0] S128x256.size inb_S128x256_S128x256_0_0).toLoadRect ((x.last (i 2).val).acc 4), (Memref.whole cc0_scratch13).view.readAt (Elt F) (Rect.unit (s := S128x256) ![0, 0] S128x256.size inb_S128x256_S128x256_0_0).toLoadRect ((x.last (i 2).val).acc 5), (Memref.whole cc0_scratch14).view.readAt (Elt F) (Rect.unit (s := S128x256) ![0, 0] S128x256.size inb_S128x256_S128x256_0_0).toLoadRect ((x.last (i 2).val).acc 6), (Memref.whole cc0_scratch15).view.readAt (Elt F) (Rect.unit (s := S128x256) ![0, 0] S128x256.size inb_S128x256_S128x256_0_0).toLoadRect ((x.last (i 2).val).acc 7)]
    (fin8 (Memref.readAt_unit_zero (Elt F) cc0_scratch8 hz inb_S128x256_S128x256_0_0 _) (Memref.readAt_unit_zero (Elt F) cc0_scratch9 hz inb_S128x256_S128x256_0_0 _) (Memref.readAt_unit_zero (Elt F) cc0_scratch10 hz inb_S128x256_S128x256_0_0 _) (Memref.readAt_unit_zero (Elt F) cc0_scratch11 hz inb_S128x256_S128x256_0_0 _) (Memref.readAt_unit_zero (Elt F) cc0_scratch12 hz inb_S128x256_S128x256_0_0 _) (Memref.readAt_unit_zero (Elt F) cc0_scratch13 hz inb_S128x256_S128x256_0_0 _) (Memref.readAt_unit_zero (Elt F) cc0_scratch14 hz inb_S128x256_S128x256_0_0 _) (Memref.readAt_unit_zero (Elt F) cc0_scratch15 hz inb_S128x256_S128x256_0_0 _))

end Cert.Proof.SB
end
-- ==== Proof.SB.Launch.lean ====
/-
  The launch: the kernel's one pipeline runs from any memory, and each block of the result array holds what the body
  leaves at its grid point.
-/
module

public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import proofs.«01_k».proof.Proof.SB.Body

@[expose] public section

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR nD τ) ℕ

variable (m : (ℓ : Loc nD τ sig) → Buf (Elt F) ℓ) (g : Dev nD → PrngReg)

/-- A core's buffers when the pipeline starts: after the host operations. -/
def V (c : Dev nD) (b : Ref sig .tc) : Buf (Elt F) ((c : Thread nD τ).loc b) := StableHlo.after hostOps0 (fun b => m (c, b)) b

/-- An operand's block at grid point `t`. -/
def qBlk (c : Dev nD) (t : Fin grid0.N) : Vec F S512x256 .bf16 := (win0_0.blk t).view.read (Elt F) (V m c main_arg0)
def kBlk (c : Dev nD) (t : Fin grid0.N) : Vec F S1x8192x512 .bf16 := (win0_1.blk t).view.read (Elt F) (V m c main_v7)
def vBlk (c : Dev nD) (t : Fin grid0.N) : Vec F S32x512x256 .bf16 := (win0_2.blk t).view.read (Elt F) (V m c main_arg2)
def aBlk (c : Dev nD) (t : Fin grid0.N) : Vec F S1x1x512 .f32 := (win0_3.blk t).view.read (Elt F) (V m c main_arg3)
def tBlk (c : Dev nD) (t : Fin grid0.N) : Vec F S256x256 .bf16 := (win0_4.blk t).view.read (Elt F) (V m c main_v6)

/-- What the body reads at grid point `t`, -/
def pt (c : Dev nD) (t : Fin grid0.N) : Pt F := point (qBlk m c t) (kBlk m c t) (vBlk m c t) (aBlk m c t) (tBlk m c t)

/-- and the result's block that it leaves. -/
def oBlk (c : Dev nD) (t : Fin grid0.N) : Vec F S256x512 .bf16 := outOf ((pt m c t).last ((grid0.coords t) 2).val)

/-- The pipeline's proof data. -/
def dats (_ : Fin 1) (c : Dev nD) : Dat τ (Elt F) Unit ℕ (UR nD τ) ℕ (cfg0 (F := F)) c where
  A w := V m c (Pipeline.arrRef spec0 w)
  after w t := match w with
    | ⟨0, _⟩ => qBlk m c t
    | ⟨1, _⟩ => kBlk m c t
    | ⟨2, _⟩ => vBlk m c t
    | ⟨3, _⟩ => aBlk m c t
    | ⟨4, _⟩ => tBlk m c t
    | ⟨5, _⟩ => oBlk m c t
  Φ _ := Pipeline.ΦA spec0 c
  q _ := fullShare
  owed _ := 0

theorem before_0 (c : Dev nD) (t : Fin grid0.N) (d) : (dats m 0 c).before (0 : Fin 6) t d = qBlk m c t :=
  (dats m 0 c).before_in_eq_fetched (0 : Fin 6) rfl (fun _ => rfl) (fun _ _ _ => rfl) (fun _ => rfl) t d
theorem before_1 (c : Dev nD) (t : Fin grid0.N) (d) : (dats m 0 c).before (1 : Fin 6) t d = kBlk m c t :=
  (dats m 0 c).before_in_eq_fetched (1 : Fin 6) rfl (fun _ => rfl) (fun _ _ _ => rfl) (fun _ => rfl) t d
theorem before_2 (c : Dev nD) (t : Fin grid0.N) (d) : (dats m 0 c).before (2 : Fin 6) t d = vBlk m c t :=
  (dats m 0 c).before_in_eq_fetched (2 : Fin 6) rfl (fun _ => rfl) (fun _ _ _ => rfl) (fun _ => rfl) t d
theorem before_3 (c : Dev nD) (t : Fin grid0.N) (d) : (dats m 0 c).before (3 : Fin 6) t d = aBlk m c t :=
  (dats m 0 c).before_in_eq_fetched (3 : Fin 6) rfl (fun _ => rfl) (fun _ _ _ => rfl) (fun _ => rfl) t d
theorem before_4 (c : Dev nD) (t : Fin grid0.N) (d) : (dats m 0 c).before (4 : Fin 6) t d = tBlk m c t :=
  (dats m 0 c).before_in_eq_fetched (4 : Fin 6) rfl (fun _ => rfl) (fun _ _ _ => rfl) (fun _ => rfl) t d

/-- The body's theorem at any grid point. -/
theorem body_any (c : Dev nD) (i : grid0.Coords)
    (arg3 : Memref sig .tc .vmem S512x256 .bf16) (harg3 : arg3.IsWhole) (f3 : Buf (Elt F) (arg3.view.loc (c : Thread nD τ)))
    (arg4 : Memref sig .tc .vmem S1x8192x512 .bf16) (harg4 : arg4.IsWhole) (f4 : Buf (Elt F) (arg4.view.loc (c : Thread nD τ)))
    (arg5 : Memref sig .tc .vmem S32x512x256 .bf16) (harg5 : arg5.IsWhole) (f5 : Buf (Elt F) (arg5.view.loc (c : Thread nD τ)))
    (arg6 : Memref sig .tc .vmem S1x1x512 .f32) (harg6 : arg6.IsWhole) (f6 : Buf (Elt F) (arg6.view.loc (c : Thread nD τ)))
    (arg7 : Memref sig .tc .vmem S256x256 .bf16) (harg7 : arg7.IsWhole) (f7 : Buf (Elt F) (arg7.view.loc (c : Thread nD τ)))
    (arg8 : Memref sig .tc .vmem S256x512 .bf16) (harg8 : arg8.IsWhole) (f8 : Buf (Elt F) (arg8.view.loc (c : Thread nD τ)))
    (s : St F) (x : Pt F)
    (hQ : x = point (arg3.view.read (Elt F) f3) (arg4.view.read (Elt F) f4) (arg5.view.read (Elt F) f5) (arg6.view.read (Elt F) f6) (arg7.view.read (Elt F) f7))
    (K : PUnit → sProp 𝕄) :
    iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ heldSt c s) ∗
      (iprop(∃ f8', ⌜arg8.view.read (Elt F) f8' = outOf (x.last (i 2).val)⌝ ∗ ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ heldSt c (x.last (i 2).val))) -∗ K ⟨⟩))
    ⊢ wp frame (wpE (defs₀ (F := F)) 𝒱₀ (c : Thread nD τ) none) Set.univ
        (cc0_stick_breaking_attention i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _)) K := by
  by_cases hc : k0_cond1 i = 1#1
  · exact body_pos c i arg3 harg3 f3 arg4 harg4 f4 arg5 harg5 f5 arg6 harg6 f6 arg7 harg7 f7 arg8 harg8 f8 s x hQ hc K
  · exact body_neg c i arg3 harg3 f3 arg4 harg4 f4 arg5 harg5 f5 arg6 harg6 f6 arg7 harg7 f7 arg8 harg8 f8 s x hQ hc K

/-- The scratch buffers at anything are the scratch buffers at some state. -/
theorem rest_held (c : Dev nD) :
    (Pipeline.scopedRest (Ix := Unit) (Name := ℕ) (U := UR nD τ) (Lvl := ℕ) (Val := Elt F) spec0 c : sProp 𝕄) ⊢ iprop(∃ s : St F, heldSt c s) := by
  rw [scopedRest0_eq]
  iintro ⟨⟨%r0, H0⟩, ⟨%r1, H1⟩, ⟨%r2, H2⟩, ⟨%r3, H3⟩, ⟨%r4, H4⟩, ⟨%r5, H5⟩, ⟨%r6, H6⟩, ⟨%r7, H7⟩, ⟨%r8, H8⟩, ⟨%r9, H9⟩, ⟨%r10, H10⟩, ⟨%r11, H11⟩, ⟨%r12, H12⟩, ⟨%r13, H13⟩, ⟨%r14, H14⟩, ⟨%r15, H15⟩⟩
  iexists (St.mk (fun h => match h with | 0 => r0 | 1 => r1 | 2 => r2 | 3 => r3 | 4 => r4 | 5 => r5 | 6 => r6 | 7 => r7) (fun h => match h with | 0 => r8 | 1 => r9 | 2 => r10 | 3 => r11 | 4 => r12 | 5 => r13 | 6 => r14 | 7 => r15) : St F)
  unfold heldSt
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem held_rest (c : Dev nD) (s : St F) :
    (heldSt c s : sProp 𝕄) ⊢ Pipeline.scopedRest (Ix := Unit) (Name := ℕ) (U := UR nD τ) (Lvl := ℕ) (Val := Elt F) spec0 c := by
  rw [scopedRest0_eq]
  unfold heldSt
  iintro ⟨H0, H1, H2, H3, H4, H5, H6, H7, H8, H9, H10, H11, H12, H13, H14, H15⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

theorem point_congr {Q Q' : Vec F S512x256 .bf16} {K K' : Vec F S1x8192x512 .bf16} {U U' : Vec F S32x512x256 .bf16} {a a' : Vec F S1x1x512 .f32}
    {T T' : Vec F S256x256 .bf16} (h1 : Q = Q') (h2 : K = K') (h3 : U = U') (h4 : a = a') (h5 : T = T') : point Q K U a T = point Q' K' U' a' T' := by
  rw [h1, h2, h3, h4, h5]

/-- What the body is called with at grid point `t`, and what it returns. -/
def bodyPre (c : Dev nD) (t : Fin grid0.N) : sProp 𝕄 :=
  iprop((dats m 0 c).Φ t.castSucc ∗ (dats m 0 c).owesAt () t.castSucc
    ∗ (∃ d, owns (c : Thread nD τ) (st0_0 (F := F) t) fullShare ((dats m 0 c).before (0 : Fin 6) t d)) ∗ (∃ d, owns (c : Thread nD τ) (st0_1 (F := F) t) fullShare ((dats m 0 c).before (1 : Fin 6) t d)) ∗ (∃ d, owns (c : Thread nD τ) (st0_2 (F := F) t) fullShare ((dats m 0 c).before (2 : Fin 6) t d)) ∗ (∃ d, owns (c : Thread nD τ) (st0_3 (F := F) t) fullShare ((dats m 0 c).before (3 : Fin 6) t d)) ∗ (∃ d, owns (c : Thread nD τ) (st0_4 (F := F) t) fullShare ((dats m 0 c).before (4 : Fin 6) t d)) ∗ (∃ d, owns (c : Thread nD τ) (st0_5 (F := F) t) fullShare ((dats m 0 c).before (5 : Fin 6) t d)))
def bodyPost (c : Dev nD) (t : Fin grid0.N) : sProp 𝕄 :=
  iprop((dats m 0 c).Φ t.succ ∗ (dats m 0 c).owesAt () t.succ
    ∗ owns (c : Thread nD τ) (st0_0 (F := F) t) fullShare (qBlk m c t) ∗ owns (c : Thread nD τ) (st0_1 (F := F) t) fullShare (kBlk m c t) ∗ owns (c : Thread nD τ) (st0_2 (F := F) t) fullShare (vBlk m c t) ∗ owns (c : Thread nD τ) (st0_3 (F := F) t) fullShare (aBlk m c t) ∗ owns (c : Thread nD τ) (st0_4 (F := F) t) fullShare (tBlk m c t) ∗ owns (c : Thread nD τ) (st0_5 (F := F) t) fullShare (oBlk m c t))

theorem sound_body (c : Dev nD) (t : Fin grid0.N) :
    bodyPre m c t ⊢ wp frame (wpE (defs₀ (F := F)) 𝒱₀ (c : Thread nD τ) none) Set.univ (bodyAt0 (F := F) t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  simp only [before_0, before_1, before_2, before_3, before_4]
  unfold owns
  iintro ⟨⟨HS, Hg⟩, HO, ⟨%d0, %f3, %e3, H3⟩, ⟨%d1, %f4, %e4, H4⟩, ⟨%d2, %f5, %e5, H5⟩, ⟨%d3, %f6, %e6, H6⟩, ⟨%d4, %f7, %e7, H7⟩, ⟨%d5, %f8, -, H8⟩⟩
  ihave HS := (rest_held (F := F) c) $$ HS
  icases HS with ⟨%s, HS⟩
  iapply (body_any c (grid0.coords t) (win0_0.stage ((cfg0 (F := F)).slots t 0)) (hstage0_0 (((cfg0 (F := F)).slots t 0).cast nbuf0_0)) f3 (win0_1.stage ((cfg0 (F := F)).slots t 1)) (hstage0_1 (((cfg0 (F := F)).slots t 1).cast nbuf0_1)) f4 (win0_2.stage ((cfg0 (F := F)).slots t 2)) (hstage0_2 (((cfg0 (F := F)).slots t 2).cast nbuf0_2)) f5 (win0_3.stage ((cfg0 (F := F)).slots t 3)) (hstage0_3 (((cfg0 (F := F)).slots t 3).cast nbuf0_3)) f6 (win0_4.stage ((cfg0 (F := F)).slots t 4)) (hstage0_4 (((cfg0 (F := F)).slots t 4).cast nbuf0_4)) f7 (win0_5.stage ((cfg0 (F := F)).slots t 5)) (hstage0_5 (((cfg0 (F := F)).slots t 5).cast nbuf0_5)) f8 s (pt m c t) (point_congr e3 e4 e5 e6 e7).symm _)
  isplitl [H3 H4 H5 H6 H7 H8 HS]
  · isplitl [H3]; · iexact H3
    isplitl [H4]; · iexact H4
    isplitl [H5]; · iexact H5
    isplitl [H6]; · iexact H6
    isplitl [H7]; · iexact H7
    isplitl [H8]; · iexact H8
    iexact HS
  iintro ⟨%f8', %e8, H3, H4, H5, H6, H7, H8, HS⟩
  isplitl [HS Hg]
  · isplitl [HS]
    · iapply (held_rest (F := F) c _) $$ HS
    iexact Hg
  isplitl [HO]; · iexact HO
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _; isplitr; swap; · iexact H8
  ipureintro; exact e8

/-- The body table's row at the point is the body as `bodyAt0` spells it. -/
theorem defs₀_row (t : Fin grid0.N) : defs₀ (F := F) .tc (cfg0 (F := F)).body ((cfg0 (F := F)).bodyArgs t ((cfg0 (F := F)).slots t)) = bodyAt0 (F := F) t := by
  unfold defs₀; rw [Defs.onTc_tc]

set_option maxRecDepth 8192 in
theorem body_obligation (c : Dev nD) : BodyObligation (dats m 0 c) (defs₀ (F := F)) 𝒱₀ () Set.univ := fun t => by
  rw [bigSep_W0, bigSep_W0, defs₀_row]
  exact triple_restated (sound_body m c t) rfl .rfl fun _ => .rfl

theorem fresh : (hostOps0 : List (HloOp τ sig (Elt F))).Forall fun op => op.fresh = ∅ := ⟨rfl, rfl, rfl, rfl, rfl, rfl, rfl, rfl⟩

set_option backward.isDefEq.respectTransparency.types false in
/-- Every execution ends, with each array as the pipeline leaves it and every counter at zero. -/
theorem run_main :
    θ_run defs (onTc (τ := τ) (main (F := F))) (s₀ m g)
      (fun r => Pipeline.FramePost cfgs (dats m) 0 (V m) r ∧ r.2.sem = fun _ => 0) :=
  Pipeline.θ_run_frame cfgs (dats m) (0 : Fin 1) launch0 defs₀ 𝒱₀ m g main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub fresh main_chain) (hA := fun _ _ => rfl)
    (hΦ := fun _ _ => rfl) (Q' := _) (hQ' := fun _ h => h)

end Cert.Proof.SB

end
-- ==== Proof.SB.Frame.lean ====
/-
  What the launch leaves of the arguments and the counters.
-/
module

public import proofs.«01_k».proof.Proof.SB.Launch

@[expose] public section

noncomputable section

namespace Cert.Proof.SB

open Cert.KernelIdeal Cert.KernelIdeal.Gen

open Idealize.ShloMosaic
open Idealize.ShloMosaic.TcCoe
open Idealize.SL.Sem
open Idealize.ShloMosaic.Pipeline (Dat)

variable {F : FTy → Type} [FloatOps F] [Named F]

variable (m : (ℓ : Loc nD τ sig) → Buf (Elt F) ℓ) (g : Dev nD → PrngReg)

/-- No host operation writes an argument. -/
theorem V_arg0 (c : Dev nD) : V m c main_arg0 = m ((c.tc : Thread nD τ).loc main_arg0) := by unfold V; after_results_simp <;> rfl
theorem V_arg1 (c : Dev nD) : V m c main_arg1 = m ((c.tc : Thread nD τ).loc main_arg1) := by unfold V; after_results_simp <;> rfl
theorem V_arg2 (c : Dev nD) : V m c main_arg2 = m ((c.tc : Thread nD τ).loc main_arg2) := by unfold V; after_results_simp <;> rfl
theorem V_arg3 (c : Dev nD) : V m c main_arg3 = m ((c.tc : Thread nD τ).loc main_arg3) := by unfold V; after_results_simp <;> rfl

/-- The arguments end as they were, and the result array is what the pipeline leaves. -/
theorem kept {r} (h : Pipeline.FramePost (cfgs (F := F)) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans ((Dat.arrAt_in (dats m 0 c) 0 rfl _).trans (V_arg0 m c)),
   ((h c).2 main_arg1 (Pipeline.mem_restRefs_of (win := spec0) main_arg1 (by decide) (by decide))).trans (V_arg1 m c),
   ((h c).1 2).trans ((Dat.arrAt_in (dats m 0 c) 2 rfl _).trans (V_arg2 m c)),
   ((h c).1 3).trans ((Dat.arrAt_in (dats m 0 c) 3 rfl _).trans (V_arg3 m c))⟩

/-- The program runs, its arguments end unchanged and every counter at zero. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (run_main m g)

end Cert.Proof.SB

end
-- ==== Proof.SB.Weights.lean ====
/-
  Stick-breaking weights over the extended reals, for one query: the scores `z t` and values `v t` of the keys `t`, and
  the query's position `p`. A key strictly before the query leaves `exp (left (z t))` of the stick and takes the rest;
  its weight is what it takes of what the keys after it leave.
-/
module

public import Idealize.ShloMosaic.PureOps.Ideal

@[expose] public section

noncomputable section

namespace Cert.Proof.SB

open Idealize.ShloMosaic
open Finset

/-- The log of what a key with score `z` leaves of the stick, -/
def left (z : EReal) : EReal := 0 - (max z 0 + Ideal.log (1 + Ideal.exp (0 - max z (-z))))

/-- and of what it takes. -/
def took (z : EReal) : EReal := -(max (-z) 0 + Ideal.log (1 + Ideal.exp (-(max (-z) (-(-z))))))

theorem coe_max' (a b : ℝ) : ((max a b : ℝ) : EReal) = max (a : EReal) b := EReal.coe_strictMono.monotone.map_max

theorem log_one_add_exp (r : ℝ) : Ideal.log (1 + Ideal.exp (r : EReal)) = ((Real.log (1 + Real.exp r) : ℝ) : EReal) := by
  have h : (1 : EReal) + Ideal.exp (r : EReal) = ((1 + Real.exp r : ℝ) : EReal) := by rw [Ideal.exp_coe]; norm_cast
  rw [h]
  show (if 1 + Real.exp r ≤ 0 then ⊥ else (Real.log (1 + Real.exp r) : EReal)) = _
  rw [if_neg (by have := Real.exp_pos r; linarith)]

theorem log_one_add_exp_bot : Ideal.log (1 + Ideal.exp ⊥) = 0 := by
  rw [Ideal.exp_bot, add_zero]
  show Ideal.log ((1 : ℝ) : EReal) = 0
  show (if (1 : ℝ) ≤ 0 then ⊥ else (Real.log 1 : EReal)) = _
  rw [if_neg (by norm_num), Real.log_one]; rfl

theorem left_coe (r : ℝ) : left r = ((-(max r 0 + Real.log (1 + Real.exp (-max r (-r)))) : ℝ) : EReal) := by
  have e : (0 : EReal) - max (r : EReal) (-(r : EReal)) = ((-max r (-r) : ℝ) : EReal) := by
    rw [zero_sub, EReal.coe_neg, coe_max', EReal.coe_neg]
  rw [left, e, log_one_add_exp, zero_sub, EReal.coe_neg, EReal.coe_add, coe_max']; rfl

theorem left_top : left ⊤ = ⊥ := by
  have : (0 : EReal) - max ⊤ (-⊤) = ⊥ := by simp
  rw [left, this, log_one_add_exp_bot]; simp

theorem left_bot : left ⊥ = 0 := by
  have : (0 : EReal) - max ⊥ (-⊥) = ⊥ := by simp
  rw [left, this, log_one_add_exp_bot]; simp

theorem took_coe (r : ℝ) : took r = ((r + -(max r 0 + Real.log (1 + Real.exp (-max r (-r)))) : ℝ) : EReal) := by
  have e : -max (-(r : EReal)) (-(-(r : EReal))) = ((-max r (-r) : ℝ) : EReal) := by
    rw [neg_neg, max_comm, EReal.coe_neg, coe_max', EReal.coe_neg]
  have h : r + -(max r 0 + Real.log (1 + Real.exp (-max r (-r)))) = -(max (-r) 0 + Real.log (1 + Real.exp (-max r (-r)))) := by
    rcases le_total r 0 with h | h
    · rw [max_eq_right h, max_eq_left (neg_nonneg.2 h)]; ring
    · rw [max_eq_left h, max_eq_right (neg_nonpos.2 h)]; ring
  rw [took, e, log_one_add_exp, h, EReal.coe_neg, EReal.coe_add, coe_max', EReal.coe_neg]; rfl

theorem took_bot : took ⊥ = ⊥ := by
  have : -max (-(⊥ : EReal)) (-(-⊥)) = ⊥ := by simp
  rw [took, this, log_one_add_exp_bot]; simp

/-- No key leaves more than all of the stick. -/
theorem left_le (z : EReal) : left z ≤ 0 := by
  induction z with
  | bot => rw [left_bot]
  | top => rw [left_top]; exact bot_le
  | coe r =>
    rw [left_coe]
    have h1 : 0 ≤ Real.log (1 + Real.exp (-max r (-r))) := Real.log_nonneg (by have := Real.exp_pos (-max r (-r)); linarith)
    have h2 : 0 ≤ max r 0 := le_max_right _ _
    exact_mod_cast (by linarith : -(max r 0 + Real.log (1 + Real.exp (-max r (-r)))) ≤ 0)

/-- The two ways of writing a weight's log: what the key takes times what the keys after it leave, and the key's score
    times what it and the keys after it leave. -/
theorem took_add (z rest : EReal) : took z + ((left z + rest) - left z) = z + (left z + rest) := by
  induction z with
  | bot => rw [took_bot, EReal.bot_add, EReal.bot_add]
  | top => rw [left_top, EReal.bot_add, EReal.add_bot, sub_eq_add_neg, EReal.bot_add, EReal.add_bot]
  | coe r =>
    rw [took_coe, left_coe]
    generalize -(max r 0 + Real.log (1 + Real.exp (-max r (-r)))) = l
    have : ((l : EReal) + rest) - l = rest := by
      rw [add_comm]; exact EReal.add_sub_cancel_right
    rw [this, ← add_assoc, EReal.coe_add]

section Query

variable (z v : ℕ → EReal) (p : ℕ)

/-- What key `t` leaves, where it is before the query, -/
def lm (t : ℕ) : EReal := if t < p then left (z t) else 0

/-- what the keys from `a` up to `b` leave, -/
def mass (a b : ℕ) : EReal := ∑ t ∈ Ico a b, lm z p t

/-- the weight of key `t` when the keys before `e` are counted, -/
def wt (e t : ℕ) : EReal := if t < p then Ideal.exp (z t + mass z p t e) else 0

/-- and the weighted sum of the values of the keys from `a`. -/
def total (a e : ℕ) : EReal := ∑ t ∈ Ico a e, v t * wt z p e t

theorem mass_add {a b e : ℕ} (h : a ≤ b) (h' : b ≤ e) : mass z p a b + mass z p b e = mass z p a e :=
  Finset.sum_Ico_consecutive _ h h'

theorem mass_self (a : ℕ) : mass z p a a = 0 := by simp [mass]

theorem total_self (a : ℕ) : total z v p a a = 0 := by simp [total]

theorem total_split {a b e : ℕ} (h : a ≤ b) (h' : b ≤ e) : total z v p a e = ∑ t ∈ Ico a b, v t * wt z p e t + total z v p b e :=
  (Finset.sum_Ico_consecutive _ h h').symm

/-- Sums over a block of 256 keys. -/
theorem sum_block (f : ℕ → EReal) (j : ℕ) : ∑ t ∈ Ico (256 * j) (256 * (j + 1)), f t = ∑ k : Fin 256, f (256 * j + k.val) := by
  rw [Finset.sum_Ico_eq_sum_range, show 256 * (j + 1) - 256 * j = 256 by omega, Finset.sum_range]

/-- What the block's keys from row `r` on leave, as a product with a row of the triangle. -/
theorem tri_row (j : ℕ) (r : Fin 256) :
    ∑ k : Fin 256, (if r.val ≤ k.val then (1 : EReal) else 0) * lm z p (256 * j + k.val) = mass z p (256 * j + r.val) (256 * (j + 1)) := by
  have h1 : ∀ k : Fin 256, (if r.val ≤ k.val then (1 : EReal) else 0) * lm z p (256 * j + k.val)
      = (fun t => if 256 * j + r.val ≤ t then lm z p t else 0) (256 * j + k.val) := by
    intro k
    by_cases h : r.val ≤ k.val
    · simp [h]
    · simp [h]
  rw [Finset.sum_congr rfl fun k _ => h1 k, ← sum_block (fun t => if 256 * j + r.val ≤ t then lm z p t else 0) j, mass, ← Finset.sum_filter]
  congr 1
  ext t
  have := r.isLt
  simp only [mem_filter, mem_Ico]
  omega

/-- A visit: the block's weighted values added to the sum over the later keys. -/
theorem total_visit {i j : ℕ} (h : j < i) (hp : 256 * i ≤ p) (e : ℕ) (he : 256 * (j + 1) ≤ e) :
    total z v p (256 * (j + 1)) e + ∑ k : Fin 256, v (256 * j + k.val)
        * Ideal.exp (z (256 * j + k.val) + mass z p (256 * j + k.val) (256 * (j + 1)) + mass z p (256 * (j + 1)) e)
      = total z v p (256 * j) e := by
  rw [total_split z v p (by omega : 256 * j ≤ 256 * (j + 1)) he, add_comm, sum_block]
  congr 1
  refine Finset.sum_congr rfl fun k _ => ?_
  have := k.isLt
  rw [wt, if_pos (by omega), add_assoc, mass_add z p (by omega) he]

/-- The visit of the diagonal block. -/
theorem total_diag (i : ℕ) (c : Fin 256) (hp : p = 256 * i + c.val) :
    (0 : EReal) + ∑ k : Fin 256, v (256 * i + k.val)
        * (if k.val < c.val then Ideal.exp (z (256 * i + k.val) + mass z p (256 * i + k.val) (256 * (i + 1)) + 0) else 0)
      = total z v p (256 * i) (256 * (i + 1)) := by
  rw [zero_add, total, sum_block]
  refine Finset.sum_congr rfl fun k _ => ?_
  rw [wt, add_zero]
  congr 1
  by_cases h : k.val < c.val
  · rw [if_pos h, if_pos (by omega)]
  · rw [if_neg h, if_neg (by omega)]

/-- Where nothing is left of the stick the earlier keys have no weight. -/
theorem total_stop {a e : ℕ} (h : mass z p a e = ⊥) (hae : a ≤ e) : total z v p 0 e = total z v p a e := by
  rw [total_split z v p (Nat.zero_le a) hae]
  have : ∑ t ∈ Ico 0 a, v t * wt z p e t = 0 := by
    refine Finset.sum_eq_zero fun t ht => ?_
    have ht := (mem_Ico.1 ht).2
    rw [wt, ← mass_add z p ht.le hae, h, EReal.add_bot, EReal.add_bot, Ideal.exp_bot, ite_self, mul_zero]
  rw [this, zero_add]

/-- Keys not before the query change nothing. -/
theorem mass_tail {t e N : ℕ} (ht : t ≤ e) (he : p ≤ e) (hN : e ≤ N) : mass z p t N = mass z p t e := by
  rw [← mass_add z p ht hN]
  have : mass z p e N = 0 := Finset.sum_eq_zero fun t ht => by
    have := (mem_Ico.1 ht).1
    rw [lm, if_neg (by omega)]
  rw [this, add_zero]

/-- The weighted sum, as the reference writes it: each weight from what the key takes and what the keys after it leave,
    the latter as a sum from the key on less the key's own. -/
theorem total_eq {e N : ℕ} (he : p ≤ e) (hN : e ≤ N) :
    total z v p 0 e = ∑ t ∈ range N, (if t < p then Ideal.exp (took (z t) + (mass z p t N - lm z p t)) else 0) * v t := by
  have h0 : ∑ t ∈ range N, (if t < p then Ideal.exp (took (z t) + (mass z p t N - lm z p t)) else 0) * v t
      = ∑ t ∈ range N, v t * wt z p e t := by
    refine Finset.sum_congr rfl fun t _ => ?_
    rw [mul_comm, wt]
    by_cases h : t < p
    · rw [if_pos h, if_pos h, mass_tail z p (h.le.trans he) he hN]
      have : mass z p t e = left (z t) + mass z p (t + 1) e := by
        rw [mass, Finset.sum_eq_sum_Ico_succ_bot (h.trans_le he), lm, if_pos h]; rfl
      rw [this, lm, if_pos h, took_add]
    · rw [if_neg h, if_neg h]
  rw [h0, ← Finset.sum_range_add_sum_Ico _ hN]
  have h1 : ∑ t ∈ Ico e N, v t * wt z p e t = 0 := Finset.sum_eq_zero fun t ht => by
    have := (mem_Ico.1 ht).1
    rw [wt, if_neg (by omega), mul_zero]
  rw [h1, add_zero, total, Finset.range_eq_Ico]

end Query

end Cert.Proof.SB

end
-- ==== Proof.SB.Visit.lean ====
/-
  The visits of `Ops.lean` at the extended reals, read at an index.
-/
module

public import proofs.«01_k».proof.Proof.SB.Ops
public import proofs.«01_k».proof.Proof.SB.Weights
public import Idealize.ShloMosaic.Lib.Pointwise
public import Idealize.ShloMosaic.Lib.WordCmp

@[expose] public section

noncomputable section

namespace Cert.Proof.SB

open Cert.KernelIdeal Cert.KernelIdeal.Gen
open Idealize.ShloMosaic

/-- A selection on a comparison of two small numbers. -/
theorem sel_slt {A : Type} {a b : ℕ} (ha : a < 2 ^ 31) (hb : b < 2 ^ 31) (x y : A) :
    Scalar.select (IntOp.cmpi .slt (BitVec.ofNat 32 a) (BitVec.ofNat 32 b)) x y = if a < b then x else y := by
  rw [WordCmp.cmpi_slt_ofNat ha hb]
  by_cases h : a < b
  · rw [if_pos h, decide_eq_true h]; rfl
  · rw [if_neg h, decide_eq_false h]; rfl
theorem sel_sge {A : Type} {a b : ℕ} (ha : a < 2 ^ 31) (hb : b < 2 ^ 31) (x y : A) :
    Scalar.select (IntOp.cmpi .sge (BitVec.ofNat 32 a) (BitVec.ofNat 32 b)) x y = if b ≤ a then x else y := by
  rw [WordCmp.cmpi_sge_ofNat ha hb]
  by_cases h : b ≤ a
  · rw [if_pos h, decide_eq_true h]; rfl
  · rw [if_neg h, decide_eq_false h]; rfl

theorem zOf_apply (q : FVec Ideal S128x256 .bf16) (kb : Vec Ideal S1x256x128 .bf16) (r c : Fin 256) :
    zOf (F := Ideal) q kb (ix2 r c) = ∑ f : Fin 128, kb (ix3 0 r f) * q (ix2 f c) := by
  pointwise [zOf, k0_pay235]

theorem lomOf_apply (z : FVec Ideal S256x256 .f32) (r c : Fin 256) : lomOf (F := Ideal) z (ix2 r c) = left (z (ix2 r c)) := by
  pointwise [lomOf, k0_pay243, left]
  rfl

theorem lomD_apply (z : FVec Ideal S256x256 .f32) (r c : Fin 256) :
    lomD (F := Ideal) z (ix2 r c) = if r.val < c.val then left (z (ix2 r c)) else 0 := by
  pointwise [lomD, k0_pay23, left, past, k0_pay180]
  rw [sel_slt (by omega) (by omega)]; rfl

theorem sufOf_apply (tri l : FVec Ideal S256x256 .bf16) (r c : Fin 256) :
    sufOf (F := Ideal) tri l (ix2 r c) = ∑ k : Fin 256, tri (ix2 r k) * l (ix2 k c) := by
  pointwise [sufOf, k0_pay252]

theorem wOf_apply (z suf : FVec Ideal S256x256 .f32) (run : Vec Ideal S1x256 .f32) (r c : Fin 256) :
    wOf (F := Ideal) z suf run (ix2 r c) = Ideal.exp (z (ix2 r c) + suf (ix2 r c) + run (ix2 0 c)) := by
  pointwise [wOf, k0_pay268]

theorem wD_apply (z suf : FVec Ideal S256x256 .f32) (run : Vec Ideal S1x256 .f32) (r c : Fin 256) :
    wD (F := Ideal) z suf run (ix2 r c) = if r.val < c.val then Ideal.exp (z (ix2 r c) + suf (ix2 r c) + run (ix2 0 c)) else 0 := by
  pointwise [wD, k0_pay73, past, k0_pay180]
  rw [sel_slt (by omega) (by omega)]

theorem runOf_apply (suf : FVec Ideal S256x256 .f32) (run : Vec Ideal S1x256 .f32) (c : Fin 256) :
    runOf (F := Ideal) suf run (ix2 0 c) = run (ix2 0 c) + suf (ix2 0 c) := by
  pointwise [runOf, k0_pay269]

theorem accOf_apply (w : FVec Ideal S256x256 .bf16) (acc : Vec Ideal S128x256 .f32) (vb : Vec Ideal S1x128x256 .bf16) (d : Fin 128) (c : Fin 256) :
    accOf (F := Ideal) w acc vb (ix2 d c) = acc (ix2 d c) + ∑ k : Fin 256, vb (ix3 0 d k) * w (ix2 k c) := by
  pointwise [accOf, k0_pay288]

theorem zero_run (h : Fin 8) (c : Fin 256) : (zero (F := Ideal)).run h (ix2 0 c) = 0 := by
  pointwise [zero, k0_pay185]
theorem zero_acc (h : Fin 8) (d : Fin 128) (c : Fin 256) : (zero (F := Ideal)).acc h (ix2 d c) = 0 := by
  pointwise [zero, k0_pay186]

theorem even_apply (v : Vec Ideal S128x256 .bf16) (d : Fin 128) (c : Fin 256) : k0_pay182 (F := Ideal) v (ix2 d c) = if d.val < 64 then v (ix2 d c) else 0 := by
  pointwise [k0_pay182]
  rw [show (64#32) = BitVec.ofNat 32 64 from rfl, sel_slt (by omega) (by omega)]
theorem odd_apply (v : Vec Ideal S128x256 .bf16) (d : Fin 128) (c : Fin 256) : k0_pay199 (F := Ideal) v (ix2 d c) = if 64 ≤ d.val then v (ix2 d c) else 0 := by
  pointwise [k0_pay199]
  rw [show (64#32) = BitVec.ofNat 32 64 from rfl, sel_sge (by omega) (by omega)]
/-- A score bound is not negative where the key maxima are not. -/
theorem zm_nonneg (q : FVec Ideal S128x256 .f32) (s : FVec Ideal S1x64 .f32) (hs : ∀ k : Fin 64, 0 ≤ s (ix2 0 k)) (c : Fin 256) :
    0 ≤ k0_pay207 (F := Ideal) q s (ix2 0 c) := by
  pointwise [k0_pay207]
  refine mul_nonneg (Finset.sum_nonneg fun x _ => ?_) ((Finset.le_fold_max _).2 (Or.inr ⟨0, Finset.mem_univ _, hs 0⟩))
  show 0 ≤ max (q (ix2 x c)) (-q (ix2 x c))
  rcases le_total 0 (q (ix2 x c)) with h | h
  · exact le_max_of_le_left h
  · exact le_max_of_le_right (EReal.neg_nonneg.2 h)

/-- Where the largest is `⊥`, all are. -/
theorem worst_bot (v : FVec Ideal S1x256 .f32) (h : k0_pay4 (F := Ideal) v = ⊥) (c : Fin 256) : v (ix2 0 c) = ⊥ := by
  have h' : Finset.fold max (Ideal.ofBits FTy.f32 4286578688#32) (fun x : Fin 1 × Fin 256 => v (ix2 0 x.2)) Finset.univ = (⊥ : EReal) := by
    rw [← h]; symm; pointwise [k0_pay4]
  exact le_bot_iff.1 ((Finset.fold_max_le _).1 h'.le |>.2 (0, c) (Finset.mem_univ _))

theorem worstOf_bot (run : Fin 8 → Vec Ideal S1x256 .f32) (zm : Fin 8 → FVec Ideal S1x256 .f32) (h : worstOf (F := Ideal) run zm = ⊥) (k : Fin 8) (c : Fin 256) :
    run k (ix2 0 c) + zm k (ix2 0 c) = ⊥ := by
  have h' := worst_bot _ h c
  simp only [maximumf_apply, addf_apply, Ideal.maximumf_def, Ideal.addf_def, max_eq_bot] at h'
  obtain ⟨⟨⟨⟨⟨⟨⟨h0, h1⟩, h2⟩, h3⟩, h4⟩, h5⟩, h6⟩, h7⟩ := h'
  fin_cases k
  exacts [h0, h1, h2, h3, h4, h5, h6, h7]

/-- A run that with a bound not negative comes to `⊥` is `⊥`. -/
theorem eq_bot_of_add {a b : EReal} (hb : 0 ≤ b) (h : a + b = ⊥) : a = ⊥ := by
  rcases EReal.add_eq_bot_iff.1 h with h | h
  · exact h
  · rw [h] at hb; exact absurd hb (by simp)

theorem cols_apply (a b : Vec Ideal S128x256 .f32) (r : Fin 256) (d : Fin 128) :
    colsOf (F := Ideal) a b (ix2 r d) = if d.val < 64 then a (ix2 d r) else b (ix2 d r) := by
  pointwise [colsOf, k0_pay2, k0_pay232]
  rw [show (64#32) = BitVec.ofNat 32 64 from rfl, sel_slt (by omega) (by omega)]

end Cert.Proof.SB

end
-- ==== Proof.SB.Walk.lean ====
/-
  The walk of one grid point at the extended reals: after it every accumulator holds the stick-breaking sum over all
  keys before the query, whether or not the walk ended early.
-/
module

public import proofs.«01_k».proof.Proof.SB.Visit

@[expose] public section

noncomputable section

namespace Cert.Proof.SB

open Cert.KernelIdeal Cert.KernelIdeal.Gen
open Idealize.ShloMosaic

section Point

variable (x : Pt Ideal)

/-- Head `h`'s score of key `t` for query `c`, -/
def Pt.sc (h : Fin 8) (c : Fin 256) (t : ℕ) : EReal :=
  x.z h ⟨t / 256 % 32, Nat.mod_lt _ (by decide)⟩ (ix2 ⟨t % 256, Nat.mod_lt _ (by decide)⟩ c)

/-- and feature `d` of key `t`'s value. -/
def Pt.va (h : Fin 8) (d : Fin 128) (t : ℕ) : EReal :=
  x.vb (pairOf h) ⟨t / 256 % 32, Nat.mod_lt _ (by decide)⟩ (ix3 0 d ⟨t % 256, Nat.mod_lt _ (by decide)⟩)

theorem Pt.sc_block (h : Fin 8) (c : Fin 256) (j : Fin 32) (r : Fin 256) : x.sc h c (256 * j.val + r.val) = x.z h j (ix2 r c) := by
  have hr := r.isLt
  have hj := j.isLt
  unfold Pt.sc
  rw [show (⟨(256 * j.val + r.val) / 256 % 32, Nat.mod_lt _ (by decide)⟩ : Fin 32) = j from Fin.ext (by show (256 * j.val + r.val) / 256 % 32 = j.val; omega),
    show (⟨(256 * j.val + r.val) % 256, Nat.mod_lt _ (by decide)⟩ : Fin 256) = r from Fin.ext (by show (256 * j.val + r.val) % 256 = r.val; omega)]

theorem Pt.va_block (h : Fin 8) (d : Fin 128) (j : Fin 32) (r : Fin 256) : x.va h d (256 * j.val + r.val) = x.vb (pairOf h) j (ix3 0 d r) := by
  have hr := r.isLt
  have hj := j.isLt
  unfold Pt.va
  rw [show (⟨(256 * j.val + r.val) / 256 % 32, Nat.mod_lt _ (by decide)⟩ : Fin 32) = j from Fin.ext (by show (256 * j.val + r.val) / 256 % 32 = j.val; omega),
    show (⟨(256 * j.val + r.val) % 256, Nat.mod_lt _ (by decide)⟩ : Fin 256) = r from Fin.ext (by show (256 * j.val + r.val) % 256 = r.val; omega)]

/-- The triangle is of ones on and above the diagonal. -/
def Pt.Tri : Prop := ∀ r k : Fin 256, x.tri (ix2 r k) = if r.val ≤ k.val then (1 : EReal) else 0

/-- What the state holds once the blocks from `j` up to the queries' block `i` have been visited. -/
def Pt.Done (i j : ℕ) (s : St Ideal) : Prop :=
  (∀ (h : Fin 8) (c : Fin 256), s.run h (ix2 0 c) = mass (x.sc h c) (256 * i + c.val) (256 * j) (256 * (i + 1)))
    ∧ ∀ (h : Fin 8) (d : Fin 128) (c : Fin 256), s.acc h (ix2 d c) = total (x.sc h c) (x.va h d) (256 * i + c.val) (256 * j) (256 * (i + 1))

variable (ht : x.Tri)
include ht

theorem Pt.suf_apply {i j : ℕ} (hj : j < i) (hi : i < 32) (h : Fin 8) (r c : Fin 256) :
    x.suf h ⟨j, hj.trans hi⟩ (ix2 r c) = mass (x.sc h c) (256 * i + c.val) (256 * j + r.val) (256 * (j + 1)) := by
  rw [Pt.suf, sufOf_apply, ← tri_row]
  refine Finset.sum_congr rfl fun k _ => ?_
  have := k.isLt
  have hc := c.isLt
  rw [ht, lomOf_apply, lm, if_pos (show 256 * j + k.val < 256 * i + c.val by omega)]
  rw [← Pt.sc_block x h c ⟨j, hj.trans hi⟩ k]

theorem Pt.sufD_apply {i : ℕ} (hi : i < 32) (h : Fin 8) (r c : Fin 256) :
    x.sufD h ⟨i, hi⟩ (ix2 r c) = mass (x.sc h c) (256 * i + c.val) (256 * i + r.val) (256 * (i + 1)) := by
  rw [Pt.sufD, sufOf_apply, ← tri_row]
  refine Finset.sum_congr rfl fun k _ => ?_
  rw [ht, lomD_apply, lm, ← Pt.sc_block x h c ⟨i, hi⟩ k]
  congr 1
  by_cases hk : k.val < c.val
  · rw [if_pos hk, if_pos (by omega)]
  · rw [if_neg hk, if_neg (by omega)]

/-- The visit of the diagonal block, from nothing. -/
theorem Pt.done_diag {i : ℕ} (hi : i < 32) : x.Done i i (x.diag ⟨i, hi⟩ zero) := by
  refine ⟨fun h c => ?_, fun h d c => ?_⟩
  · show runOf _ _ _ = _
    rw [runOf_apply, zero_run, zero_add, x.sufD_apply ht hi]; rfl
  · show accOf _ _ _ _ = _
    rw [accOf_apply, zero_acc, ← total_diag (x.sc h c) (x.va h d) _ i c rfl]
    congr 1
    refine Finset.sum_congr rfl fun k _ => ?_
    rw [wD_apply, zero_run, x.sufD_apply ht hi, ← Pt.sc_block x h c ⟨i, hi⟩ k, ← Pt.va_block x h d ⟨i, hi⟩ k]

/-- The visit of an earlier block. -/
theorem Pt.done_visit {i j : ℕ} (hj : j < i) (hi : i < 32) {s : St Ideal} (hs : x.Done i (j + 1) s) : x.Done i j (x.visit ⟨j, hj.trans hi⟩ s) := by
  refine ⟨fun h c => ?_, fun h d c => ?_⟩
  · show runOf _ _ _ = _
    rw [runOf_apply, hs.1, x.suf_apply ht hj hi, add_comm]
    exact mass_add _ _ (by omega) (by omega)
  · show accOf _ _ _ _ = _
    rw [accOf_apply, hs.2, ← total_visit (x.sc h c) (x.va h d) _ hj (Nat.le_add_right _ _) _ (by omega)]
    congr 1
    refine Finset.sum_congr rfl fun k _ => ?_
    rw [wOf_apply, hs.1, x.suf_apply ht hj hi, ← Pt.sc_block x h c ⟨j, hj.trans hi⟩ k, ← Pt.va_block x h d ⟨j, hj.trans hi⟩ k]

omit ht in
theorem blk_eq {i n j : ℕ} (h : i - 1 - n = j) (hi : j < 32) : blk i n = ⟨j, hi⟩ := by
  apply Fin.ext; show (i - 1 - n) % 32 = j; omega

/-- The walk, from the blocks from `j` on: its accumulators hold the sums over all keys. -/
theorem Pt.walk_acc (hz : ∀ h c, 0 ≤ x.zm h (ix2 0 c)) {i : ℕ} (hi : i < 32) : ∀ (j n : ℕ) (s : St Ideal), i = j + n → x.Done i j s →
    ∀ (h : Fin 8) (d : Fin 128) (c : Fin 256), (x.walk i j n (worstOf s.run x.zm) s).acc h (ix2 d c)
      = total (x.sc h c) (x.va h d) (256 * i + c.val) 0 (256 * (i + 1)) := by
  intro j
  induction j with
  | zero => intro n s _ hs h d c; exact hs.2 h d c
  | succ j ih =>
    intro n s hn hs h d c
    rw [Pt.walk]
    split
    · rw [blk_eq (j := j) (by omega) (by omega)]
      exact ih (n + 1) _ (by omega) (x.done_visit ht (by omega) hi hs) h d c
    · rename_i hw
      have hb : worstOf (F := Ideal) s.run x.zm = ⊥ := by
        by_contra hne
        apply hw
        show Ideal.cmp .ogt (worstOf (F := Ideal) s.run x.zm) (⊥ : EReal) = 1#1
        rw [Ideal.cmp, decide_eq_true (bot_lt_iff_ne_bot.2 hne)]; rfl
      have hm := eq_bot_of_add (hz h c) (worstOf_bot _ _ hb h c)
      rw [hs.1] at hm
      rw [hs.2, ← total_stop _ _ _ hm (by omega)]

/-- After all visits of the queries' block `i`. -/
theorem Pt.last_acc (hz : ∀ h c, 0 ≤ x.zm h (ix2 0 c)) {i : ℕ} (hi : i < 32) (h : Fin 8) (d : Fin 128) (c : Fin 256) :
    (x.last i).acc h (ix2 d c) = total (x.sc h c) (x.va h d) (256 * i + c.val) 0 (256 * (i + 1)) := by
  have hd : dblk i = ⟨i, hi⟩ := by apply Fin.ext; show i % 32 = i; omega
  rw [Pt.last, Pt.enter, hd]
  split
  · rename_i h0
    subst h0
    exact (x.done_diag ht hi).2 h d c
  · rename_i h0
    rw [blk_eq (j := i - 1) (by omega) (by omega)]
    exact x.walk_acc ht hz hi (i - 1) 1 _ (by omega) (x.done_visit ht (by omega) hi ((show i = i - 1 + 1 by omega) ▸ x.done_diag ht hi)) h d c

end Point

end Cert.Proof.SB

end
-- ==== Proof.SB.Blocks.lean ====
/-
  The staged blocks of a grid point, at their coordinates in the argument arrays.
-/
module

public import proofs.«01_k».proof.Proof.SB.Frame
public import proofs.«01_k».proof.Proof.SB.Walk
public import Idealize.ShloMosaic.Lib.Pipeline.ValueKit
public import Idealize.ShloMosaic.Lib.Pointwise
public import Idealize.ShloMosaic.Lib.WordCmp

@[expose] public section

noncomputable section

namespace Cert.Proof.SB

open Cert.KernelIdeal Cert.KernelIdeal.Gen

open Idealize.ShloMosaic
open Idealize.ShloMosaic.TcCoe
open Idealize.SL.Sem

variable (m : (ℓ : Loc nD τ sig) → Buf (Elt Ideal) ℓ)

/-- A grid point's batch, group of heads, and block of queries. -/
def bOf (t : Fin grid0.N) : ℕ := (grid0.coords t 0).val
def gOf (t : Fin grid0.N) : ℕ := (grid0.coords t 1).val
def iOf (t : Fin grid0.N) : ℕ := (grid0.coords t 2).val

theorem bOf_lt : ∀ t, bOf t < 2 := (by decide +kernel : ∀ t : Fin grid0.N, (grid0.coords t 0).val < 2)
theorem gOf_lt : ∀ t, gOf t < 2 := (by decide +kernel : ∀ t : Fin grid0.N, (grid0.coords t 1).val < 2)
theorem iOf_lt : ∀ t, iOf t < 32 := (by decide +kernel : ∀ t : Fin grid0.N, (grid0.coords t 2).val < 32)

theorem idx0 : ∀ t : Fin grid0.N, win0_0.index t = ![gOf t, bOf t * 32 + iOf t] := (by decide +kernel : ∀ t : Fin grid0.N, _)
theorem idx1 : ∀ t : Fin grid0.N, win0_1.index t = ![bOf t, 0, gOf t] := (by decide +kernel : ∀ t : Fin grid0.N, _)
theorem idx2 : ∀ t : Fin grid0.N, win0_2.index t = ![bOf t, gOf t, 0] := (by decide +kernel : ∀ t : Fin grid0.N, _)
theorem idx3 : ∀ t : Fin grid0.N, win0_3.index t = ![bOf t, 0, gOf t] := (by decide +kernel : ∀ t : Fin grid0.N, _)
theorem idx4 : ∀ t : Fin grid0.N, win0_4.index t = ![0, 0] := (by decide +kernel : ∀ t : Fin grid0.N, _)
theorem idx5 : ∀ t : Fin grid0.N, win0_5.index t = ![bOf t * 32 + iOf t, gOf t] := (by decide +kernel : ∀ t : Fin grid0.N, _)

/-- The queries, keys, values and key maxima of a core. -/
abbrev qs (c : Dev nD) : FVec Ideal S1024x16384 .bf16 := m ((c.tc : Thread nD τ).loc main_arg0)
abbrev ks (c : Dev nD) : FVec Ideal S16384x1024 .bf16 := m ((c.tc : Thread nD τ).loc main_arg1)
abbrev vs (c : Dev nD) : FVec Ideal S64x1024x256 .bf16 := m ((c.tc : Thread nD τ).loc main_arg2)
abbrev mx (c : Dev nD) : FVec Ideal S2x1x1024 .f32 := m ((c.tc : Thread nD τ).loc main_arg3)

theorem V_v7 (c : Dev nD) : V m c main_v7 = shapeCast S2x8192x1024 (ks m c) shapeCasts_S16384x1024_S2x8192x1024 := by
  unfold V; after_results_simp <;> rfl

theorem V_v6 (c : Dev nD) : V m c main_v6 = (uitofp .bf16 (cmpi .sge
    (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 (iotaInDim S256 32 0)))) : FVec Ideal S256x256 .bf16) := by
  unfold V; after_results_simp <;> rfl

theorem qBlk_apply (c : Dev nD) (t : Fin grid0.N) (r : Fin 512) (k : Fin 256) (R : Fin 1024) (C : Fin 16384)
    (hR : R.val = gOf t * 512 + r.val) (hC : C.val = (bOf t * 32 + iOf t) * 256 + k.val) :
    qBlk m c t (ix2 r k) = qs m c (ix2 R C) := by
  unfold qBlk
  rw [V_arg0]
  blk_simp
  refine congrArg (qs m c) ?_
  blk_ext [idx0]

theorem kBlk_apply (c : Dev nD) (t : Fin grid0.N) (r : Fin 8192) (k : Fin 512) (R : Fin 16384) (C : Fin 1024)
    (hR : R.val = bOf t * 8192 + r.val) (hC : C.val = gOf t * 512 + k.val) :
    kBlk m c t (ix3 0 r k) = ks m c (ix2 R C) := by
  have hb := bOf_lt t
  unfold kBlk
  rw [V_v7]
  blk_simp
  rw [show (win0_1.blk t).view.emb (ix3 0 r k) = (ix3 ⟨bOf t, hb⟩ r C : S2x8192x1024.Idx) by blk_ext [idx1]]
  rw [show R = ⟨bOf t * 8192 + r.val, hR ▸ R.isLt⟩ from Fin.ext hR]
  pointwise

theorem vBlk_apply (c : Dev nD) (t : Fin grid0.N) (j : Fin 32) (r : Fin 512) (k : Fin 256) (B : Fin 64) (R : Fin 1024)
    (hB : B.val = bOf t * 32 + j.val) (hR : R.val = gOf t * 512 + r.val) :
    vBlk m c t (ix3 j r k) = vs m c (ix3 B R k) := by
  unfold vBlk
  rw [V_arg2]
  blk_simp
  refine congrArg (vs m c) ?_
  blk_ext [idx2]

theorem aBlk_apply (c : Dev nD) (t : Fin grid0.N) (k : Fin 512) (B : Fin 2) (C : Fin 1024)
    (hB : B.val = bOf t) (hC : C.val = gOf t * 512 + k.val) :
    aBlk m c t (ix3 0 0 k) = mx m c (ix3 B 0 C) := by
  unfold aBlk
  rw [V_arg3]
  blk_simp
  refine congrArg (mx m c) ?_
  blk_ext [idx3]

theorem tBlk_apply (c : Dev nD) (t : Fin grid0.N) (r k : Fin 256) :
    tBlk m c t (ix2 r k) = if r.val ≤ k.val then (1 : EReal) else 0 := by
  unfold tBlk
  rw [V_v6]
  blk_simp
  rw [show (win0_4.blk t).view.emb (ix2 r k) = (ix2 r k : S256x256.Idx) by blk_ext [idx4]]
  pointwise
  rw [WordCmp.cmpi_sge_ofNat (by omega) (by omega)]
  by_cases h : r.val ≤ k.val
  · rw [if_pos h, decide_eq_true h]
    show (((BitVec.ofBool true).toNat : ℝ) : EReal) = 1
    simp
  · rw [if_neg h, decide_eq_false h]
    show (((BitVec.ofBool false).toNat : ℝ) : EReal) = 0
    simp

end Cert.Proof.SB

end
-- ==== Proof.SB.Value.lean ====
/-
  The result array of the stick-breaking attention, at the extended reals: at every entry the stick-breaking sum of the
  entry's query over the keys of its sequence, in terms of the argument arrays.
-/
module

public import proofs.«01_k».proof.Proof.SB.Blocks
public import Idealize.ShloMosaic.Lib.FinSumWindow

@[expose] public section

noncomputable section

namespace Cert.Proof.SB

open Cert.KernelIdeal Cert.KernelIdeal.Gen
open Idealize.ShloMosaic
open Idealize.ShloMosaic.TcCoe
open Idealize.SL.Sem

/-- A natural number as an index below `N`. -/
def nn {N : ℕ} [NeZero N] (a : ℕ) : Fin N := ⟨a % N, Nat.mod_lt _ (NeZero.pos N)⟩

theorem nn_val {N : ℕ} [NeZero N] {a : ℕ} (h : a < N) : (nn a : Fin N).val = a := Nat.mod_eq_of_lt h

/-- The score of key `T` for query `s`: of head `H` of sequence `b`. -/
def zz (Q : S1024x16384.Idx → EReal) (K : S16384x1024.Idx → EReal) (b H s T : ℕ) : EReal :=
  ∑ f : Fin 64, K (ix2 (nn (b * 8192 + T % 8192)) (nn (H * 64 + f.val))) * Q (ix2 (nn (H * 64 + f.val)) (nn (b * 8192 + s)))

/-- Feature `d` of the value of key `T`. -/
def vv (V : S64x1024x256.Idx → EReal) (b H d T : ℕ) : EReal :=
  V (ix3 (nn (b * 32 + T / 256 % 32)) (nn (H * 64 + d)) (nn (T % 256)))

/-- The entry of the result at a row and a column. -/
def entry (Q : S1024x16384.Idx → EReal) (K : S16384x1024.Idx → EReal) (V : S64x1024x256.Idx → EReal) (row col : ℕ) : EReal :=
  ∑ T ∈ Finset.range 8192,
    (if T < row % 8192 then
      Ideal.exp (took (zz Q K (row / 8192) (col / 64) (row % 8192) T)
        + (mass (zz Q K (row / 8192) (col / 64) (row % 8192)) (row % 8192) T 8192
          - lm (zz Q K (row / 8192) (col / 64) (row % 8192)) (row % 8192) T)) else 0)
      * vv V (row / 8192) (col / 64) (col % 64) T

/-! ### The reads of the staged blocks -/

theorem kAt_apply (K : Vec Ideal S1x8192x512 .bf16) (p : Fin 4) (j : Fin 32) (r : Fin 256) (f : Fin 128) :
    kAt K p j (ix3 0 r f) = K (ix3 0 ⟨256 * j.val + r.val, by omega⟩ ⟨128 * p.val + f.val, by omega⟩) :=
  View.ld_unit_apply_of (Val := Elt Ideal) (e := .bf16) _ _ _ _ _ _ fun a => by fin_cases a <;> rfl

theorem qAt_apply (Q : Vec Ideal S512x256 .bf16) (p : Fin 4) (f : Fin 128) (c : Fin 256) :
    qAt Q p (ix2 f c) = Q (ix2 ⟨128 * p.val + f.val, by omega⟩ c) :=
  View.ld_unit_apply_of (Val := Elt Ideal) (e := .bf16) _ _ _ _ _ _ fun a => by
    fin_cases a
    · rfl
    · exact (Nat.zero_add _).symm

theorem vAt_apply (V : Vec Ideal S32x512x256 .bf16) (p : Fin 4) (j : Fin 32) (d : Fin 128) (k : Fin 256) :
    vAt V p j (ix3 0 d k) = V (ix3 j ⟨128 * p.val + d.val, by omega⟩ k) :=
  View.ld_unit_apply_of (Val := Elt Ideal) (e := .bf16) _ _ _ _ _ _ fun a => by
    fin_cases a
    · rfl
    · rfl
    · exact (Nat.zero_add _).symm

theorem qf_apply (h : Fin 8) (v : Vec Ideal S128x256 .bf16) (d : Fin 128) (c : Fin 256) :
    qfOf h v (ix2 d c) = if d.val / 64 = h.val % 2 then v (ix2 d c) else 0 := by
  unfold qfOf
  rcases Nat.mod_two_eq_zero_or_one h.val with e | e
  · rw [show (h.val % 2 == 0) = true by rw [e]; rfl, cond_true, even_apply, e]
    exact if_congr (by omega) rfl rfl
  · rw [show (h.val % 2 == 0) = false by rw [e]; rfl, cond_false, odd_apply, e]
    exact if_congr (by omega) rfl rfl

theorem slab_apply (ka : Vec Ideal S1x1x512 .f32) (h : Fin 8) (k : Fin 64) :
    slab ka h (ix2 0 k) = ka (ix3 0 0 ⟨64 * h.val + k.val, by omega⟩) := by
  pointwise [slab, k0_pay181]

theorem out_apply (s : St Ideal) (r : Fin 256) (c : Fin 512) :
    outOf s (ix2 r c) = s.acc ⟨c.val / 64, by omega⟩ (ix2 ⟨c.val % 128, by omega⟩ r) := by
  have key : ∀ (p : ℕ) (h h' : Fin 8) (hh : h.val = 2 * p) (hh' : h'.val = 2 * p + 1),
      View.TileAt (Val := Elt Ideal) (S := S256x512) (e := .bf16) (ix2 r c) ![0, 128 * p] S256x128.size (colsOf (s.acc h) (s.acc h'))
        (s.acc ⟨c.val / 64, by omega⟩ (ix2 ⟨c.val % 128, by omega⟩ r)) := by
    intro p h h' hh hh' x hx
    have h0 : r.val = 0 + (x 0).val := hx 0
    have h1 : c.val = 128 * p + (x 1).val := hx 1
    have hx1 : (x 1).val < 128 := (x 1).isLt
    rw [show x = ix2 r ⟨c.val % 128, by omega⟩ from funext fun a => Fin.ext (by
      fin_cases a
      · exact (h0.trans (Nat.zero_add _)).symm
      · show (x 1).val = c.val % 128; omega)]
    refine (cols_apply _ _ _ _).trans ?_
    show (if c.val % 128 < 64 then _ else _) = _
    split
    · exact congrArg (fun q => s.acc q (ix2 ⟨c.val % 128, by omega⟩ r)) (Fin.ext (by show h.val = c.val / 64; omega))
    · exact congrArg (fun q => s.acc q (ix2 ⟨c.val % 128, by omega⟩ r)) (Fin.ext (by show h'.val = c.val / 64; omega))
  unfold outOf
  refine View.canon_eq_of_allAt _ _ _ (View.cover_of_tiled_head _ _ _ rfl _) ?_
  refine View.allAt_cons_unit _ _ _ _ _ (key 3 6 7 rfl rfl) ?_
  refine View.allAt_cons_unit _ _ _ _ _ (key 2 4 5 rfl rfl) ?_
  refine View.allAt_cons_unit _ _ _ _ _ (key 1 2 3 rfl rfl) ?_
  refine View.allAt_cons_unit _ _ _ _ _ (key 0 0 1 rfl rfl) ?_
  exact View.allAt_nil _ _

/-! ### One grid point -/

variable (m : (ℓ : Loc nD τ sig) → Buf (Elt Ideal) ℓ)

theorem sc_eq (c : Dev nD) (t : Fin grid0.N) (h : Fin 8) (col : Fin 256) :
    (pt m c t).sc h col = zz (qs m c) (ks m c) (bOf t) (gOf t * 8 + h.val) (iOf t * 256 + col.val) := by
  have hb := bOf_lt t
  have hg := gOf_lt t
  have hi := iOf_lt t
  funext T
  have hT : T % 8192 = 256 * (T / 256 % 32) + T % 256 := by omega
  unfold Pt.sc Pt.z
  rw [zOf_apply]
  have hq : ∀ f : Fin 128, (pt m c t).q h (ix2 f col)
      = if f.val / 64 = h.val % 2 then qs m c (ix2 (nn (gOf t * 512 + 128 * (h.val / 2) + f.val)) (nn (bOf t * 8192 + (iOf t * 256 + col.val)))) else 0 := by
    intro f
    refine (qf_apply h _ f col).trans ?_
    refine if_congr Iff.rfl ?_ rfl
    rw [qAt_apply]
    exact qBlk_apply m c t _ _ _ _
      ((nn_val (by omega)).trans (by show _ = gOf t * 512 + (128 * (h.val / 2) + f.val); omega)) ((nn_val (by omega)).trans (by omega))
  have hk : ∀ f : Fin 128, (pt m c t).kb (pairOf h) ⟨T / 256 % 32, Nat.mod_lt _ (by decide)⟩ (ix3 0 ⟨T % 256, Nat.mod_lt _ (by decide)⟩ f)
      = ks m c (ix2 (nn (bOf t * 8192 + T % 8192)) (nn (gOf t * 512 + 128 * (h.val / 2) + f.val))) := by
    intro f
    refine (kAt_apply (kBlk m c t) (pairOf h) ⟨T / 256 % 32, Nat.mod_lt _ (by decide)⟩ ⟨T % 256, Nat.mod_lt _ (by decide)⟩ f).trans ?_
    exact kBlk_apply m c t _ _ _ _
      ((nn_val (by omega)).trans (by show _ = bOf t * 8192 + (256 * (T / 256 % 32) + T % 256); omega))
      ((nn_val (by omega)).trans (by show _ = gOf t * 512 + (128 * (h.val / 2) + f.val); omega))
  rw [Finset.sum_congr rfl fun f _ => congrArg₂ (· * ·) (hk f) (hq f)]
  rw [FinSumWindow.sum_window (W := 64) (64 * (h.val % 2)) (by omega) _ fun f hf => by
    rw [if_neg (by omega), mul_zero]]
  unfold zz
  refine Finset.sum_congr rfl fun f _ => ?_
  have hf := f.isLt
  rw [if_pos (by show (64 * (h.val % 2) + f.val) / 64 = _; omega)]
  rw [show gOf t * 512 + 128 * (h.val / 2) + (64 * (h.val % 2) + f.val) = (gOf t * 8 + h.val) * 64 + f.val by omega]

theorem va_eq (c : Dev nD) (t : Fin grid0.N) (h : Fin 8) (d : Fin 128) (hd : d.val / 64 = h.val % 2) :
    (pt m c t).va h d = vv (vs m c) (bOf t) (gOf t * 8 + h.val) (d.val % 64) := by
  have hb := bOf_lt t
  have hg := gOf_lt t
  funext T
  unfold Pt.va vv
  refine (vAt_apply (vBlk m c t) (pairOf h) ⟨T / 256 % 32, Nat.mod_lt _ (by decide)⟩ d ⟨T % 256, Nat.mod_lt _ (by decide)⟩).trans ?_
  rw [show (nn (T % 256) : Fin 256) = ⟨T % 256, Nat.mod_lt _ (by decide)⟩ from Fin.ext (nn_val (Nat.mod_lt _ (by decide)))]
  exact vBlk_apply m c t _ _ _ _ _ (nn_val (by omega))
    ((nn_val (by omega)).trans (by show _ = gOf t * 512 + (128 * (h.val / 2) + d.val); omega))

theorem tri_pt (c : Dev nD) (t : Fin grid0.N) : (pt m c t).Tri := tBlk_apply m c t

theorem zm_pt (hm : ∀ (c : Dev nD) (b : Fin 2) (k : Fin 1024), (0 : EReal) ≤ mx m c (ix3 b 0 k)) (c : Dev nD) (t : Fin grid0.N)
    (h : Fin 8) (col : Fin 256) : 0 ≤ (pt m c t).zm h (ix2 0 col) := by
  have hb := bOf_lt t
  have hg := gOf_lt t
  refine zm_nonneg _ _ (fun k => ?_) col
  rw [slab_apply, aBlk_apply m c t _ ⟨bOf t, hb⟩ ⟨gOf t * 512 + (64 * h.val + k.val), by omega⟩ rfl rfl]
  exact hm c _ _

/-- What a grid point leaves of its block of the result. -/
theorem oBlk_apply (hm : ∀ (c : Dev nD) (b : Fin 2) (k : Fin 1024), (0 : EReal) ≤ mx m c (ix3 b 0 k)) (c : Dev nD) (t : Fin grid0.N)
    (r : Fin 256) (k : Fin 512) :
    oBlk m c t (ix2 r k) = entry (qs m c) (ks m c) (vs m c) ((bOf t * 32 + iOf t) * 256 + r.val) (gOf t * 512 + k.val) := by
  have hb := bOf_lt t
  have hg := gOf_lt t
  have hi := iOf_lt t
  have hr := r.isLt
  have hk := k.isLt
  show outOf ((pt m c t).last (iOf t)) (ix2 r k) = _
  rw [out_apply, (pt m c t).last_acc (tri_pt m c t) (zm_pt m hm c t) hi, sc_eq, va_eq m c t _ _ (by show k.val % 128 / 64 = k.val / 64 % 2; omega),
    total_eq (N := 8192) _ _ _ (show 256 * iOf t + r.val ≤ 256 * (iOf t + 1) by omega) (by omega)]
  unfold entry
  rw [show ((bOf t * 32 + iOf t) * 256 + r.val) % 8192 = 256 * iOf t + r.val by omega,
    show ((bOf t * 32 + iOf t) * 256 + r.val) / 8192 = bOf t by omega,
    show (gOf t * 512 + k.val) / 64 = gOf t * 8 + k.val / 64 by omega,
    show (gOf t * 512 + k.val) % 64 = k.val % 128 % 64 by omega, Nat.mul_comm (iOf t) 256]

/-- The result array at the end. -/
def res (c : Dev nD) : S16384x1024.Idx → EReal := fun x => entry (qs m c) (ks m c) (vs m c) (x 0).val (x 1).val

theorem arr_eq (hm : ∀ (c : Dev nD) (b : Fin 2) (k : Fin 1024), (0 : EReal) ≤ mx m c (ix3 b 0 k)) (c : Dev nD) :
    (dats m 0 c).arrAt 5 (cfgs (F := Ideal) 0).N = res m c := by
  refine (dats m 0 c).arrAt_eq_of_covers 5 (res m c) (by decide +kernel) fun t hf y => ?_
  blk_simp
  idx_vars y
  refine (oBlk_apply m hm c t _ _).trans ?_
  unfold res
  rw [show ((View.whole main_v8).slice (win0_5.rect t)).emb (ix2 y0 y1)
    = (ix2 ⟨(bOf t * 32 + iOf t) * 256 + y0.val, by have := bOf_lt t; have := iOf_lt t; omega⟩ ⟨gOf t * 512 + y1.val, by have := gOf_lt t; omega⟩ : S16384x1024.Idx) by
      blk_ext [idx5]]
  rfl

/-- The program runs and leaves the result array so, its arguments unchanged. -/
theorem value (g : Dev nD → PrngReg) (hm : ∀ (c : Dev nD) (b : Fin 2) (k : Fin 1024), (0 : EReal) ≤ mx m c (ix3 b 0 k)) :
    θ_run defs (onTc (τ := τ) (main (F := Ideal))) ⟨m, fun _ => 0, g⟩ (fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (arr_eq m hm c), kept m h.1 c⟩) (run_main m g)

end Cert.Proof.SB

end
-- ==== Proof.SB.Ref.lean ====
/-
  The reference's result, at the extended reals, entry by entry.
-/
module

public import proofs.«01_k».proof.Proof.SB.Value
public import proofs.«01_k».proof.Proof.Gen.ReferenceIdeal.Run

@[expose] public section

noncomputable section

namespace Cert.Proof.Ref

open Cert.ReferenceIdeal Cert.ReferenceIdeal.Gen
open Idealize.ShloMosaic

abbrev A := FVec Ideal S2x16x8192x8192 .f32
abbrev B := FVec Ideal S2x16x8192x64 .f32

/-- The queries, keys and values by sequence, head, position and feature. -/
def qR (x : FVec Ideal S1024x16384 .bf16) : B :=
  transpose S2x16x8192x64 [2, 0, 3, 1] (shapeCast _ (extf .f32 x bitsLt_bf16_f32) shapeCasts_S1024x16384_S16x64x2x8192) transposes_S16x64x2x8192_S2x16x8192x64_2_0_3_1
def kR (x : FVec Ideal S16384x1024 .bf16) : B :=
  transpose S2x16x8192x64 [0, 2, 1, 3] (shapeCast _ (extf .f32 x bitsLt_bf16_f32) shapeCasts_S16384x1024_S2x8192x16x64) transposes_S2x8192x16x64_S2x16x8192x64_0_2_1_3
def vR (x : FVec Ideal S64x1024x256 .bf16) : B :=
  shapeCast _ (transpose S2x16x32x256x64 [0, 2, 1, 4, 3] (shapeCast _ (extf .f32 x bitsLt_bf16_f32) shapeCasts_S64x1024x256_S2x32x16x64x256) transposes_S2x32x16x64x256_S2x16x32x256x64_0_2_1_4_3) shapeCasts_S2x16x32x256x64_S2x16x8192x64

/-- The scores. -/
def sR (q k : B) : A := Host.dotGeneral dot_S2x16x8192x64_S2x16x8192x64_S2x16x8192x8192_3_3_2_2_01_01 none q k

/-- A key strictly before the query. -/
def before : IVec S2x16x8192x8192 1 :=
  broadcastInDim S2x16x8192x8192 ![2, 3] bcast_S8192x8192_S2x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

def zR : A := broadcastInDim S2x16x8192x8192 ![] bcast_S_S2x16x8192x8192 (constant S_ .f32 0x00000000#32)
def zR' : A := broadcastInDim S2x16x8192x8192 ![] bcast_S_S2x16x8192x8192 (id (constant S_ .f32 0x00000000#32))

/-- The log of the logistic function. -/
def lsig (x : A) : A :=
  Host.negf (select (cmpf .une (subf (Host.negf x) zR) (subf (Host.negf x) zR)) (addf (Host.negf x) zR)
    (addf (maximumf (Host.negf x) zR) (Host.log1p (Host.exp (Host.negf (Host.absf (subf (Host.negf x) zR)))))))

/-- What the keys leave, -/
def lR (s : A) : A := select before (lsig (Host.negf s)) zR'

/-- summed from each key to the last. -/
def cR (l : A) : A :=
  Host.reduceWindowAdd ![1, 1, 1, 8192] ![1, 1, 1, 1] ![0, 0, 0, 0] ![0, 0, 0, 8191] l (broadcastInDim S_ ![] bcast_S_S_ (constant S_ .f32 0x00000000#32)) reduceWindows_S2x16x8192x8192_S2x16x8192x8192_w1s1p0_0_w1s1p0_0_w1s1p0_0_w8192s1p0_8191 h_S_

/-- The weights. -/
def wR (s : A) : A := select before (Host.exp (addf (lsig s) (subf (cR (lR s)) (lR s)))) zR'

def oR (w : A) (v : B) : FVec Ideal S16384x1024 .bf16 :=
  truncf .bf16 (shapeCast _ (transpose S2x8192x16x64 [0, 2, 1, 3] (Host.dotGeneral dot_S2x16x8192x8192_S2x16x8192x64_S2x16x8192x64_3_2_2_3_01_01 none w v) transposes_S2x16x8192x64_S2x8192x16x64_0_2_1_3) shapeCasts_S2x8192x16x64_S16384x1024) bitsLt_bf16_f32

theorem mk_nn {N a : ℕ} [NeZero N] (h : a < N) : (⟨a, h⟩ : Fin N) = SB.nn a := Fin.ext (SB.nn_val h).symm

variable (m : (ℓ : Loc nD τ sig) → Buf (Elt Ideal) ℓ)

set_option maxRecDepth 8192 in
theorem res_eq (c : Dev nD) : Value.res_main_v30 m c
    = oR (wR (sR (qR (m ((c.tc : Thread nD τ).loc main_arg0))) (kR (m ((c.tc : Thread nD τ).loc main_arg1))))) (vR (m ((c.tc : Thread nD τ).loc main_arg2))) := rfl

theorem qR_apply (x : FVec Ideal S1024x16384 .bf16) (b : Fin 2) (h : Fin 16) (s : Fin 8192) (f : Fin 64) :
    qR x (ix4 b h s f) = x (ix2 (SB.nn (h.val * 64 + f.val)) (SB.nn (b.val * 8192 + s.val))) := by
  pointwise [qR]
  simp only [mk_nn]

theorem kR_apply (x : FVec Ideal S16384x1024 .bf16) (b : Fin 2) (h : Fin 16) (s : Fin 8192) (f : Fin 64) :
    kR x (ix4 b h s f) = x (ix2 (SB.nn (b.val * 8192 + s.val)) (SB.nn (h.val * 64 + f.val))) := by
  pointwise [kR]
  simp only [mk_nn]

theorem vR_apply (x : FVec Ideal S64x1024x256 .bf16) (b : Fin 2) (h : Fin 16) (s : Fin 8192) (f : Fin 64) :
    vR x (ix4 b h s f) = x (ix3 (SB.nn (b.val * 32 + s.val / 256)) (SB.nn (h.val * 64 + f.val)) (SB.nn (s.val % 256))) := by
  pointwise [vR]
  simp only [mk_nn]

theorem sR_apply (q k : B) (b : Fin 2) (h : Fin 16) (s t : Fin 8192) :
    sR q k (ix4 b h s t) = ∑ f : Fin 64, q (ix4 b h s f) * k (ix4 b h t f) := by
  pointwise [sR]

theorem before_apply (x y : EReal) (b : Fin 2) (h : Fin 16) (s t : Fin 8192) :
    Scalar.select (before (ix4 b h s t)) x y = if t.val < s.val then x else y := by
  pointwise [before]
  exact SB.sel_slt (by omega) (by omega) x y

theorem lsig_apply (x : A) (i : S2x16x8192x8192.Idx) : lsig x i = SB.took (x i) := by
  pointwise [lsig, zR]
  rw [if_neg (fun h => h rfl)]
  rfl

theorem oR_apply (w : A) (v : B) (r : Fin 16384) (c : Fin 1024) :
    oR w v (ix2 r c) = ∑ t : Fin 8192, w (ix4 (SB.nn (r.val / 8192)) (SB.nn (c.val / 64)) (SB.nn (r.val % 8192)) t)
      * v (ix4 (SB.nn (r.val / 8192)) (SB.nn (c.val / 64)) t (SB.nn (c.val % 64))) := by
  pointwise [oR]
  simp only [mk_nn]

theorem took_neg (z : EReal) : SB.took (-z) = SB.left z := by
  unfold SB.took SB.left
  rw [neg_neg, max_comm z (-z), zero_sub, zero_sub]

theorem lR_apply (s : A) (b : Fin 2) (h : Fin 16) (r t : Fin 8192) :
    lR s (ix4 b h r t) = if t.val < r.val then SB.left (s (ix4 b h r t)) else 0 := by
  refine (before_apply _ _ b h r t).trans (if_congr Iff.rfl ?_ ?_)
  · rw [lsig_apply, ← took_neg]; rfl
  · pointwise [zR', id_eq]

/-! ### The sums from each key to the last -/

theorem foldl_sum {ι : Type} (f : EReal → ι → EReal) (g : ι → EReal) (hf : ∀ r n, f r n = r + g n) :
    ∀ (l : List ι) (v : EReal), l.foldl f v = v + (l.map g).sum
  | [], v => (add_zero v).symm
  | a :: l, v => by rw [List.foldl_cons, foldl_sum f g hf l, hf, List.map_cons, List.sum_cons, add_assoc]

/-- The window's indices are its positions along the keys. -/
def winEquiv : (⟨4, ![1, 1, 1, 8192]⟩ : Shape).Idx ≃ Fin 8192 where
  toFun w := w 3
  invFun k := ix4 0 0 0 k
  left_inv w := by
    funext a
    fin_cases a
    · exact Subsingleton.elim (α := Fin 1) _ _
    · exact Subsingleton.elim (α := Fin 1) _ _
    · exact Subsingleton.elim (α := Fin 1) _ _
    · rfl
  right_inv _ := rfl

/-- The window's indices in order. -/
def pos (n : Fin (⟨4, ![1, 1, 1, 8192]⟩ : Shape).numel) : (⟨4, ![1, 1, 1, 8192]⟩ : Shape).Idx := (⟨4, ![1, 1, 1, 8192]⟩ : Shape).rowMajor.symm n

/-- The entry at a window's position, where the window is still inside the array. -/
def atWin (l : A) (b : Fin 2) (h : Fin 16) (r t : Fin 8192) (w : (⟨4, ![1, 1, 1, 8192]⟩ : Shape).Idx) : EReal :=
  if t.val + (w 3).val < 8192 then l (ix4 b h r (SB.nn (t.val + (w 3).val))) else 0

theorem cR_apply (l : A) (b : Fin 2) (h : Fin 16) (r t : Fin 8192) :
    cR l (ix4 b h r t) = ∑ T ∈ Finset.Ico t.val 8192, l (ix4 b h r (SB.nn T)) := by
  have ht := t.isLt
  have hv : (broadcastInDim S_ ![] bcast_S_S_ (constant (F := Ideal) S_ .f32 0x00000000#32)) (Shape.Idx.first h_S_) = (0 : EReal) := by
    pointwise
  unfold cR Host.reduceWindowAdd
  rw [Ideal.hostReduceWindowAdd_def, hv]
  unfold Ideal.hostReduceWindowAdd Host.reduceWindow
  refine (foldl_sum _ (fun n => atWin l b h r t (pos n)) (fun a n => ?_) _ _).trans ?_
  · dsimp only
    refine congrArg (a + ·) ?_
    have h0 : (pos n 0).val = 0 := Nat.lt_one_iff.mp (pos n 0).isLt
    have h1 : (pos n 1).val = 0 := Nat.lt_one_iff.mp (pos n 1).isLt
    have h2 : (pos n 2).val = 0 := Nat.lt_one_iff.mp (pos n 2).isLt
    show _ = if t.val + (pos n 3).val < 8192 then l (ix4 b h r (SB.nn (t.val + (pos n 3).val))) else 0
    by_cases hin : t.val + (pos n 3).val < 8192
    · rw [if_pos hin]
      rw [dif_pos (fun a => by
        fin_cases a
        · show 0 ≤ b.val * 1 + (pos n 0).val ∧ b.val * 1 + (pos n 0).val - 0 < 2; omega
        · show 0 ≤ h.val * 1 + (pos n 1).val ∧ h.val * 1 + (pos n 1).val - 0 < 16; omega
        · show 0 ≤ r.val * 1 + (pos n 2).val ∧ r.val * 1 + (pos n 2).val - 0 < 8192; omega
        · show 0 ≤ t.val * 1 + (pos n 3).val ∧ t.val * 1 + (pos n 3).val - 0 < 8192; omega)]
      refine congrArg l (funext fun a => Fin.ext ?_)
      fin_cases a
      · show b.val * 1 + (pos n 0).val - 0 = b.val; omega
      · show h.val * 1 + (pos n 1).val - 0 = h.val; omega
      · show r.val * 1 + (pos n 2).val - 0 = r.val; omega
      · show t.val * 1 + (pos n 3).val - 0 = (t.val + (pos n 3).val) % 8192; omega
    · rw [if_neg hin]
      refine dif_neg fun hh => hin ?_
      have : 0 ≤ t.val * 1 + (pos n 3).val ∧ t.val * 1 + (pos n 3).val - 0 < 8192 := hh 3
      omega
  · rw [zero_add, ← Fin.sum_univ_def]
    unfold pos
    rw [Equiv.sum_comp (⟨4, ![1, 1, 1, 8192]⟩ : Shape).rowMajor.symm (atWin l b h r t),
      ← Equiv.sum_comp winEquiv.symm (atWin l b h r t)]
    refine (Fin.sum_univ_eq_sum_range (fun k => if t.val + k < 8192 then l (ix4 b h r (SB.nn (t.val + k))) else 0) 8192).trans ?_
    rw [Finset.sum_Ico_eq_sum_range, ← Finset.sum_filter]
    refine Finset.sum_congr (Finset.ext fun k => ?_) fun _ _ => rfl
    rw [Finset.mem_filter, Finset.mem_range, Finset.mem_range]
    omega

/-! ### The result -/

theorem wR_apply (s : A) (b : Fin 2) (h : Fin 16) (r t : Fin 8192) (z : ℕ → EReal) (hz : ∀ T : Fin 8192, s (ix4 b h r T) = z T.val) :
    wR s (ix4 b h r t)
      = if t.val < r.val then Ideal.exp (SB.took (z t.val) + (SB.mass z r.val t.val 8192 - SB.lm z r.val t.val)) else 0 := by
  refine (before_apply _ _ b h r t).trans (if_congr Iff.rfl ?_ ?_)
  · have hl : ∀ T : Fin 8192, lR s (ix4 b h r T) = SB.lm z r.val T.val := fun T => by
      rw [lR_apply, hz]; rfl
    have hc : cR (lR s) (ix4 b h r t) = SB.mass z r.val t.val 8192 := by
      rw [cR_apply]
      refine Finset.sum_congr rfl fun T hT => ?_
      rw [hl, SB.nn_val (Finset.mem_Ico.mp hT).2]
    show Ideal.exp (lsig s (ix4 b h r t) + (cR (lR s) (ix4 b h r t) - lR s (ix4 b h r t))) = _
    rw [lsig_apply, hc, hl, hz]
  · pointwise [zR', id_eq]

/-- One key's part of an entry. -/
def term (q : FVec Ideal S1024x16384 .bf16) (k : FVec Ideal S16384x1024 .bf16) (v : FVec Ideal S64x1024x256 .bf16) (row col T : ℕ) : EReal :=
  (if T < row % 8192 then
      Ideal.exp (SB.took (SB.zz q k (row / 8192) (col / 64) (row % 8192) T)
        + (SB.mass (SB.zz q k (row / 8192) (col / 64) (row % 8192)) (row % 8192) T 8192
          - SB.lm (SB.zz q k (row / 8192) (col / 64) (row % 8192)) (row % 8192) T)) else 0)
      * SB.vv v (row / 8192) (col / 64) (col % 64) T

theorem entry_eq (q : FVec Ideal S1024x16384 .bf16) (k : FVec Ideal S16384x1024 .bf16) (v : FVec Ideal S64x1024x256 .bf16)
    (r : Fin 16384) (c : Fin 1024) : oR (wR (sR (qR q) (kR k))) (vR v) (ix2 r c) = SB.entry q k v r.val c.val := by
  have hr := r.isLt
  have hc := c.isLt
  rw [oR_apply]
  have hb : (SB.nn (r.val / 8192) : Fin 2).val = r.val / 8192 := SB.nn_val (by omega)
  have hh : (SB.nn (c.val / 64) : Fin 16).val = c.val / 64 := SB.nn_val (by omega)
  have hs : (SB.nn (r.val % 8192) : Fin 8192).val = r.val % 8192 := SB.nn_val (by omega)
  have hd : (SB.nn (c.val % 64) : Fin 64).val = c.val % 64 := SB.nn_val (by omega)
  have hz : ∀ T : Fin 8192, sR (qR q) (kR k) (ix4 (SB.nn (r.val / 8192)) (SB.nn (c.val / 64)) (SB.nn (r.val % 8192)) T)
      = SB.zz q k (r.val / 8192) (c.val / 64) (r.val % 8192) T.val := fun T => by
    rw [sR_apply]
    refine Finset.sum_congr rfl fun f _ => ?_
    rw [qR_apply, kR_apply, hb, hh, hs, Nat.mod_eq_of_lt T.isLt, mul_comm]
  have ht : ∀ T : Fin 8192, wR (sR (qR q) (kR k)) (ix4 (SB.nn (r.val / 8192)) (SB.nn (c.val / 64)) (SB.nn (r.val % 8192)) T)
        * vR v (ix4 (SB.nn (r.val / 8192)) (SB.nn (c.val / 64)) T (SB.nn (c.val % 64)))
      = term q k v r.val c.val T.val := fun T => by
    rw [wR_apply _ _ _ _ _ _ hz, vR_apply, hb, hh, hs, hd]
    unfold term SB.vv
    rw [show T.val / 256 % 32 = T.val / 256 by have := T.isLt; omega]
  rw [Finset.sum_congr rfl fun T _ => ht T]
  exact Fin.sum_univ_eq_sum_range (term q k v r.val c.val) 8192

end Cert.Proof.Ref

end
-- ==== Proof.SB.Result.lean ====
/-
  The kernel's result array is the reference's, where the key maxima are not negative.
-/
module

public import proofs.«01_k».proof.Proof.SB.Ref
public import proofs.«01_k».proof.Defs
public import Idealize.ShloMosaic.Lib.ReduceAll

@[expose] public section

noncomputable section

namespace Cert.Proof

open Idealize.ShloMosaic Idealize.SL.Sem

theorem preFacts : Cert.Pre_maxima_nonnegative.Facts where
  bcast_S_S2x1x1024 := by decide
  reducesTo_S2x1x1024_S_d0_1_2 := by decide
  h_S_ := by decide

/-- The precondition, read: no key maximum is negative. -/
theorem maxima [hP : Cert.Pre_maxima_nonnegative.Facts] (a0 : FVec Ideal Cert.Pre_maxima_nonnegative.S1024x16384 .bf16)
    (a1 : FVec Ideal Cert.Pre_maxima_nonnegative.S16384x1024 .bf16) (a2 : FVec Ideal Cert.Pre_maxima_nonnegative.S64x1024x256 .bf16)
    (a3 : FVec Ideal Cert.Pre_maxima_nonnegative.S2x1x1024 .f32)
    (h : Cert.Pre_maxima_nonnegative.fn (F := Ideal) a0 a1 a2 a3 = fun _ => 1#1) (b : Fin 2) (k : Fin 1024) :
    (0 : EReal) ≤ a3 (ix3 b 0 k) := by
  have : Subsingleton Cert.Pre_maxima_nonnegative.S_.Idx := ⟨fun x y => funext fun a => a.elim0⟩
  have e := Host.reduce_andi_all _ _ _ _ ix0 (congrFun h ix0) (ix3 b 0 k)
  have z : cmpf .oge a3 (broadcastInDim Cert.Pre_maxima_nonnegative.S2x1x1024 ![] hP.bcast_S_S2x1x1024 (constant Cert.Pre_maxima_nonnegative.S_ .f32 0x00000000#32)) (ix3 b 0 k)
      = BitVec.ofBool (decide ((0 : EReal) ≤ a3 (ix3 b 0 k))) := by
    pointwise
  by_contra hn
  rw [decide_eq_false hn] at z
  exact absurd (z.symm.trans e) (by decide)

open Cert.KernelIdeal Cert.KernelIdeal.Gen in
theorem hm [hP : Cert.Pre_maxima_nonnegative.Facts] (m : (ℓ : Loc nD τ sig) → Buf (Elt Ideal) ℓ) (h : Pre_KernelIdeal_maxima_nonnegative m)
    (c : Dev nD) (b : Fin 2) (k : Fin 1024) : (0 : EReal) ≤ SB.mx m c (ix3 b 0 k) :=
  maxima _ _ _ _ (h c) b k

theorem algebraic [hP : Cert.Pre_maxima_nonnegative.Facts] :
    algebraic_KernelIdeal_ReferenceIdeal_pre_maxima_nonnegative (hKernelIdeal := Cert.KernelIdeal.Gen.facts) (hReferenceIdeal := Cert.ReferenceIdeal.Gen.facts) := by
  intro m g m' g' hp hargs
  refine ⟨fun c => SB.res m c, SB.value m g (hm m hp), ?_⟩
  refine (θ_run Cert.ReferenceIdeal.defs _ _).mono (fun r h c => ⟨(h c).1.trans ?_, (h c).2⟩) (Cert.ReferenceIdeal.Value.run m' g')
  refine (Ref.res_eq m' c).trans ?_
  have hc := hargs c
  funext x
  refine (congrArg _ (show x = ix2 (x 0) (x 1) by funext a; fin_cases a <;> rfl)).trans ?_
  refine (Ref.entry_eq _ _ _ _ _).trans ?_
  rw [hc.1, hc.2.1, hc.2.2.1]
  rfl

theorem refFrame :
    quiescent_ReferenceIdeal (hReferenceIdeal := Cert.ReferenceIdeal.Gen.facts) :=
  fun m g _ => (θ_run Cert.ReferenceIdeal.defs _ _).mono (fun r h => ⟨fun c => (h c).2, Idealize.ShloMosaic.sem_eq_zero_of_no_sems (by decide) r.2⟩) (Cert.ReferenceIdeal.Value.run m g)

end Cert.Proof

end
-- ==== Proof.lean ====
/-
  The claims: each program's frame, the named floor constant, and that each kernel's results are its reference's.
-/
module

public import proofs.«01_k».proof.Defs
public import proofs.«01_k».proof.Proof.Gen.Kernel
public import Idealize.ShloMosaic.Init
public import proofs.«01_k».proof.Proof.Zero.Result
public import proofs.«01_k».proof.Proof.Gen.ZeroKernel
public import proofs.«01_k».proof.Proof.Gen.ZeroKernel.Frame
public import proofs.«01_k».proof.Proof.Gen.ZeroKernelIdeal
public import proofs.«01_k».proof.Proof.Gen.ZeroKernelIdeal.Value
public import proofs.«01_k».proof.Proof.Gen.ZeroReferenceIdeal
public import proofs.«01_k».proof.Proof.Gen.ZeroReferenceIdeal.Run
public import proofs.«01_k».proof.Proof.In.Result
public import proofs.«01_k».proof.Proof.Gen.InKernel
public import proofs.«01_k».proof.Proof.Gen.InKernel.Frame
public import proofs.«01_k».proof.Proof.Gen.InKernelIdeal
public import proofs.«01_k».proof.Proof.Gen.InKernelIdeal.Value
public import proofs.«01_k».proof.Proof.Gen.InReferenceIdeal
public import proofs.«01_k».proof.Proof.Gen.InReferenceIdeal.Run
public import proofs.«01_k».proof.Proof.Out.Result
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Value
public import proofs.«01_k».proof.Proof.Gen.OutReferenceIdeal
public import proofs.«01_k».proof.Proof.Gen.OutReferenceIdeal.Run
public import proofs.«01_k».proof.Proof.SBK.Frame
public import proofs.«01_k».proof.Proof.SB.Frame
public import proofs.«01_k».proof.Proof.SB.Result

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.OutKernel.Gen.facts, Cert.OutKernelIdeal.Gen.facts, Cert.OutReferenceIdeal.Gen.facts,
    Cert.InKernel.Gen.facts, Cert.InKernelIdeal.Gen.facts, Cert.InReferenceIdeal.Gen.facts,
    Cert.ZeroKernel.Gen.facts, Cert.ZeroKernelIdeal.Gen.facts, Cert.ZeroReferenceIdeal.Gen.facts, preFacts,
    fun m g _ => SBK.frame m g, fun m g _ => SB.frame m g, fun m g _ => SB.frame m g,
    refFrame, fun m g _ => refFrame m g trivial,
    fun m g _ => Cert.OutKernel.Gen.frame m g, fun m g _ => Cert.OutKernelIdeal.Gen.frame m g, outRefFrame,
    fun m g _ => Cert.InKernel.Gen.frame m g, fun m g _ => Cert.InKernelIdeal.Gen.frame m g, inRefFrame,
    fun m g _ => Cert.ZeroKernel.Gen.frame m g, fun m g _ => Cert.ZeroKernelIdeal.Gen.frame m g, zeroRefFrame,
    IdealRules.named_const.statement _ _ _ _ _ rfl, algebraic (hP := preFacts), trivial, outAlgebraic, trivial, inAlgebraic, trivial, zeroAlgebraic⟩

end Cert.Proof
